-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
-- ==== Pre_finite.lean ====
abbrev S2x4096x2048 : Shape := ⟨3, ![2, 4096, 2048]⟩
abbrev S16 : Shape := ⟨1, ![16]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S2x4096x2048 .f32) (main_arg1 : FVec F S2x4096x2048 .f32) (main_arg2 : FVec F S2x4096x2048 .f32) (main_arg3 : FVec F S16 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x4096x2048 .f32 := Host.absf main_arg1
  let main_cst_0 : FVec F S_ .f32 := constant S_ .f32 0x7F800000#32
  let main_v5 : FVec F S2x4096x2048 .f32 := broadcastInDim S2x4096x2048 ![] bcast_S_S2x4096x2048 main_cst_0
  let main_v6 : IVec S2x4096x2048 1 := cmpf .olt main_v4 main_v5
  let main_c_1 : IVec S_ 1 := constantI S_ 1 1#1
  let main_v7 : IVec S_ 1 := (fun x v => Host.reduce IntOp.andi x v reducesTo_S2x4096x2048_S_d0_1_2 h_S_) main_v6 main_c_1
  let main_v8 : IVec S_ 1 := andi main_v3 main_v7
  let main_v9 : FVec F S2x4096x2048 .f32 := Host.absf main_arg2
  let main_cst_2 : FVec F S_ .f32 := constant S_ .f32 0x7F800000#32
  let main_v10 : FVec F S2x4096x2048 .f32 := broadcastInDim S2x4096x2048 ![] bcast_S_S2x4096x2048 main_cst_2
  let main_v11 : IVec S2x4096x2048 1 := cmpf .olt main_v9 main_v10
  let main_c_3 : IVec S_ 1 := constantI S_ 1 1#1
  let main_v12 : IVec S_ 1 := (fun x v => Host.reduce IntOp.andi x v reducesTo_S2x4096x2048_S_d0_1_2 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S2x4096x2048 : Shape := ⟨3, ![2, 4096, 2048]⟩
abbrev S16 : Shape := ⟨1, ![16]⟩
abbrev S1x4096x256 : Shape := ⟨3, ![1, 4096, 256]⟩
abbrev S2x4096x256 : Shape := ⟨3, ![2, 4096, 256]⟩
abbrev S2x16x144x256 : Shape := ⟨4, ![2, 16, 144, 256]⟩
abbrev S2x16x128 : Shape := ⟨3, ![2, 16, 128]⟩
abbrev S2x768x256 : Shape := ⟨3, ![2, 768, 256]⟩
abbrev S1 : Shape := ⟨1, ![1]⟩
abbrev S256x128 : Shape := ⟨2, ![256, 128]⟩
abbrev S16x256 : Shape := ⟨2, ![16, 256]⟩
abbrev S256x256 : Shape := ⟨2, ![256, 256]⟩
abbrev S1x256x128 : Shape := ⟨3, ![1, 256, 128]⟩
abbrev S128 : Shape := ⟨1, ![128]⟩
abbrev S1x128 : Shape := ⟨2, ![1, 128]⟩
abbrev S1x1x128 : Shape := ⟨3, ![1, 1, 128]⟩
abbrev S128x256 : Shape := ⟨2, ![128, 256]⟩
abbrev S1x1x128x256 : Shape := ⟨4, ![1, 1, 128, 256]⟩
abbrev S1x1x16x256 : Shape := ⟨4, ![1, 1, 16, 256]⟩
abbrev S1x256x256 : Shape := ⟨3, ![1, 256, 256]⟩
abbrev S1x16x128 : Shape := ⟨3, ![1, 16, 128]⟩
abbrev S16x128 : Shape := ⟨2, ![16, 128]⟩
abbrev S1x256 : Shape := ⟨2, ![1, 256]⟩
abbrev S112x256 : Shape := ⟨2, ![112, 256]⟩
abbrev S256 : Shape := ⟨1, ![256]⟩
abbrev S1x1x144x256 : Shape := ⟨4, ![1, 1, 144, 256]⟩
abbrev S144x256 : Shape := ⟨2, ![144, 256]⟩
abbrev S1x512x256 : Shape := ⟨3, ![1, 512, 256]⟩
abbrev S512x256 : Shape := ⟨2, ![512, 256]⟩
abbrev S144x512 : Shape := ⟨2, ![144, 512]⟩

abbrev nBuf : Space → Nat
  | .hbm => 5
  | .vmem => 12
  | .smem => 1
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x4096x2048, .f32⟩
  | .hbm, ⟨3, _⟩ => ⟨S16, .f32⟩
  | .hbm, ⟨4, _⟩ => ⟨S2x4096x2048, .bf16⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .bf16⟩
  | .local _ .vmem, ⟨7, _⟩ => ⟨S1x4096x256, .bf16⟩
  | .local _ .vmem, ⟨8, _⟩ => ⟨S2x4096x256, .bf16⟩
  | .local _ .vmem, ⟨9, _⟩ => ⟨S2x16x144x256, .bf16⟩
  | .local _ .vmem, ⟨10, _⟩ => ⟨S2x16x128, .f32⟩
  | .local _ .vmem, ⟨11, _⟩ => ⟨S2x768x256, .f32⟩
  | .local _ .smem, ⟨0, _⟩ => ⟨S16, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  ![v2.toNat]
@[reducible] def k0_t1_loop : Scf.Loop 32 :=
  let c0_i32_894 : BitVec 32 := 0#32
  let c16_i32 : BitVec 32 := 16#32
  let v1109 : BitVec 32 := Scalar.addi c0_i32_894 c16_i32
  let c1_i32_895 : BitVec 32 := 1#32
  ⟨c0_i32_894, v1109, c1_i32_895⟩
def k0_mult1 (k0_t1 : Fin k0_t1_loop.trips) : BitVec 32 :=
  let c0_i32_894 : BitVec 32 := 0#32
  let c1_i32_895 : BitVec 32 := 1#32
  let arg11 : BitVec 32 := Scf.iv c0_i32_894 c1_i32_895 k0_t1
  let c256_i32 : BitVec 32 := 256#32
  let v1110 : BitVec 32 := Scalar.muli arg11 c256_i32
  v1110
def k0_off2 (k0_t1 : Fin k0_t1_loop.trips) : Fin 3 → Nat :=
  let c0_897 : Index := 0#32
  let c0_i32_894 : BitVec 32 := 0#32
  let c1_i32_895 : BitVec 32 := 1#32
  let arg11 : BitVec 32 := Scf.iv c0_i32_894 c1_i32_895 k0_t1
  let c256_i32 : BitVec 32 := 256#32
  let v1110 : BitVec 32 := Scalar.muli arg11 c256_i32
  let v1111 : BitVec 32 := v1110
  let v1112 : Index := Scalar.indexCast v1111
  let c0_898 : Index := 0#32
  ![0, v1112.toNat, 0]
def k0_off3 (k0_t1 : Fin k0_t1_loop.trips) : Fin 3 → Nat :=
  let c0_957 : Index := 0#32
  let c0_i32_894 : BitVec 32 := 0#32
  let c1_i32_895 : BitVec 32 := 1#32
  let arg11 : BitVec 32 := Scf.iv c0_i32_894 c1_i32_895 k0_t1
  let c256_i32 : BitVec 32 := 256#32
  let v1110 : BitVec 32 := Scalar.muli arg11 c256_i32
  let v1111 : BitVec 32 := v1110
  let v1354 : Index := Scalar.indexCast v1111
  let c0_958 : Index := 0#32
  ![0, v1354.toNat, 0]
def k0_off4 (k0_t1 : Fin k0_t1_loop.trips) : Fin 4 → Nat :=
  let c0_964 : Index := 0#32
  let c0_i32_894 : BitVec 32 := 0#32
  let c1_i32_895 : BitVec 32 := 1#32
  let arg11 : BitVec 32 := Scf.iv c0_i32_894 c1_i32_895 k0_t1
  let v1366 : Index := Scalar.indexCast arg11
  let c0_965 : Index := 0#32
  let c0_966 : Index := 0#32
  ![0, v1366.toNat, 0, 0]
def k0_off5 (k0_t1 : Fin k0_t1_loop.trips) : Fin 3 → Nat :=
  let c0_968 : Index := 0#32
  let c0_i32_894 : BitVec 32 := 0#32
  let c1_i32_895 : BitVec 32 := 1#32
  let arg11 : BitVec 32 := Scf.iv c0_i32_894 c1_i32_895 k0_t1
  let c256_i32 : BitVec 32 := 256#32
  let v1110 : BitVec 32 := Scalar.muli arg11 c256_i32
  let v1111 : BitVec 32 := v1110
  let v1371 : Index := Scalar.indexCast v1111
  let c128_969 : Index := 128#32
  ![0, v1371.toNat, 128]
def k0_off6 (k0_t1 : Fin k0_t1_loop.trips) : Fin 3 → Nat :=
  let c1_1028 : Index := 1#32
  let c0_i32_894 : BitVec 32 := 0#32
  let c1_i32_895 : BitVec 32 := 1#32
  let arg11 : BitVec 32 := Scf.iv c0_i32_894 c1_i32_895 k0_t1
  let c256_i32 : BitVec 32 := 256#32
  let v1110 : BitVec 32 := Scalar.muli arg11 c256_i32
  let v1111 : BitVec 32 := v1110
  let v1613 : Index := Scalar.indexCast v1111
  let c0_1029 : Index := 0#32
  ![1, v1613.toNat, 0]
def k0_off7 (k0_t1 : Fin k0_t1_loop.trips) : Fin 4 → Nat :=
  let c1_1035 : Index := 1#32
  let c0_i32_894 : BitVec 32 := 0#32
  let c1_i32_895 : BitVec 32 := 1#32
  let arg11 : BitVec 32 := Scf.iv c0_i32_894 c1_i32_895 k0_t1
  let v1625 : Index := Scalar.indexCast arg11
  let c0_1036 : Index := 0#32
  let c0_1037 : Index := 0#32
  ![1, v1625.toNat, 0, 0]
@[reducible] def k0_t2_loop (k0_t1 : Fin k0_t1_loop.trips) : Scf.Loop 32 :=
  let c0_i32_1054 : BitVec 32 := 0#32
  let c0_i32_894 : BitVec 32 := 0#32
  let c1_i32_895 : BitVec 32 := 1#32
  let arg11 : BitVec 32 := Scf.iv c0_i32_894 c1_i32_895 k0_t1
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let c1_i32_1056 : BitVec 32 := 1#32
  ⟨c0_i32_1054, v1665, c1_i32_1056⟩
def k0_mult2 (k0_t1 : Fin k0_t1_loop.trips) (k0_t2 : Fin (k0_t2_loop k0_t1).trips) : BitVec 32 :=
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c1_i32_1056 : BitVec 32 := 1#32
  let arg12 : BitVec 32 := Scf.iv c0_i32_1054 c1_i32_1056 k0_t2
  let v1688 : BitVec 32 := Scalar.muli c2_i32_1062 arg12
  let v1689 : BitVec 32 := Scalar.addi v1639 v1688
  let c256_i32_1063 : BitVec 32 := 256#32
  let v1690 : BitVec 32 := Scalar.muli v1689 c256_i32_1063
  v1690
def k0_off8 (k0_t1 : Fin k0_t1_loop.trips) (k0_t2 : Fin (k0_t2_loop k0_t1).trips) : Fin 3 → Nat :=
  let c0_1067 : Index := 0#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c1_i32_1056 : BitVec 32 := 1#32
  let arg12 : BitVec 32 := Scf.iv c0_i32_1054 c1_i32_1056 k0_t2
  let v1688 : BitVec 32 := Scalar.muli c2_i32_1062 arg12
  let v1689 : BitVec 32 := Scalar.addi v1639 v1688
  let c256_i32_1063 : BitVec 32 := 256#32
  let v1690 : BitVec 32 := Scalar.muli v1689 c256_i32_1063
  let v1691 : BitVec 32 := v1690
  let v1698 : Index := Scalar.indexCast v1691
  let c0_1068 : Index := 0#32
  ![0, v1698.toNat, 0]
def k0_off9 (k0_t1 : Fin k0_t1_loop.trips) (k0_t2 : Fin (k0_t2_loop k0_t1).trips) : Fin 4 → Nat :=
  let c0_1073 : Index := 0#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c1_i32_1056 : BitVec 32 := 1#32
  let arg12 : BitVec 32 := Scf.iv c0_i32_1054 c1_i32_1056 k0_t2
  let v1688 : BitVec 32 := Scalar.muli c2_i32_1062 arg12
  let v1689 : BitVec 32 := Scalar.addi v1639 v1688
  let v1705 : Index := Scalar.indexCast v1689
  let c0_1074 : Index := 0#32
  let c0_1075 : Index := 0#32
  ![0, v1705.toNat, 0, 0]
def k0_off10 (k0_t1 : Fin k0_t1_loop.trips) (k0_t2 : Fin (k0_t2_loop k0_t1).trips) : Fin 4 → Nat :=
  let c0_1077 : Index := 0#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c1_i32_1056 : BitVec 32 := 1#32
  let arg12 : BitVec 32 := Scf.iv c0_i32_1054 c1_i32_1056 k0_t2
  let v1688 : BitVec 32 := Scalar.muli c2_i32_1062 arg12
  let v1689 : BitVec 32 := Scalar.addi v1639 v1688
  let c1_i32_1076 : BitVec 32 := 1#32
  let v1708 : BitVec 32 := Scalar.addi v1689 c1_i32_1076
  let v1709 : Index := Scalar.indexCast v1708
  let c0_1078 : Index := 0#32
  let c0_1079 : Index := 0#32
  ![0, v1709.toNat, 0, 0]
def k0_off11 (k0_t1 : Fin k0_t1_loop.trips) (k0_t2 : Fin (k0_t2_loop k0_t1).trips) : Fin 3 → Nat :=
  let c1_1085 : Index := 1#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c1_i32_1056 : BitVec 32 := 1#32
  let arg12 : BitVec 32 := Scf.iv c0_i32_1054 c1_i32_1056 k0_t2
  let v1688 : BitVec 32 := Scalar.muli c2_i32_1062 arg12
  let v1689 : BitVec 32 := Scalar.addi v1639 v1688
  let c256_i32_1063 : BitVec 32 := 256#32
  let v1690 : BitVec 32 := Scalar.muli v1689 c256_i32_1063
  let v1691 : BitVec 32 := v1690
  let v1736 : Index := Scalar.indexCast v1691
  let c0_1086 : Index := 0#32
  ![1, v1736.toNat, 0]
def k0_off12 (k0_t1 : Fin k0_t1_loop.trips) (k0_t2 : Fin (k0_t2_loop k0_t1).trips) : Fin 4 → Nat :=
  let c1_1091 : Index := 1#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c1_i32_1056 : BitVec 32 := 1#32
  let arg12 : BitVec 32 := Scf.iv c0_i32_1054 c1_i32_1056 k0_t2
  let v1688 : BitVec 32 := Scalar.muli c2_i32_1062 arg12
  let v1689 : BitVec 32 := Scalar.addi v1639 v1688
  let v1743 : Index := Scalar.indexCast v1689
  let c0_1092 : Index := 0#32
  let c0_1093 : Index := 0#32
  ![1, v1743.toNat, 0, 0]
def k0_off13 (k0_t1 : Fin k0_t1_loop.trips) (k0_t2 : Fin (k0_t2_loop k0_t1).trips) : Fin 4 → Nat :=
  let c1_1095 : Index := 1#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c1_i32_1056 : BitVec 32 := 1#32
  let arg12 : BitVec 32 := Scf.iv c0_i32_1054 c1_i32_1056 k0_t2
  let v1688 : BitVec 32 := Scalar.muli c2_i32_1062 arg12
  let v1689 : BitVec 32 := Scalar.addi v1639 v1688
  let c1_i32_1094 : BitVec 32 := 1#32
  let v1746 : BitVec 32 := Scalar.addi v1689 c1_i32_1094
  let v1747 : Index := Scalar.indexCast v1746
  let c0_1096 : Index := 0#32
  let c0_1097 : Index := 0#32
  ![1, v1747.toNat, 0, 0]
@[reducible] def k0_t3_loop (k0_t1 : Fin k0_t1_loop.trips) : Scf.Loop 32 :=
  let c0_i32_1054 : BitVec 32 := 0#32
  let c0_i32_894 : BitVec 32 := 0#32
  let c1_i32_895 : BitVec 32 := 1#32
  let arg11 : BitVec 32 := Scf.iv c0_i32_894 c1_i32_895 k0_t1
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let v1662 : BitVec 32 := Scalar.addi c0_i32_1054 v1661
  let c1_i32_1057 : BitVec 32 := 1#32
  ⟨v1665, v1662, c1_i32_1057⟩
def k0_mult3 (k0_t1 : Fin k0_t1_loop.trips) (k0_t3 : Fin (k0_t3_loop k0_t1).trips) : BitVec 32 :=
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let c1_i32_1057 : BitVec 32 := 1#32
  let arg12 : BitVec 32 := Scf.iv v1665 c1_i32_1057 k0_t3
  let v1688 : BitVec 32 := Scalar.muli c2_i32_1062 arg12
  let v1689 : BitVec 32 := Scalar.addi v1639 v1688
  let c256_i32_1063 : BitVec 32 := 256#32
  let v1690 : BitVec 32 := Scalar.muli v1689 c256_i32_1063
  v1690
def k0_off14 (k0_t1 : Fin k0_t1_loop.trips) (k0_t3 : Fin (k0_t3_loop k0_t1).trips) : Fin 3 → Nat :=
  let c0_1067 : Index := 0#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let c1_i32_1057 : BitVec 32 := 1#32
  let arg12 : BitVec 32 := Scf.iv v1665 c1_i32_1057 k0_t3
  let v1688 : BitVec 32 := Scalar.muli c2_i32_1062 arg12
  let v1689 : BitVec 32 := Scalar.addi v1639 v1688
  let c256_i32_1063 : BitVec 32 := 256#32
  let v1690 : BitVec 32 := Scalar.muli v1689 c256_i32_1063
  let v1691 : BitVec 32 := v1690
  let v1698 : Index := Scalar.indexCast v1691
  let c0_1068 : Index := 0#32
  ![0, v1698.toNat, 0]
def k0_off15 (k0_t1 : Fin k0_t1_loop.trips) (k0_t3 : Fin (k0_t3_loop k0_t1).trips) : Fin 4 → Nat :=
  let c0_1073 : Index := 0#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let c1_i32_1057 : BitVec 32 := 1#32
  let arg12 : BitVec 32 := Scf.iv v1665 c1_i32_1057 k0_t3
  let v1688 : BitVec 32 := Scalar.muli c2_i32_1062 arg12
  let v1689 : BitVec 32 := Scalar.addi v1639 v1688
  let v1705 : Index := Scalar.indexCast v1689
  let c0_1074 : Index := 0#32
  let c0_1075 : Index := 0#32
  ![0, v1705.toNat, 0, 0]
def k0_off16 (k0_t1 : Fin k0_t1_loop.trips) (k0_t3 : Fin (k0_t3_loop k0_t1).trips) : Fin 4 → Nat :=
  let c0_1077 : Index := 0#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let c1_i32_1057 : BitVec 32 := 1#32
  let arg12 : BitVec 32 := Scf.iv v1665 c1_i32_1057 k0_t3
  let v1688 : BitVec 32 := Scalar.muli c2_i32_1062 arg12
  let v1689 : BitVec 32 := Scalar.addi v1639 v1688
  let c1_i32_1076 : BitVec 32 := 1#32
  let v1708 : BitVec 32 := Scalar.addi v1689 c1_i32_1076
  let v1709 : Index := Scalar.indexCast v1708
  let c0_1078 : Index := 0#32
  let c0_1079 : Index := 0#32
  ![0, v1709.toNat, 0, 0]
def k0_off17 (k0_t1 : Fin k0_t1_loop.trips) (k0_t3 : Fin (k0_t3_loop k0_t1).trips) : Fin 3 → Nat :=
  let c1_1085 : Index := 1#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let c1_i32_1057 : BitVec 32 := 1#32
  let arg12 : BitVec 32 := Scf.iv v1665 c1_i32_1057 k0_t3
  let v1688 : BitVec 32 := Scalar.muli c2_i32_1062 arg12
  let v1689 : BitVec 32 := Scalar.addi v1639 v1688
  let c256_i32_1063 : BitVec 32 := 256#32
  let v1690 : BitVec 32 := Scalar.muli v1689 c256_i32_1063
  let v1691 : BitVec 32 := v1690
  let v1736 : Index := Scalar.indexCast v1691
  let c0_1086 : Index := 0#32
  ![1, v1736.toNat, 0]
def k0_off18 (k0_t1 : Fin k0_t1_loop.trips) (k0_t3 : Fin (k0_t3_loop k0_t1).trips) : Fin 4 → Nat :=
  let c1_1091 : Index := 1#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let c1_i32_1057 : BitVec 32 := 1#32
  let arg12 : BitVec 32 := Scf.iv v1665 c1_i32_1057 k0_t3
  let v1688 : BitVec 32 := Scalar.muli c2_i32_1062 arg12
  let v1689 : BitVec 32 := Scalar.addi v1639 v1688
  let v1743 : Index := Scalar.indexCast v1689
  let c0_1092 : Index := 0#32
  let c0_1093 : Index := 0#32
  ![1, v1743.toNat, 0, 0]
def k0_off19 (k0_t1 : Fin k0_t1_loop.trips) (k0_t3 : Fin (k0_t3_loop k0_t1).trips) : Fin 4 → Nat :=
  let c1_1095 : Index := 1#32
  let c0_i32_894 : BitVec 32 := 0#32
  let c1_i32_895 : BitVec 32 := 1#32
  let arg11 : BitVec 32 := Scf.iv c0_i32_894 c1_i32_895 k0_t1
  let c2_i32_1039 : BitVec 32 := 2#32
  let c0_i32_1040 : BitVec 32 := 0#32
  let v1630 : BitVec 1 := Scalar.cmpi .eq c2_i32_1039 c0_i32_1040
  let c1_i32_1041 : BitVec 32 := 1#32
  let v1631 : BitVec 32 := Scalar.select v1630 c1_i32_1041 c2_i32_1039
  let v1632 : BitVec 32 := Scalar.remsi arg11 v1631
  let c0_i32_1043 : BitVec 32 := 0#32
  let v1634 : BitVec 1 := Scalar.cmpi .slt v1632 c0_i32_1043
  let c0_i32_1044 : BitVec 32 := 0#32
  let v1635 : BitVec 1 := Scalar.cmpi .slt v1631 c0_i32_1044
  let v1636 : BitVec 1 := Scalar.xori v1634 v1635
  let c0_i32_1042 : BitVec 32 := 0#32
  let v1633 : BitVec 1 := Scalar.cmpi .ne v1632 c0_i32_1042
  let v1637 : BitVec 1 := Scalar.andi v1636 v1633
  let v1638 : BitVec 32 := Scalar.addi v1632 v1631
  let v1639 : BitVec 32 := Scalar.select v1637 v1638 v1632
  let c2_i32_1062 : BitVec 32 := 2#32
  let c0_i32_1054 : BitVec 32 := 0#32
  let c0_i32_1048 : BitVec 32 := 0#32
  let v1645 : BitVec 1 := Scalar.cmpi .sgt arg11 c0_i32_1048
  let v1646 : BitVec 32 := Scalar.extui v1645
  let c0_i32_1049 : BitVec 32 := 0#32
  let v1647 : BitVec 1 := Scalar.cmpi .slt arg11 c0_i32_1049
  let v1648 : BitVec 32 := Scalar.extui v1647
  let v1649 : BitVec 32 := Scalar.subi v1646 v1648
  let c2_i32_1047 : BitVec 32 := 2#32
  let c0_i32_1050 : BitVec 32 := 0#32
  let v1650 : BitVec 1 := Scalar.cmpi .sgt c2_i32_1047 c0_i32_1050
  let v1651 : BitVec 32 := Scalar.extui v1650
  let c0_i32_1051 : BitVec 32 := 0#32
  let v1652 : BitVec 1 := Scalar.cmpi .slt c2_i32_1047 c0_i32_1051
  let v1653 : BitVec 32 := Scalar.extui v1652
  let v1654 : BitVec 32 := Scalar.subi v1651 v1653
  let v1655 : BitVec 1 := Scalar.cmpi .ne v1649 v1654
  let v1656 : BitVec 32 := Scalar.remsi arg11 c2_i32_1047
  let c0_i32_1052 : BitVec 32 := 0#32
  let v1657 : BitVec 1 := Scalar.cmpi .ne v1656 c0_i32_1052
  let v1658 : BitVec 1 := Scalar.andi v1655 v1657
  let v1644 : BitVec 32 := Scalar.divsi arg11 c2_i32_1047
  let c1_i32_1053 : BitVec 32 := 1#32
  let v1659 : BitVec 32 := Scalar.subi v1644 c1_i32_1053
  let v1660 : BitVec 32 := Scalar.select v1658 v1659 v1644
  let v1661 : BitVec 32 := Scalar.subi v1660 c0_i32_1054
  let c1_i32_1055 : BitVec 32 := 1#32
  let v1663 : BitVec 32 := Scalar.divsi v1661 c1_i32_1055
  let v1664 : BitVec 32 := Scalar.muli v1663 c1_i32_1055
  let v1665 : BitVec 32 := Scalar.addi c0_i32_1054 v1664
  let c1_i32_1057 : BitVec 32 := 1#32
  let arg12 : BitVec 32 := Scf.iv v1665 c1_i32_1057 k0_t3
  let v1688 : BitVec 32 := Scalar.muli c2_i32_1062 arg12
  let v1689 : BitVec 32 := Scalar.addi v1639 v1688
  let c1_i32_1094 : BitVec 32 := 1#32
  let v1746 : BitVec 32 := Scalar.addi v1689 c1_i32_1094
  let v1747 : Index := Scalar.indexCast v1746
  let c0_1096 : Index := 0#32
  let c0_1097 : Index := 0#32
  ![1, v1747.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x4096x2048 : Shape := ⟨3, ![2, 4096, 2048]⟩
abbrev S16 : Shape := ⟨1, ![16]⟩
abbrev S2x16x256x16x128 : Shape := ⟨5, ![2, 16, 256, 16, 128]⟩
abbrev S2x16x16x256x128 : Shape := ⟨5, ![2, 16, 16, 256, 128]⟩
abbrev S256 : Shape := ⟨1, ![256]⟩
abbrev S16x1 : Shape := ⟨2, ![16, 1]⟩
abbrev S_ : Shape := ⟨0, ![]⟩
abbrev S1x256 : Shape := ⟨2, ![1, 256]⟩
abbrev S16x256 : Shape := ⟨2, ![16, 256]⟩
abbrev S2x16x16x128 : Shape := ⟨4, ![2, 16, 16, 128]⟩
abbrev S2x16x16x256x16 : Shape := ⟨5, ![2, 16, 16, 256, 16]⟩
abbrev S16x1x1 : Shape := ⟨3, ![16, 1, 1]⟩
abbrev S1x1x16 : Shape := ⟨3, ![1, 1, 16]⟩
abbrev S16x1x16 : Shape := ⟨3, ![16, 1, 16]⟩
abbrev S2x16x16x256x3 : Shape := ⟨5, ![2, 16, 16, 256, 3]⟩
abbrev S3 : Shape := ⟨1, ![3]⟩
abbrev S1x3 : Shape := ⟨2, ![1, 3]⟩
abbrev S16x3 : Shape := ⟨2, ![16, 3]⟩
abbrev S2 : Shape := ⟨1, ![2]⟩
abbrev S2x1x1x1x1 : Shape := ⟨5, ![2, 1, 1, 1, 1]⟩
abbrev S1x16x1x1x1 : Shape := ⟨5, ![1, 16, 1, 1, 1]⟩
abbrev S2x16x16x256x3x1 : Shape := ⟨6, ![2, 16, 16, 256, 3, 1]⟩
abbrev S2x16x16x256x3x3 : Shape := ⟨6, ![2, 16, 16, 256, 3, 3]⟩
abbrev S2x16x16x256x3x256x128 : Shape := ⟨7, ![2, 16, 16, 256, 3, 256, 128]⟩
abbrev S1x1x1x1x1x256 : Shape := ⟨6, ![1, 1, 1, 1, 1, 256]⟩
abbrev S2x16x16x256x3x256 : Shape := ⟨6, ![2, 16, 16, 256, 3, 256]⟩
abbrev S16x1x1x1x1 : Shape := ⟨5, ![16, 1, 1, 1, 1]⟩
abbrev S16x256x1x1 : Shape := ⟨4, ![16, 256, 1, 1]⟩
abbrev S1x1x16x256x1x1 : Shape := ⟨6, ![1, 1, 16, 256, 1, 1]⟩
abbrev S1x16x1x1x1x1 : Shape := ⟨6, ![1, 16, 1, 1, 1, 1]⟩
abbrev S16x1x3x1 : Shape := ⟨4, ![16, 1, 3, 1]⟩
abbrev S256x1 : Shape := ⟨2, ![256, 1]⟩
abbrev S256x256 : Shape := ⟨2, ![256, 256]⟩
abbrev S2x16x16x256x256 : Shape := ⟨5, ![2, 16, 16, 256, 256]⟩
abbrev S16x1x1x1 : Shape := ⟨4, ![16, 1, 1, 1]⟩
abbrev S1x1x256x256 : Shape := ⟨4, ![1, 1, 256, 256]⟩
abbrev S16x1x256x256 : Shape := ⟨4, ![16, 1, 256, 256]⟩
abbrev S1x16x1x256x256 : Shape := ⟨5, ![1, 16, 1, 256, 256]⟩
abbrev S2x16x16x256x768 : Shape := ⟨5, ![2, 16, 16, 256, 768]⟩
abbrev S2x16x16x256x1024 : Shape := ⟨5, ![2, 16, 16, 256, 1024]⟩
abbrev S2x16x16x256 : Shape := ⟨4, ![2, 16, 16, 256]⟩
abbrev S2x16x16x256x1 : Shape := ⟨5, ![2, 16, 16, 256, 1]⟩
abbrev S2x16x16x256x768x128 : Shape := ⟨6, ![2, 16, 16, 256, 768, 128]⟩

abbrev nBuf : Space → Nat
  | .hbm => 183
  | .vmem => 0
  | .smem => 0
  | _ => 0

abbrev hbmTy0_0 (i : Nat) : BufTy := match i % 128 with
  | 0 => ⟨S2x4096x2048, .f32⟩
  | 1 => ⟨S2x4096x2048, .f32⟩
  | 2 => ⟨S2x4096x2048, .f32⟩
  | 3 => ⟨S16, .f32⟩
  | 4 => ⟨S2x16x256x16x128, .f32⟩
  | 5 => ⟨S2x16x16x256x128, .f32⟩
  | 6 => ⟨S2x16x256x16x128, .f32⟩
  | 7 => ⟨S2x16x16x256x128, .f32⟩
  | 8 => ⟨S2x16x256x16x128, .f32⟩
  | 9 => ⟨S2x16x16x256x128, .f32⟩
  | 10 => ⟨S256, .i32⟩
  | 11 => ⟨S16, .i32⟩
  | 12 => ⟨S16x1, .i32⟩
  | 13 => ⟨S_, .i32⟩
  | 14 => ⟨S16x1, .i32⟩
  | 15 => ⟨S16x1, .i32⟩
  | 16 => ⟨S1x256, .i32⟩
  | 17 => ⟨S16x256, .i32⟩
  | 18 => ⟨S16x256, .i32⟩
  | 19 => ⟨S16x256, .i32⟩
  | 20 => ⟨S_, .f32⟩
  | 21 => ⟨S2x16x16x128, .f32⟩
  | 22 => ⟨S_, .f32⟩
  | 23 => ⟨S2x16x16x128, .f32⟩
  | 24 => ⟨S2x16x16x128, .f32⟩
  | 25 => ⟨S2x16x16x256x16, .f32⟩
  | 26 => ⟨S16x1x1, .i32⟩
  | 27 => ⟨S1x1x16, .i32⟩
  | 28 => ⟨S16x1x16, .i32⟩
  | 29 => ⟨S16x1x16, .i32⟩
  | 30 => ⟨S16x1x16, .i1⟩
  | 31 => ⟨S_, .f32⟩
  | 32 => ⟨S_, .f32⟩
  | 33 => ⟨S2x16x16x256x16, .i1⟩
  | 34 => ⟨S2x16x16x256x16, .f32⟩
  | 35 => ⟨S2x16x16x256x16, .f32⟩
  | 36 => ⟨S2x16x16x256x3, .f32⟩
  | 37 => ⟨S2x16x16x256x3, .i32⟩
  | 38 => ⟨S3, .i32⟩
  | 39 => ⟨S_, .i32⟩
  | 40 => ⟨S16, .i32⟩
  | 41 => ⟨S16, .i32⟩
  | 42 => ⟨S16x1, .i32⟩
  | 43 => ⟨S1x3, .i32⟩
  | 44 => ⟨S16x3, .i32⟩
  | 45 => ⟨S16x3, .i32⟩
  | 46 => ⟨S16x3, .i1⟩
  | 47 => ⟨S2, .i32⟩
  | 48 => ⟨S2x1x1x1x1, .i32⟩
  | 49 => ⟨S16, .i32⟩
  | 50 => ⟨S1x16x1x1x1, .i32⟩
  | 51 => ⟨S_, .i32⟩
  | 52 => ⟨S2x1x1x1x1, .i32⟩
  | 53 => ⟨S2x1x1x1x1, .i1⟩
  | 54 => ⟨S_, .i32⟩
  | 55 => ⟨S2x1x1x1x1, .i32⟩
  | 56 => ⟨S2x1x1x1x1, .i32⟩
  | 57 => ⟨S2x1x1x1x1, .i32⟩
  | 58 => ⟨S_, .i32⟩
  | 59 => ⟨S1x16x1x1x1, .i32⟩
  | 60 => ⟨S1x16x1x1x1, .i1⟩
  | 61 => ⟨S_, .i32⟩
  | 62 => ⟨S1x16x1x1x1, .i32⟩
  | 63 => ⟨S1x16x1x1x1, .i32⟩
  | 64 => ⟨S1x16x1x1x1, .i32⟩
  | 65 => ⟨S_, .i32⟩
  | 66 => ⟨S2x16x16x256x3, .i32⟩
  | 67 => ⟨S2x16x16x256x3, .i1⟩
  | 68 => ⟨S_, .i32⟩
  | 69 => ⟨S2x16x16x256x3, .i32⟩
  | 70 => ⟨S2x16x16x256x3, .i32⟩
  | 71 => ⟨S2x16x16x256x3, .i32⟩
  | 72 => ⟨S2x16x16x256x3, .i32⟩
  | 73 => ⟨S2x16x16x256x3, .i32⟩
  | 74 => ⟨S2x16x16x256x3x1, .i32⟩
  | 75 => ⟨S2x16x16x256x3x1, .i32⟩
  | 76 => ⟨S2x16x16x256x3x1, .i32⟩
  | 77 => ⟨S2x16x16x256x3x3, .i32⟩
  | 78 => ⟨S2x16x16x256x3x256x128, .f32⟩
  | 79 => ⟨S_, .i32⟩
  | 80 => ⟨S2x1x1x1x1, .i32⟩
  | 81 => ⟨S2x1x1x1x1, .i1⟩
  | 82 => ⟨S_, .i32⟩
  | 83 => ⟨S2x1x1x1x1, .i32⟩
  | 84 => ⟨S2x1x1x1x1, .i32⟩
  | 85 => ⟨S2x1x1x1x1, .i32⟩
  | 86 => ⟨S_, .i32⟩
  | 87 => ⟨S1x16x1x1x1, .i32⟩
  | 88 => ⟨S1x16x1x1x1, .i1⟩
  | 89 => ⟨S_, .i32⟩
  | 90 => ⟨S1x16x1x1x1, .i32⟩
  | 91 => ⟨S1x16x1x1x1, .i32⟩
  | 92 => ⟨S1x16x1x1x1, .i32⟩
  | 93 => ⟨S_, .i32⟩
  | 94 => ⟨S2x16x16x256x3, .i32⟩
  | 95 => ⟨S2x16x16x256x3, .i1⟩
  | 96 => ⟨S_, .i32⟩
  | 97 => ⟨S2x16x16x256x3, .i32⟩
  | 98 => ⟨S2x16x16x256x3, .i32⟩
  | 99 => ⟨S2x16x16x256x3, .i32⟩
  | 100 => ⟨S2x16x16x256x3, .i32⟩
  | 101 => ⟨S2x16x16x256x3, .i32⟩
  | 102 => ⟨S2x16x16x256x3x1, .i32⟩
  | 103 => ⟨S2x16x16x256x3x1, .i32⟩
  | 104 => ⟨S2x16x16x256x3x1, .i32⟩
  | 105 => ⟨S2x16x16x256x3x3, .i32⟩
  | 106 => ⟨S2x16x16x256x3x256x128, .f32⟩
  | 107 => ⟨S2x16x16x256x3x1, .i32⟩
  | 108 => ⟨S_, .i32⟩
  | 109 => ⟨S2x16x16x256x3x1, .i32⟩
  | 110 => ⟨S2x16x16x256x3x1, .i32⟩
  | 111 => ⟨S1x1x1x1x1x256, .i32⟩
  | 112 => ⟨S2x16x16x256x3x256, .i32⟩
  | 113 => ⟨S2x16x16x256x3x256, .i32⟩
  | 114 => ⟨S2x16x16x256x3x256, .i32⟩
  | 115 => ⟨S_, .f32⟩
  | 116 => ⟨S2x16x16x256x128, .f32⟩
  | 117 => ⟨S2x16x16x256x128, .f32⟩
  | 118 => ⟨S2x16x16x256x3x256, .f32⟩
  | 119 => ⟨S16x1x1x1x1, .f32⟩
  | 120 => ⟨S16x256x1x1, .i32⟩
  | 121 => ⟨S1x1x16x256x1x1, .i32⟩
  | 122 => ⟨S2x16x16x256x3x256, .i32⟩
  | 123 => ⟨S2x16x16x256x3x256, .i32⟩
  | 124 => ⟨S2x16x16x256x3x256, .f32⟩
  | 125 => ⟨S1x16x1x1x1x1, .f32⟩
  | 126 => ⟨S2x16x16x256x3x256, .f32⟩
  | 127 => ⟨S2x16x16x256x3x256, .f32⟩
  | _ => ⟨S2x4096x2048, .f32⟩

abbrev hbmTy0_1 (i : Nat) : BufTy := match i % 128 with
  | 0 => ⟨S2x16x16x256x3x256, .f32⟩
  | 1 => ⟨S16x1x3x1, .i1⟩
  | 2 => ⟨S_, .f32⟩
  | 3 => ⟨S_, .f32⟩
  | 4 => ⟨S2x16x16x256x3x256, .i1⟩
  | 5 => ⟨S2x16x16x256x3x256, .f32⟩
  | 6 => ⟨S2x16x16x256x3x256, .f32⟩
  | 7 => ⟨S256x1, .i32⟩
  | 8 => ⟨S1x256, .i32⟩
  | 9 => ⟨S256x256, .i32⟩
  | 10 => ⟨S256x256, .i32⟩
  | 11 => ⟨S256x256, .i32⟩
  | 12 => ⟨S2x16x16x256x256, .f32⟩
  | 13 => ⟨S16x1x1x1, .f32⟩
  | 14 => ⟨S256x256, .f32⟩
  | 15 => ⟨S1x1x256x256, .f32⟩
  | 16 => ⟨S16x1x256x256, .f32⟩
  | 17 => ⟨S16x1x256x256, .f32⟩
  | 18 => ⟨S16x1x256x256, .f32⟩
  | 19 => ⟨S1x16x1x256x256, .f32⟩
  | 20 => ⟨S2x16x16x256x256, .f32⟩
  | 21 => ⟨S2x16x16x256x256, .f32⟩
  | 22 => ⟨S_, .i32⟩
  | 23 => ⟨S256x256, .i32⟩
  | 24 => ⟨S256x256, .i1⟩
  | 25 => ⟨S_, .f32⟩
  | 26 => ⟨S_, .f32⟩
  | 27 => ⟨S2x16x16x256x256, .i1⟩
  | 28 => ⟨S2x16x16x256x256, .f32⟩
  | 29 => ⟨S2x16x16x256x256, .f32⟩
  | 30 => ⟨S2x16x16x256x768, .f32⟩
  | 31 => ⟨S2x16x16x256x1024, .f32⟩
  | 32 => ⟨S_, .f32⟩
  | 33 => ⟨S2x16x16x256, .f32⟩
  | 34 => ⟨S_, .f32⟩
  | 35 => ⟨S2x16x16x256, .f32⟩
  | 36 => ⟨S2x16x16x256, .f32⟩
  | 37 => ⟨S2x16x16x256x1, .f32⟩
  | 38 => ⟨S2x16x16x256x1024, .f32⟩
  | 39 => ⟨S2x16x16x256x1024, .f32⟩
  | 40 => ⟨S2x16x16x256x1024, .f32⟩
  | 41 => ⟨S_, .f32⟩
  | 42 => ⟨S2x16x16x256, .f32⟩
  | 43 => ⟨S2x16x16x256x1, .f32⟩
  | 44 => ⟨S2x16x16x256x1024, .f32⟩
  | 45 => ⟨S2x16x16x256x1024, .f32⟩
  | 46 => ⟨S2x16x16x256x768, .f32⟩
  | 47 => ⟨S2x16x16x256x768x128, .f32⟩
  | 48 => ⟨S2x16x16x256x128, .f32⟩
  | 49 => ⟨S2x16x16x256x256, .f32⟩
  | 50 => ⟨S2x16x16x256x128, .f32⟩
  | 51 => ⟨S2x16x16x256x128, .f32⟩
  | 52 => ⟨S2x16x256x16x128, .f32⟩
  | 53 => ⟨S2x4096x2048, .f32⟩
  | 54 => ⟨S2x4096x2048, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_values : Ref sig .tc := ⟨.hbm, 36, rfl⟩
abbrev main_indices : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_3 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_9 : Ref sig .tc := ⟨.hbm, 79, rfl⟩
abbrev main_v59 : Ref sig .tc := ⟨.hbm, 80, rfl⟩
abbrev main_v60 : Ref sig .tc := ⟨.hbm, 81, rfl⟩
abbrev main_c_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_13 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_17 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c_18 : Ref sig .tc := ⟨.hbm, 150, rfl⟩
abbrev main_v118 : Ref sig .tc := ⟨.hbm, 151, rfl⟩
abbrev main_v119 : Ref sig .tc := ⟨.hbm, 152, rfl⟩
abbrev main_cst_19 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_20 : Ref sig .tc := ⟨.hbm, 160, rfl⟩
abbrev main_v123 : Ref sig .tc := ⟨.hbm, 161, rfl⟩
abbrev main_cst_21 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_22 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x8192 : Shape := ⟨2, ![8192, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048x8192, .f32⟩
  | .hbm, ⟨21, _⟩ => ⟨S2048x8192, .f32⟩
  | .hbm, ⟨22, _⟩ => ⟨S1x8192x2048, .f32⟩
  | .hbm, ⟨23, _⟩ => ⟨S8192x2048, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x2048, .f32⟩
  | .hbm, ⟨30, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S1x2048x4096 : Shape := ⟨3, ![1, 2048, 4096]⟩
abbrev S1x2048 : Shape := ⟨2, ![1, 2048]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x4096, .f32⟩
  | .hbm, ⟨3, _⟩ => ⟨S1x2048, .f32⟩
  | .hbm, ⟨4, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S2048 : Shape := ⟨1, ![2048]⟩
abbrev S1x2048x4096 : Shape := ⟨3, ![1, 2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x4096 : Shape := ⟨2, ![2048, 4096]⟩
abbrev S8192x4096 : Shape := ⟨2, ![8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel6.lean ====
abbrev S32x2048 : Shape := ⟨2, ![32, 2048]⟩
abbrev S2048 : Shape := ⟨1, ![2048]⟩
abbrev S1x2048 : Shape := ⟨2, ![1, 2048]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S1x2048, .f32⟩
  | .hbm, ⟨3, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference6Ideal.lean ====
abbrev S32x2048 : Shape := ⟨2, ![32, 2048]⟩
abbrev S2048 : Shape := ⟨1, ![2048]⟩
abbrev S_ : Shape := ⟨0, ![]⟩
abbrev S32 : Shape := ⟨1, ![32]⟩
abbrev S32x1 : Shape := ⟨2, ![32, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S32x2048, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x2048, .f32⟩
  | .hbm, ⟨14, _⟩ => ⟨S32x2048, .f32⟩
  | .hbm, ⟨15, _⟩ => ⟨S1x2048, .f32⟩
  | .hbm, ⟨16, _⟩ => ⟨S32x2048, .f32⟩
  | .hbm, ⟨17, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S8x4x4096 : Shape := ⟨3, ![8, 4, 4096]⟩
abbrev S2048 : Shape := ⟨1, ![2048]⟩
abbrev S8x128x128 : Shape := ⟨3, ![8, 128, 128]⟩
abbrev S8x128 : Shape := ⟨2, ![8, 128]⟩
abbrev S8x4x4 : Shape := ⟨3, ![8, 4, 4]⟩
abbrev S8x4 : Shape := ⟨2, ![8, 4]⟩
abbrev S4x8 : Shape := ⟨2, ![4, 8]⟩
abbrev S1x2048 : Shape := ⟨2, ![1, 2048]⟩
abbrev S8x4x2048 : Shape := ⟨3, ![8, 4, 2048]⟩
abbrev S1x4x4096 : Shape := ⟨3, ![1, 4, 4096]⟩
abbrev S1x4x2048 : Shape := ⟨3, ![1, 4, 2048]⟩
abbrev S4x4096 : Shape := ⟨2, ![4, 4096]⟩
abbrev S4x2048 : Shape := ⟨2, ![4, 2048]⟩
abbrev S4 : Shape := ⟨1, ![4]⟩
abbrev S4x1 : Shape := ⟨2, ![4, 1]⟩
abbrev S4x4 : Shape := ⟨2, ![4, 4]⟩
abbrev S1x4x4 : Shape := ⟨3, ![1, 4, 4]⟩
abbrev S4x256 : Shape := ⟨2, ![4, 256]⟩
abbrev S1x256 : Shape := ⟨2, ![1, 256]⟩
abbrev S1x4x256 : Shape := ⟨3, ![1, 4, 256]⟩

abbrev nBuf : Space → Nat
  | .hbm => 12
  | .vmem => 10
  | .smem => 0
  | _ => 0

abbrev bufTy : (tb : Table) → Fin (tcTables nBuf tb) → BufTy
  | .hbm, ⟨0, _⟩ => ⟨S8x4x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8x4x4, .f32⟩
  | .hbm, ⟨6, _⟩ => ⟨S8x4, .f32⟩
  | .hbm, ⟨7, _⟩ => ⟨S4x8, .f32⟩
  | .hbm, ⟨8, _⟩ => ⟨S1x2048, .f32⟩
  | .hbm, ⟨9, _⟩ => ⟨S1x2048, .f32⟩
  | .hbm, ⟨10, _⟩ => ⟨S8x4x2048, .f32⟩
  | .hbm, ⟨11, _⟩ => ⟨S8x4x2048, .f32⟩
  | .local _ .vmem, ⟨0, _⟩ => ⟨S1x4x4096, .f32⟩
  | .local _ .vmem, ⟨1, _⟩ => ⟨S1x4x4096, .f32⟩
  | .local _ .vmem, ⟨2, _⟩ => ⟨S1x2048, .f32⟩
  | .local _ .vmem, ⟨3, _⟩ => ⟨S1x2048, .f32⟩
  | .local _ .vmem, ⟨4, _⟩ => ⟨S8x4x4, .f32⟩
  | .local _ .vmem, ⟨5, _⟩ => ⟨S4x8, .f32⟩
  | .local _ .vmem, ⟨6, _⟩ => ⟨S1x4x2048, .f32⟩
  | .local _ .vmem, ⟨7, _⟩ => ⟨S1x4x2048, .f32⟩
  | .local _ .vmem, ⟨8, _⟩ => ⟨S1x4x2048, .f32⟩
  | .local _ .vmem, ⟨9, _⟩ => ⟨S1x4x2048, .f32⟩
  | _, _ => ⟨S8x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8x4x4096 : Shape := ⟨3, ![8, 4, 4096]⟩
abbrev S2048 : Shape := ⟨1, ![2048]⟩
abbrev S8x128x128 : Shape := ⟨3, ![8, 128, 128]⟩
abbrev S8x128 : Shape := ⟨2, ![8, 128]⟩
abbrev S8x4x2048 : Shape := ⟨3, ![8, 4, 2048]⟩
abbrev S_ : Shape := ⟨0, ![]⟩
abbrev S8x4 : Shape := ⟨2, ![8, 4]⟩
abbrev S8x4x1 : Shape := ⟨3, ![8, 4, 1]⟩
abbrev S1x1x2048 : Shape := ⟨3, ![1, 1, 2048]⟩
abbrev S4x4 : Shape := ⟨2, ![4, 4]⟩
abbrev S8x4x4 : Shape := ⟨3, ![8, 4, 4]⟩
abbrev S8x1x4x8x256 : Shape := ⟨5, ![8, 1, 4, 8, 256]⟩
abbrev S8x8x1x256x4 : Shape := ⟨5, ![8, 8, 1, 256, 4]⟩
abbrev S4x8 : Shape := ⟨2, ![4, 8]⟩
abbrev S1x1x4x8x1 : Shape := ⟨5, ![1, 1, 4, 8, 1]⟩

abbrev nBuf : Space → Nat
  | .hbm => 61
  | .vmem => 0
  | .smem => 0
  | _ => 0

abbrev bufTy : (tb : Table) → Fin (tcTables nBuf tb) → BufTy
  | .hbm, ⟨0, _⟩ => ⟨S8x4x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8x4x2048, .f32⟩
  | .hbm, ⟨6, _⟩ => ⟨S8x4x2048, .f32⟩
  | .hbm, ⟨7, _⟩ => ⟨S_, .f32⟩
  | .hbm, ⟨8, _⟩ => ⟨S8x4, .f32⟩
  | .hbm, ⟨9, _⟩ => ⟨S8x4x1, .f32⟩
  | .hbm, ⟨10, _⟩ => ⟨S_, .f32⟩
  | .hbm, ⟨11, _⟩ => ⟨S8x4x1, .f32⟩
  | .hbm, ⟨12, _⟩ => ⟨S8x4x1, .f32⟩
  | .hbm, ⟨13, _⟩ => ⟨S8x4x2048, .f32⟩
  | .hbm, ⟨14, _⟩ => ⟨S8x4x2048, .f32⟩
  | .hbm, ⟨15, _⟩ => ⟨S8x4x2048, .f32⟩
  | .hbm, ⟨16, _⟩ => ⟨S_, .f32⟩
  | .hbm, ⟨17, _⟩ => ⟨S8x4, .f32⟩
  | .hbm, ⟨18, _⟩ => ⟨S8x4x1, .f32⟩
  | .hbm, ⟨19, _⟩ => ⟨S_, .f32⟩
  | .hbm, ⟨20, _⟩ => ⟨S8x4x1, .f32⟩
  | .hbm, ⟨21, _⟩ => ⟨S8x4x1, .f32⟩
  | .hbm, ⟨22, _⟩ => ⟨S_, .f32⟩
  | .hbm, ⟨23, _⟩ => ⟨S8x4x1, .f32⟩
  | .hbm, ⟨24, _⟩ => ⟨S8x4x1, .f32⟩
  | .hbm, ⟨25, _⟩ => ⟨S8x4x1, .f32⟩
  | .hbm, ⟨26, _⟩ => ⟨S8x4x2048, .f32⟩
  | .hbm, ⟨27, _⟩ => ⟨S8x4x2048, .f32⟩
  | .hbm, ⟨28, _⟩ => ⟨S1x1x2048, .f32⟩
  | .hbm, ⟨29, _⟩ => ⟨S8x4x2048, .f32⟩
  | .hbm, ⟨30, _⟩ => ⟨S8x4x2048, .f32⟩
  | .hbm, ⟨31, _⟩ => ⟨S1x1x2048, .f32⟩
  | .hbm, ⟨32, _⟩ => ⟨S8x4x2048, .f32⟩
  | .hbm, ⟨33, _⟩ => ⟨S8x4x2048, .f32⟩
  | .hbm, ⟨34, _⟩ => ⟨S_, .i1⟩
  | .hbm, ⟨35, _⟩ => ⟨S4x4, .i1⟩
  | .hbm, ⟨36, _⟩ => ⟨S4x4, .i32⟩
  | .hbm, ⟨37, _⟩ => ⟨S_, .i32⟩
  | .hbm, ⟨38, _⟩ => ⟨S4x4, .i32⟩
  | .hbm, ⟨39, _⟩ => ⟨S4x4, .i32⟩
  | .hbm, ⟨40, _⟩ => ⟨S4x4, .i32⟩
  | .hbm, ⟨41, _⟩ => ⟨S4x4, .i1⟩
  | .hbm, ⟨42, _⟩ => ⟨S_, .i1⟩
  | .hbm, ⟨43, _⟩ => ⟨S4x4, .i1⟩
  | .hbm, ⟨44, _⟩ => ⟨S4x4, .i1⟩
  | .hbm, ⟨45, _⟩ => ⟨S8x4x4, .f32⟩
  | .hbm, ⟨46, _⟩ => ⟨S_, .i32⟩
  | .hbm, ⟨47, _⟩ => ⟨S_, .f32⟩
  | .hbm, ⟨48, _⟩ => ⟨S8x4x4, .i1⟩
  | .hbm, ⟨49, _⟩ => ⟨S8x4x4, .f32⟩
  | .hbm, ⟨50, _⟩ => ⟨S8x4x4, .f32⟩
  | .hbm, ⟨51, _⟩ => ⟨S8x1x4x8x256, .f32⟩
  | .hbm, ⟨52, _⟩ => ⟨S8x8x1x256x4, .f32⟩
  | .hbm, ⟨53, _⟩ => ⟨S8x1x4x8x256, .f32⟩
  | .hbm, ⟨54, _⟩ => ⟨S8x4, .f32⟩
  | .hbm, ⟨55, _⟩ => ⟨S4x8, .f32⟩
  | .hbm, ⟨56, _⟩ => ⟨S1x1x4x8x1, .f32⟩
  | .hbm, ⟨57, _⟩ => ⟨S8x1x4x8x256, .f32⟩
  | .hbm, ⟨58, _⟩ => ⟨S8x1x4x8x256, .f32⟩
  | .hbm, ⟨59, _⟩ => ⟨S8x4x2048, .f32⟩
  | .hbm, ⟨60, _⟩ => ⟨S8x4x2048, .f32⟩
  | _, _ => ⟨S8x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_0 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Proof.K.Body.lean ====
/-
  The kernel's body at one grid point: from its inputs, its output block and its scratch at anything, what it leaves
  in the output block, found by the run.
-/
module

public import proofs.«01_k».proof.Proof.K.Loop

@[expose] public section

set_option maxRecDepth 16384
set_option maxHeartbeats 2000000

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's body at one grid point: the pieces it leaves in the output block, as the run finds them. -/
@[irreducible] def bodyRun (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) :
    { L : List (View.Piece (Elt F) S1x4096x256 .bf16) // ∀ (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty),
      iprop(held (F := F) c arg2 X2 ∗ held (F := F) c arg3 X3 ∗ held (F := F) c arg4 X4 ∗ held (F := F) c arg5 X5 ∗ held (F := F) c arg6 f6
        ∗ held (F := F) c arg7 f7 ∗ held (F := F) c arg8 f8 ∗ held (F := F) c arg9 f9 ∗ held (F := F) c arg10 f10)
      ⊢ wp frame (wpE (defs₀ (F := F)) 𝒱₀ (c : Thread nD τ) none) E (cc0_moba_prompt (F := F) i arg2 harg2 arg3 harg3 arg4 harg4 arg5 harg5 arg6 harg6 arg7 harg7 arg8 harg8 arg9 harg9 arg10 harg10)
          (fun _ => iprop(held (F := F) c arg2 X2 ∗ held (F := F) c arg3 X3 ∗ held (F := F) c arg4 X4 ∗ held (F := F) c arg5 X5 ∗ held (F := F) c arg6 (arg6.view.writes (Elt F) f6 L)
            ∗ (∃ f, held (F := F) c arg7 f) ∗ (∃ f, held (F := F) c arg8 f) ∗ (∃ f, held (F := F) c arg9 f) ∗ (∃ f, held (F := F) c arg10 f))) } := by
  refine ⟨?_, fun E f6 f7 f8 f9 f10 => ?go⟩
  case go =>
    unfold cc0_moba_prompt
    iintro ⟨H2, H3, H4, H5, H6, H7, H8, H9, H10⟩
    sl_exec_parts
    sl_step
    sl_close

end Cert.Proof.K

end
-- ==== Proof.K.Cover.lean ====
/-
  The pieces the body leaves in its output block: where they lie, and that they cover it.
-/
module

public import proofs.«01_k».proof.Proof.K.Body
import all proofs.«01_k».proof.Proof.K.Loop
import all proofs.«01_k».proof.Proof.K.Body

@[expose] public section

set_option maxRecDepth 16384
set_option maxHeartbeats 2000000

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle head `h` of query block `k` is written to. -/
def rect (k : Fin k0_t1_loop.trips) : Fin 2 → Rect S1x4096x256
  | 0 => Rect.unit (s := S1x4096x256) (k0_off2 k) S1x256x128.size (k0_off2_inb k)
  | 1 => Rect.unit (s := S1x4096x256) (k0_off5 k) S1x256x128.size (k0_off5_inb k)

theorem trips_eq : k0_t1_loop.trips = 16 := by decide +kernel

theorem off2_eq : ∀ k : Fin k0_t1_loop.trips, k0_off2 k = ![0, 256 * k.val, 0] := by decide +kernel

theorem off5_eq : ∀ k : Fin k0_t1_loop.trips, k0_off5 k = ![0, 256 * k.val, 128] := by decide +kernel

/-- A query block's two pieces lie at its two rectangles. -/
theorem pieces_rects (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) :
    (pieces (F := F) c i arg2 harg2 arg3 harg3 arg4 harg4 arg5 harg5 arg6 harg6 arg7 harg7 arg8 harg8 arg9 harg9 arg10 harg10 v3 v7 v1098 v1101 v1104 v1107 v1108 X3 X7 X8 X10 k).map (·.1) = [rect k 1, rect k 0] := by
  unfold pieces
  split
  · unfold oddRun; rfl
  · unfold evenRun; rfl

/-- A query block's pieces are among those of all blocks. -/
theorem mem_pieceList (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) (n : ℕ) (hn : k.val < n) (p : View.Piece (Elt F) S1x4096x256 .bf16)
    (hp : p ∈ pieces (F := F) c i arg2 harg2 arg3 harg3 arg4 harg4 arg5 harg5 arg6 harg6 arg7 harg7 arg8 harg8 arg9 harg9 arg10 harg10 v3 v7 v1098 v1101 v1104 v1107 v1108 X3 X7 X8 X10 k) : p ∈ pieceList (F := F) c i arg2 harg2 arg3 harg3 arg4 harg4 arg5 harg5 arg6 harg6 arg7 harg7 arg8 harg8 arg9 harg9 arg10 harg10 v3 v7 v1098 v1101 v1104 v1107 v1108 X3 X7 X8 X10 n := by
  induction n with
  | zero => omega
  | succ n ih =>
    rw [pieceList.eq_2]
    rcases Nat.lt_succ_iff_lt_or_eq.mp hn with h | h
    · exact List.mem_append_right _ (ih h)
    · subst h; unfold stepPieces; rw [dif_pos k.isLt]; exact List.mem_append_left _ hp

/-- The pieces of all the query blocks cover the output block. -/
theorem cover (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (y : S1x4096x256.Idx) :
    ∃ p ∈ pieceList (F := F) c i arg2 harg2 arg3 harg3 arg4 harg4 arg5 harg5 arg6 harg6 arg7 harg7 arg8 harg8 arg9 harg9 arg10 harg10 v3 v7 v1098 v1101 v1104 v1107 v1108 X3 X7 X8 X10 k0_t1_loop.trips, y ∈ p.1.set := by
  have h0 : (y 0).val < 1 := (y 0).isLt
  have h1 : (y 1).val < 4096 := (y 1).isLt
  have h2 : (y 2).val < 256 := (y 2).isLt
  have hk : (y 1).val / 256 < k0_t1_loop.trips := by rw [trips_eq]; omega
  have hm : ∃ r ∈ (pieces (F := F) c i arg2 harg2 arg3 harg3 arg4 harg4 arg5 harg5 arg6 harg6 arg7 harg7 arg8 harg8 arg9 harg9 arg10 harg10 v3 v7 v1098 v1101 v1104 v1107 v1108 X3 X7 X8 X10 ⟨(y 1).val / 256, hk⟩).map (·.1), y ∈ r.set := by
    rw [pieces_rects]
    by_cases hh : (y 2).val < 128
    · refine ⟨rect ⟨(y 1).val / 256, hk⟩ 0, by simp, ?_⟩
      unfold rect
      rw [Rect.mem_set_unit, off2_eq]
      intro a; fin_cases a
      · exact ⟨Nat.zero_le _, h0⟩
      · show 256 * ((y 1).val / 256) ≤ (y 1).val ∧ (y 1).val < 256 * ((y 1).val / 256) + 256; omega
      · show 0 ≤ (y 2).val ∧ (y 2).val < 0 + 128; omega
    · refine ⟨rect ⟨(y 1).val / 256, hk⟩ 1, by simp, ?_⟩
      unfold rect
      rw [Rect.mem_set_unit, off5_eq]
      intro a; fin_cases a
      · exact ⟨Nat.zero_le _, h0⟩
      · show 256 * ((y 1).val / 256) ≤ (y 1).val ∧ (y 1).val < 256 * ((y 1).val / 256) + 256; omega
      · show 128 ≤ (y 2).val ∧ (y 2).val < 128 + 128; omega
  obtain ⟨r, hr, hy⟩ := hm
  obtain ⟨p, hp, rfl⟩ := List.mem_map.mp hr
  exact ⟨p, mem_pieceList (F := F) c i arg2 harg2 arg3 harg3 arg4 harg4 arg5 harg5 arg6 harg6 arg7 harg7 arg8 harg8 arg9 harg9 arg10 harg10 v3 v7 v1098 v1101 v1104 v1107 v1108 X3 X7 X8 X10 _ _ hk p hp, hy⟩

/-- What the body leaves covers its output block. -/
theorem cover_body (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) (y : S1x4096x256.Idx) :
    ∃ p ∈ (bodyRun (F := F) c i arg2 harg2 arg3 harg3 arg4 harg4 arg5 harg5 arg6 harg6 arg7 harg7 arg8 harg8 arg9 harg9 arg10 harg10 X2 X3 X4 X5).1, y ∈ p.1.set := by
  unfold bodyRun; exact cover (F := F) c i arg2 harg2 arg3 harg3 arg4 harg4 arg5 harg5 arg6 harg6 arg7 harg7 arg8 harg8 arg9 harg9 arg10 harg10 _ _ _ _ _ _ _ _ _ _ _ y

end Cert.Proof.K

end
-- ==== Proof.KI.Loop.lean ====
/-
  The loop over the sixteen query blocks: what one trip does to the buffers it holds, and the invariant the run
  goes through the loop by.
-/
module

public import proofs.«01_k».proof.Proof.Gen.KernelIdeal.Loops
public import proofs.«01_k».proof.Proof.Gen.KernelIdeal.Frame

@[expose] public section

set_option maxRecDepth 16384
set_option maxHeartbeats 2000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The variants of every run here: no recursive call is made. -/
abbrev 𝒱₀ : Variants := Variants.none

/-- A memref held whole at contents `f`. -/
abbrev held (c : Dev nD) {sp : Space} {s : Shape} {e : EltTy} (m : Memref sig .tc sp s e) (f : BufTy.Contents (Elt F) m.view.ty) : sProp 𝕄 :=
  m.view.loc (c : Thread nD τ) ↦[m.view.set]{fullShare} f

/-- What one query block works on: the queries, the three scratch tables it reads, and the output block it writes. -/
abbrev Block (c : Dev nD) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (X3 : BufTy.Contents (Elt F) arg3.view.ty) (X7 : BufTy.Contents (Elt F) arg7.view.ty) (X8 : BufTy.Contents (Elt F) arg8.view.ty) (X10 : BufTy.Contents (Elt F) arg10.view.ty) (f6 : BufTy.Contents (Elt F) arg6.view.ty) : sProp 𝕄 :=
  iprop(held c arg3 X3 ∗ held c arg7 X7 ∗ held c arg8 X8 ∗ held c arg10 X10 ∗ held c arg6 f6)

/-- A value for the operands the pair loop's region takes and does not read. -/
abbrev blank (s : Shape) (e : FTy) : FVec F s e := constant s e 0#_

set_option warn.classDefReducibility false in
/-- The loop over pairs of earlier key blocks goes by its generated invariant, at the operands its region reads. -/
@[sl_loop] def pairLoop (c : Dev nD) (E : Set ℕ) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (k0_t1 : Fin k0_t1_loop.trips) (arg11 : BitVec 32) (v1353 : FVec F S256x256 .bf16) (v1612 : FVec F S256x256 .bf16) (v1639 : BitVec 32) (X7 : BufTy.Contents (Elt F) arg7.view.ty) (X8 : BufTy.Contents (Elt F) arg8.view.ty) (X10 : BufTy.Contents (Elt F) arg10.view.ty) (init : FVec F S1x256 .f32 × FVec F S144x256 .f32 × FVec F S1x256 .f32 × FVec F S144x256 .f32) :
    LoopInv (M := 𝕄) Idealize.ShloMosaic.frame (wpE (defs₀ (F := F)) 𝒱₀ (c : Thread nD τ) none) E (k0_t2_loop k0_t1).lb (k0_t2_loop k0_t1).ub (k0_t2_loop k0_t1).st
      (k0_t2_ok k0_t1) init (k0_t2_body (F := F) i arg2 harg2 arg3 harg3 arg4 harg4 arg5 harg5 arg6 harg6 arg7 harg7 arg8 harg8 arg9 harg9 arg10 harg10 v3 v7 k0_t1 arg11 v1353 (blank _ _) (blank _ _) v1612 (blank _ _) (blank _ _) (blank S1x1x144x256 .bf16) v1639) :=
  loopInv_k0_t2 (F := F) 𝒱₀ c none E i arg2 harg2 arg3 harg3 arg4 harg4 arg5 harg5 arg6 harg6 arg7 harg7 arg8 harg8 arg9 harg9 arg10 harg10 v3 v7 k0_t1 arg11 v1353 (blank _ _) (blank _ _) v1612 (blank _ _) (blank _ _) (blank S1x1x144x256 .bf16) v1639 X7 X8 X10 init

/-- A query block of odd number, which first goes through key block 0 alone: the two pieces it leaves in the output (one per head), as the run finds them. -/
@[irreducible] def oddRun (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) (hk : k.val % 2 = 1) :
    { L : List (View.Piece (Elt F) S1x4096x256 .bf16) // ∀ (E : Set ℕ) (f6 : BufTy.Contents (Elt F) arg6.view.ty),
      Block (F := F) c arg2 harg2 arg3 harg3 arg4 harg4 arg5 harg5 arg6 harg6 arg7 harg7 arg8 harg8 arg9 harg9 arg10 harg10 X3 X7 X8 X10 f6
      ⊢ wp frame (wpE (defs₀ (F := F)) 𝒱₀ (c : Thread nD τ) none) E (k0_t1_body (F := F) i arg2 harg2 arg3 harg3 arg4 harg4 arg5 harg5 arg6 harg6 arg7 harg7 arg8 harg8 arg9 harg9 arg10 harg10 v3 v7 v1098 v1101 v1104 v1107 v1108 k ())
          (fun _ => Block (F := F) c arg2 harg2 arg3 harg3 arg4 harg4 arg5 harg5 arg6 harg6 arg7 harg7 arg8 harg8 arg9 harg9 arg10 harg10 X3 X7 X8 X10 (arg6.view.writes (Elt F) f6 L)) } := by
  refine ⟨?_, fun E f6 => ?go⟩
  case go =>
    unfold k0_t1_body
    iintro ⟨H3, H7, H8, H10, H6⟩
    sl_exec_parts (disch := revert k; decide +kernel)
    sl_step
    sl_close

/-- A query block of even number: the two pieces it leaves in the output (one per head), as the run finds them. -/
@[irreducible] def evenRun (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) (hk : k.val % 2 = 0) :
    { L : List (View.Piece (Elt F) S1x4096x256 .bf16) // ∀ (E : Set ℕ) (f6 : BufTy.Contents (Elt F) arg6.view.ty),
      Block (F := F) c arg2 harg2 arg3 harg3 arg4 harg4 arg5 harg5 arg6 harg6 arg7 harg7 arg8 harg8 arg9 harg9 arg10 harg10 X3 X7 X8 X10 f6
      ⊢ wp frame (wpE (defs₀ (F := F)) 𝒱₀ (c : Thread nD τ) none) E (k0_t1_body (F := F) i arg2 harg2 arg3 harg3 arg4 harg4 arg5 harg5 arg6 harg6 arg7 harg7 arg8 harg8 arg9 harg9 arg10 harg10 v3 v7 v1098 v1101 v1104 v1107 v1108 k ())
          (fun _ => Block (F := F) c arg2 harg2 arg3 harg3 arg4 harg4 arg5 harg5 arg6 harg6 arg7 harg7 arg8 harg8 arg9 harg9 arg10 harg10 X3 X7 X8 X10 (arg6.view.writes (Elt F) f6 L)) } := by
  refine ⟨?_, fun E f6 => ?go⟩
  case go =>
    unfold k0_t1_body
    iintro ⟨H3, H7, H8, H10, H6⟩
    sl_exec_parts (disch := revert k; decide +kernel)
    sl_step
    sl_close

/-- The two pieces query block `k` leaves in the output, at either parity. -/
def pieces (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) : List (View.Piece (Elt F) S1x4096x256 .bf16) :=
  if h : k.val % 2 = 1 then (oddRun (F := F) c i arg2 harg2 arg3 harg3 arg4 harg4 arg5 harg5 arg6 harg6 arg7 harg7 arg8 harg8 arg9 harg9 arg10 harg10 v3 v7 v1098 v1101 v1104 v1107 v1108 X3 X7 X8 X10 k h).1 else (evenRun (F := F) c i arg2 harg2 arg3 harg3 arg4 harg4 arg5 harg5 arg6 harg6 arg7 harg7 arg8 harg8 arg9 harg9 arg10 harg10 v3 v7 v1098 v1101 v1104 v1107 v1108 X3 X7 X8 X10 k (by omega)).1

/-- One query block: it writes `pieces` and leaves every other buffer as it was. -/
theorem trip (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) (E : Set ℕ) (f6 : BufTy.Contents (Elt F) arg6.view.ty) :
    Block (F := F) c arg2 harg2 arg3 harg3 arg4 harg4 arg5 harg5 arg6 harg6 arg7 harg7 arg8 harg8 arg9 harg9 arg10 harg10 X3 X7 X8 X10 f6
      ⊢ wp frame (wpE (defs₀ (F := F)) 𝒱₀ (c : Thread nD τ) none) E (k0_t1_body (F := F) i arg2 harg2 arg3 harg3 arg4 harg4 arg5 harg5 arg6 harg6 arg7 harg7 arg8 harg8 arg9 harg9 arg10 harg10 v3 v7 v1098 v1101 v1104 v1107 v1108 k ())
          (fun _ => Block (F := F) c arg2 harg2 arg3 harg3 arg4 harg4 arg5 harg5 arg6 harg6 arg7 harg7 arg8 harg8 arg9 harg9 arg10 harg10 X3 X7 X8 X10 (arg6.view.writes (Elt F) f6 (pieces (F := F) c i arg2 harg2 arg3 harg3 arg4 harg4 arg5 harg5 arg6 harg6 arg7 harg7 arg8 harg8 arg9 harg9 arg10 harg10 v3 v7 v1098 v1101 v1104 v1107 v1108 X3 X7 X8 X10 k))) := by
  unfold pieces
  split
  · exact (oddRun (F := F) c i arg2 harg2 arg3 harg3 arg4 harg4 arg5 harg5 arg6 harg6 arg7 harg7 arg8 harg8 arg9 harg9 arg10 harg10 v3 v7 v1098 v1101 v1104 v1107 v1108 X3 X7 X8 X10 k _).2 E f6
  · exact (evenRun (F := F) c i arg2 harg2 arg3 harg3 arg4 harg4 arg5 harg5 arg6 harg6 arg7 harg7 arg8 harg8 arg9 harg9 arg10 harg10 v3 v7 v1098 v1101 v1104 v1107 v1108 X3 X7 X8 X10 k _).2 E f6

/-- The pieces of query block `k`, none past the last. -/
@[irreducible] def stepPieces (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : ℕ) : List (View.Piece (Elt F) S1x4096x256 .bf16) :=
  if h : k < k0_t1_loop.trips then pieces (F := F) c i arg2 harg2 arg3 harg3 arg4 harg4 arg5 harg5 arg6 harg6 arg7 harg7 arg8 harg8 arg9 harg9 arg10 harg10 v3 v7 v1098 v1101 v1104 v1107 v1108 X3 X7 X8 X10 ⟨k, h⟩ else []

/-- The pieces of the first `k` query blocks, the latest first. -/
def pieceList (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) : ℕ → List (View.Piece (Elt F) S1x4096x256 .bf16)
  | 0 => []
  | k + 1 => stepPieces (F := F) c i arg2 harg2 arg3 harg3 arg4 harg4 arg5 harg5 arg6 harg6 arg7 harg7 arg8 harg8 arg9 harg9 arg10 harg10 v3 v7 v1098 v1101 v1104 v1107 v1108 X3 X7 X8 X10 k ++ pieceList c i arg2 harg2 arg3 harg3 arg4 harg4 arg5 harg5 arg6 harg6 arg7 harg7 arg8 harg8 arg9 harg9 arg10 harg10 v3 v7 v1098 v1101 v1104 v1107 v1108 X3 X7 X8 X10 k

theorem pieceList_succ (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) :
    pieceList (F := F) c i arg2 harg2 arg3 harg3 arg4 harg4 arg5 harg5 arg6 harg6 arg7 harg7 arg8 harg8 arg9 harg9 arg10 harg10 v3 v7 v1098 v1101 v1104 v1107 v1108 X3 X7 X8 X10 (k.val + 1) = pieces (F := F) c i arg2 harg2 arg3 harg3 arg4 harg4 arg5 harg5 arg6 harg6 arg7 harg7 arg8 harg8 arg9 harg9 arg10 harg10 v3 v7 v1098 v1101 v1104 v1107 v1108 X3 X7 X8 X10 k ++ pieceList (F := F) c i arg2 harg2 arg3 harg3 arg4 harg4 arg5 harg5 arg6 harg6 arg7 harg7 arg8 harg8 arg9 harg9 arg10 harg10 v3 v7 v1098 v1101 v1104 v1107 v1108 X3 X7 X8 X10 k.val := by
  rw [pieceList.eq_2]; unfold stepPieces; rw [dif_pos k.isLt]

set_option warn.classDefReducibility false in
/-- Before query block `k`: the inputs and scratch as they were, the output at the first `k` blocks' pieces. -/
@[sl_loop] def blockLoop (c : Dev nD) (E : Set ℕ) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (G6 : BufTy.Contents (Elt F) arg6.view.ty) :
    LoopInvTy_k0_t1 (F := F) Unit ℕ (UR sig nD τ) ℕ 𝒱₀ c none E i arg2 harg2 arg3 harg3 arg4 harg4 arg5 harg5 arg6 harg6 arg7 harg7 arg8 harg8 arg9 harg9 arg10 harg10 v3 v7 v1098 v1101 v1104 v1107 v1108 where
  inv := fun k _ => iprop(held (F := F) c arg3 X3 ∗ held (F := F) c arg7 X7 ∗ held (F := F) c arg8 X8 ∗ held (F := F) c arg10 X10
    ∗ (∃ f, held (F := F) c arg6 f ∗ ⌜f = arg6.view.writes (Elt F) G6 (pieceList (F := F) c i arg2 harg2 arg3 harg3 arg4 harg4 arg5 harg5 arg6 harg6 arg7 harg7 arg8 harg8 arg9 harg9 arg10 harg10 v3 v7 v1098 v1101 v1104 v1107 v1108 X3 X7 X8 X10 k)⌝))
  step := fun k acc => by
    iintro ⟨H3, H7, H8, H10, %f, H6, %hf⟩
    iapply (wp_wand_r Idealize.ShloMosaic.frame (wpE (defs₀ (F := F)) 𝒱₀ (c : Thread nD τ) none) E)
    isplitl [H3 H7 H8 H10 H6]
    · iapply (trip (F := F) c i arg2 harg2 arg3 harg3 arg4 harg4 arg5 harg5 arg6 harg6 arg7 harg7 arg8 harg8 arg9 harg9 arg10 harg10 v3 v7 v1098 v1101 v1104 v1107 v1108 X3 X7 X8 X10 k E f)
      isplitl [H3]; · iexact H3
      isplitl [H7]; · iexact H7
      isplitl [H8]; · iexact H8
      isplitl [H10]; · iexact H10
      iexact H6
    · iintro %_ ⟨H3, H7, H8, H10, H6⟩
      isplitl [H3]; · iexact H3
      isplitl [H7]; · iexact H7
      isplitl [H8]; · iexact H8
      isplitl [H10]; · iexact H10
      iexists _
      isplitl [H6]; · iexact H6
      ipureintro
      rw [hf, pieceList_succ, ← View.writes_append]

end Cert.Proof.KI

end
-- ==== Proof.KI.Body.lean ====
/-
  The kernel's body at one grid point: from its inputs, its output block and its scratch at anything, what it leaves
  in the output block, found by the run.
-/
module

public import proofs.«01_k».proof.Proof.KI.Loop

@[expose] public section

set_option maxRecDepth 16384
set_option maxHeartbeats 2000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's body at one grid point: the pieces it leaves in the output block, as the run finds them. -/
@[irreducible] def bodyRun (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) :
    { L : List (View.Piece (Elt F) S1x4096x256 .bf16) // ∀ (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty),
      iprop(held (F := F) c arg2 X2 ∗ held (F := F) c arg3 X3 ∗ held (F := F) c arg4 X4 ∗ held (F := F) c arg5 X5 ∗ held (F := F) c arg6 f6
        ∗ held (F := F) c arg7 f7 ∗ held (F := F) c arg8 f8 ∗ held (F := F) c arg9 f9 ∗ held (F := F) c arg10 f10)
      ⊢ wp frame (wpE (defs₀ (F := F)) 𝒱₀ (c : Thread nD τ) none) E (cc0_moba_prompt (F := F) i arg2 harg2 arg3 harg3 arg4 harg4 arg5 harg5 arg6 harg6 arg7 harg7 arg8 harg8 arg9 harg9 arg10 harg10)
          (fun _ => iprop(held (F := F) c arg2 X2 ∗ held (F := F) c arg3 X3 ∗ held (F := F) c arg4 X4 ∗ held (F := F) c arg5 X5 ∗ held (F := F) c arg6 (arg6.view.writes (Elt F) f6 L)
            ∗ (∃ f, held (F := F) c arg7 f) ∗ (∃ f, held (F := F) c arg8 f) ∗ (∃ f, held (F := F) c arg9 f) ∗ (∃ f, held (F := F) c arg10 f))) } := by
  refine ⟨?_, fun E f6 f7 f8 f9 f10 => ?go⟩
  case go =>
    unfold cc0_moba_prompt
    iintro ⟨H2, H3, H4, H5, H6, H7, H8, H9, H10⟩
    sl_exec_parts
    sl_step
    sl_close

end Cert.Proof.KI

end
-- ==== Proof.KI.Cover.lean ====
/-
  The pieces the body leaves in its output block: where they lie, and that they cover it.
-/
module

public import proofs.«01_k».proof.Proof.KI.Body
import all proofs.«01_k».proof.Proof.KI.Loop
import all proofs.«01_k».proof.Proof.KI.Body

@[expose] public section

set_option maxRecDepth 16384
set_option maxHeartbeats 2000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The rectangle head `h` of query block `k` is written to. -/
def rect (k : Fin k0_t1_loop.trips) : Fin 2 → Rect S1x4096x256
  | 0 => Rect.unit (s := S1x4096x256) (k0_off2 k) S1x256x128.size (k0_off2_inb k)
  | 1 => Rect.unit (s := S1x4096x256) (k0_off5 k) S1x256x128.size (k0_off5_inb k)

theorem trips_eq : k0_t1_loop.trips = 16 := by decide +kernel

theorem off2_eq : ∀ k : Fin k0_t1_loop.trips, k0_off2 k = ![0, 256 * k.val, 0] := by decide +kernel

theorem off5_eq : ∀ k : Fin k0_t1_loop.trips, k0_off5 k = ![0, 256 * k.val, 128] := by decide +kernel

/-- A query block's two pieces lie at its two rectangles. -/
theorem pieces_rects (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) :
    (pieces (F := F) c i arg2 harg2 arg3 harg3 arg4 harg4 arg5 harg5 arg6 harg6 arg7 harg7 arg8 harg8 arg9 harg9 arg10 harg10 v3 v7 v1098 v1101 v1104 v1107 v1108 X3 X7 X8 X10 k).map (·.1) = [rect k 1, rect k 0] := by
  unfold pieces
  split
  · unfold oddRun; rfl
  · unfold evenRun; rfl

/-- A query block's pieces are among those of all blocks. -/
theorem mem_pieceList (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (k : Fin k0_t1_loop.trips) (n : ℕ) (hn : k.val < n) (p : View.Piece (Elt F) S1x4096x256 .bf16)
    (hp : p ∈ pieces (F := F) c i arg2 harg2 arg3 harg3 arg4 harg4 arg5 harg5 arg6 harg6 arg7 harg7 arg8 harg8 arg9 harg9 arg10 harg10 v3 v7 v1098 v1101 v1104 v1107 v1108 X3 X7 X8 X10 k) : p ∈ pieceList (F := F) c i arg2 harg2 arg3 harg3 arg4 harg4 arg5 harg5 arg6 harg6 arg7 harg7 arg8 harg8 arg9 harg9 arg10 harg10 v3 v7 v1098 v1101 v1104 v1107 v1108 X3 X7 X8 X10 n := by
  induction n with
  | zero => omega
  | succ n ih =>
    rw [pieceList.eq_2]
    rcases Nat.lt_succ_iff_lt_or_eq.mp hn with h | h
    · exact List.mem_append_right _ (ih h)
    · subst h; unfold stepPieces; rw [dif_pos k.isLt]; exact List.mem_append_left _ hp

/-- The pieces of all the query blocks cover the output block. -/
theorem cover (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (v3 : Elt F .f32) (v7 : Elt F .f32) (v1098 : FVec F S16x128 .bf16) (v1101 : FVec F S16x128 .bf16) (v1104 : FVec F S16x128 .bf16) (v1107 : FVec F S16x128 .bf16) (v1108 : IVec S16x256 32) (X3 : BufTy.Contents (Elt F) arg3.view.ty) (X7 : BufTy.Contents (Elt F) arg7.view.ty) (X8 : BufTy.Contents (Elt F) arg8.view.ty) (X10 : BufTy.Contents (Elt F) arg10.view.ty) (y : S1x4096x256.Idx) :
    ∃ p ∈ pieceList (F := F) c i arg2 harg2 arg3 harg3 arg4 harg4 arg5 harg5 arg6 harg6 arg7 harg7 arg8 harg8 arg9 harg9 arg10 harg10 v3 v7 v1098 v1101 v1104 v1107 v1108 X3 X7 X8 X10 k0_t1_loop.trips, y ∈ p.1.set := by
  have h0 : (y 0).val < 1 := (y 0).isLt
  have h1 : (y 1).val < 4096 := (y 1).isLt
  have h2 : (y 2).val < 256 := (y 2).isLt
  have hk : (y 1).val / 256 < k0_t1_loop.trips := by rw [trips_eq]; omega
  have hm : ∃ r ∈ (pieces (F := F) c i arg2 harg2 arg3 harg3 arg4 harg4 arg5 harg5 arg6 harg6 arg7 harg7 arg8 harg8 arg9 harg9 arg10 harg10 v3 v7 v1098 v1101 v1104 v1107 v1108 X3 X7 X8 X10 ⟨(y 1).val / 256, hk⟩).map (·.1), y ∈ r.set := by
    rw [pieces_rects]
    by_cases hh : (y 2).val < 128
    · refine ⟨rect ⟨(y 1).val / 256, hk⟩ 0, by simp, ?_⟩
      unfold rect
      rw [Rect.mem_set_unit, off2_eq]
      intro a; fin_cases a
      · exact ⟨Nat.zero_le _, h0⟩
      · show 256 * ((y 1).val / 256) ≤ (y 1).val ∧ (y 1).val < 256 * ((y 1).val / 256) + 256; omega
      · show 0 ≤ (y 2).val ∧ (y 2).val < 0 + 128; omega
    · refine ⟨rect ⟨(y 1).val / 256, hk⟩ 1, by simp, ?_⟩
      unfold rect
      rw [Rect.mem_set_unit, off5_eq]
      intro a; fin_cases a
      · exact ⟨Nat.zero_le _, h0⟩
      · show 256 * ((y 1).val / 256) ≤ (y 1).val ∧ (y 1).val < 256 * ((y 1).val / 256) + 256; omega
      · show 128 ≤ (y 2).val ∧ (y 2).val < 128 + 128; omega
  obtain ⟨r, hr, hy⟩ := hm
  obtain ⟨p, hp, rfl⟩ := List.mem_map.mp hr
  exact ⟨p, mem_pieceList (F := F) c i arg2 harg2 arg3 harg3 arg4 harg4 arg5 harg5 arg6 harg6 arg7 harg7 arg8 harg8 arg9 harg9 arg10 harg10 v3 v7 v1098 v1101 v1104 v1107 v1108 X3 X7 X8 X10 _ _ hk p hp, hy⟩

/-- What the body leaves covers its output block. -/
theorem cover_body (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) (y : S1x4096x256.Idx) :
    ∃ p ∈ (bodyRun (F := F) c i arg2 harg2 arg3 harg3 arg4 harg4 arg5 harg5 arg6 harg6 arg7 harg7 arg8 harg8 arg9 harg9 arg10 harg10 X2 X3 X4 X5).1, y ∈ p.1.set := by
  unfold bodyRun; exact cover (F := F) c i arg2 harg2 arg3 harg3 arg4 harg4 arg5 harg5 arg6 harg6 arg7 harg7 arg8 harg8 arg9 harg9 arg10 harg10 _ _ _ _ _ _ _ _ _ _ _ y

end Cert.Proof.KI

end
-- ==== Proof.KI.Run.lean ====
/-
  The run of the whole program: the grid of the kernel's bodies, each output block at what its body leaves; and the frame.
-/
module

public import proofs.«01_k».proof.Proof.KI.Cover
public import proofs.«01_k».proof.Proof.Gen.KernelIdeal.Launch
public import proofs.«01_k».proof.Proof.Gen.KernelIdeal.Points
public import Idealize.ShloMosaic.Lib.Claim

@[expose] public section

set_option maxRecDepth 16384
set_option maxHeartbeats 800000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat BodyObligation)

local notation "𝕄" => MT nD τ sig Unit (Elt F) ℕ (UR sig nD τ) ℕ

/-- What the body leaves in its output block, from what its inputs read. -/
def leaves (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (x2 : Vec F S16 .f32) (x3 x4 x5 : Vec F S1x4096x256 .f32) : List (View.Piece (Elt F) S1x4096x256 .bf16) :=
  (bodyRun (F := F) c i arg2 harg2 arg3 harg3 arg4 harg4 arg5 harg5 arg6 harg6 arg7 harg7 arg8 harg8 arg9 harg9 arg10 harg10 (harg2.unread x2) (harg3.unread x3) (harg4.unread x4) (harg5.unread x5)).1

/-- The body from its inputs at read contents, its output and scratch at anything. -/
theorem sound_kernel (c : Dev nD) (E : Set ℕ) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole) (x2 : Vec F S16 .f32) (x3 x4 x5 : Vec F S1x4096x256 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5) ∗ (∃ d, owns (c : Thread nD τ) arg6 fullShare d)
        ∗ (∃ f, held (F := F) c arg7 f) ∗ (∃ f, held (F := F) c arg8 f) ∗ (∃ f, held (F := F) c arg9 f) ∗ (∃ f, held (F := F) c arg10 f)
        ∗ (iprop((owns (c : Thread nD τ) arg2 fullShare x2 ∗ owns (c : Thread nD τ) arg3 fullShare x3 ∗ owns (c : Thread nD τ) arg4 fullShare x4 ∗ owns (c : Thread nD τ) arg5 fullShare x5) ∗ owns (c : Thread nD τ) arg6 fullShare (View.canon (leaves (F := F) c i arg2 harg2 arg3 harg3 arg4 harg4 arg5 harg5 arg6 harg6 arg7 harg7 arg8 harg8 arg9 harg9 arg10 harg10 x2 x3 x4 x5))
          ∗ (∃ f, held (F := F) c arg7 f) ∗ (∃ f, held (F := F) c arg8 f) ∗ (∃ f, held (F := F) c arg9 f) ∗ (∃ f, held (F := F) c arg10 f)) -∗ K ⟨⟩))
      ⊢ wp frame (wpE (defs₀ (F := F)) 𝒱₀ (c : Thread nD τ) none) E (cc0_moba_prompt (F := F) i arg2 harg2 arg3 harg3 arg4 harg4 arg5 harg5 arg6 harg6 arg7 harg7 arg8 harg8 arg9 harg9 arg10 harg10) K := by
  unfold owns
  iintro ⟨⟨⟨%f2, %hf2, H2⟩, ⟨%f3, %hf3, H3⟩, ⟨%f4, %hf4, H4⟩, %f5, %hf5, H5⟩, ⟨%d6, %f6, -, H6⟩, ⟨%f7, H7⟩, ⟨%f8, H8⟩, ⟨%f9, H9⟩, ⟨%f10, H10⟩, Hk⟩
  have e2 := harg2.eq_unread hf2
  have e3 := harg3.eq_unread hf3
  have e4 := harg4.eq_unread hf4
  have e5 := harg5.eq_unread hf5
  iapply (wp_wand_r Idealize.ShloMosaic.frame (wpE (defs₀ (F := F)) 𝒱₀ (c : Thread nD τ) none) E)
  isplitl [H2 H3 H4 H5 H6 H7 H8 H9 H10]
  · iapply ((bodyRun (F := F) c i arg2 harg2 arg3 harg3 arg4 harg4 arg5 harg5 arg6 harg6 arg7 harg7 arg8 harg8 arg9 harg9 arg10 harg10 f2 f3 f4 f5).2 E f6 f7 f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %_ ⟨H2, H3, H4, H5, H6, H7, H8, H9, H10⟩
    iapply Hk
    isplitl [H2 H3 H4 H5]
    · isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      · iexists _; isplitr; · ipureintro; exact hf5
        iexact H5
    isplitl [H6]
    · iexists _; isplitr
      swap; · iexact H6
      ipureintro
      unfold leaves
      rw [← e2, ← e3, ← e4, ← e5]
      exact View.read_writes_eq_canon _ _ _ (cover_body (F := F) c i arg2 harg2 arg3 harg3 arg4 harg4 arg5 harg5 arg6 harg6 arg7 harg7 arg8 harg8 arg9 harg9 arg10 harg10 f2 f3 f4 f5)
    isplitl [H7]; · iexact H7
    isplitl [H8]; · iexact H8
    isplitl [H9]; · iexact H9
    iexact H10

/-- A buffer held whole is its memref held whole. -/
theorem held_whole (c : Dev nD) (b : Ref sig .tc) (f : Buf (Elt F) ((c : Thread nD τ).loc b)) :
    (held (F := F) c (Memref.whole b) f : sProp 𝕄) = ((c : Thread nD τ).loc b) ↦{fullShare} f := by
  show ((c : Thread nD τ).loc b ↦[(View.whole b).set]{fullShare} f : sProp 𝕄) = _
  rw [View.set_whole]

variable (m : (ℓ : Loc nD τ sig) → Buf (Elt F) ℓ) (ρ : Dev nD → PrngReg)

/-- What the body leaves at point `t`, from its input blocks. -/
def leavesAt (c : Dev nD) (t : Fin cfg0.N) : List (View.Piece (Elt F) S1x4096x256 .bf16) :=
  leaves (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t)

/-- The pipeline's proof data: each input's buffer stays at its block, the output's ends at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => View.canon (leavesAt m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = View.canon (leavesAt m c t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the run at the input blocks, the scratch taken from the invariant and put back. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after4,
    show (dats m 0 c).Φ t.succ = Pipeline.ΦA spec0 c from rfl, show (dats m 0 c).Φ t.castSucc = Pipeline.ΦA spec0 c from rfl]
  unfold Pipeline.ΦA
  rw [scopedRest0_eq]
  simp only [← held_whole]
  iintro ⟨⟨⟨H7, H8, H9, H10⟩, Hr⟩, Ho, ⟨%d2, H2⟩, ⟨%d3, H3⟩, ⟨%d4, H4⟩, ⟨%d5, H5⟩, ⟨%d6, H6⟩⟩
  iapply (sound_kernel (F := F) c Set.univ (grid0.coords t) _ _ _ _ _ _ _ _ _ _ _ _ _ _ _ _ _ _ (iblk m c 0 t) (iblk m c 1 t) (iblk m c 2 t) (iblk m c 3 t) _)
  isplitl [H2 H3 H4 H5]
  · isplitl [H2]; · iexact H2
    isplitl [H3]; · iexact H3
    isplitl [H4]; · iexact H4
    iexact H5
  isplitl [H6]; · iexists _; iexact H6
  isplitl [H7]; · iexact H7
  isplitl [H8]; · iexact H8
  isplitl [H9]; · iexact H9
  isplitl [H10]; · iexact H10
  iintro ⟨⟨H2, H3, H4, H5⟩, H6, H7, H8, H9, H10⟩
  isplitl [H7 H8 H9 H10 Hr]
  · isplitr [Hr]
    · isplitl [H7]; · iexact H7
      isplitl [H8]; · iexact H8
      isplitl [H9]; · iexact H9
      iexact H10
    · iexact Hr
  isplitl [Ho]; · iexact Ho
  isplitl [H2]; · iexact H2
  isplitl [H3]; · iexact H3
  isplitl [H4]; · iexact H4
  isplitl [H5]; · iexact H5
  unfold leavesAt
  iexact H6

theorem defs₀_row (t : Fin cfg0.N) : defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The program runs; the arrays end at what the proof data say, every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the program runs, its argument arrays end unchanged, every semaphore counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Proof.KI

end
-- ==== Proof.KI.Flow.lean ====
/-
  What the kernel computes for one query block and one head, as functions of the vectors it loads: the routing
  scores, the count of key blocks ahead of each, the bias they select, the augmented queries, one key block's scores,
  the start of the running softmax, one step of it over 256 or 512 keys, and the last division.
-/
module

public import proofs.«01_k».proof.Proof.Gen.KernelIdeal.Skeleton
public import Idealize.ShloMosaic.Lib.Pointwise

@[expose] public section

set_option maxRecDepth 16384
set_option maxHeartbeats 1000000

noncomputable section

namespace Cert.Proof.KI.Flow

open Cert.KernelIdeal Cert.KernelIdeal.Gen
open Idealize.ShloMosaic Idealize.ShloMosaic.TcCoe Idealize.SL.Sem

/-- The routing scores of sixteen key blocks for 256 queries, `-∞` at and past block `a`; a high part and a low part of the means. -/
def xsF (mh ml : FVec Ideal S16x128 .bf16) (io : IVec S16x256 32) (a : BitVec 32) (q : FVec Ideal S256x128 .f32) : FVec Ideal S16x256 .f32 :=
  select (cmpi .slt io (broadcast S16x256 a))
    (addf (addf
      (matmul dot_S16x128_S256x128_S16x256_1_1_0_0_n_n none mh (truncf .bf16 (subf q (extf .f32 (truncf .bf16 q bitsLt_bf16_f32) bitsLt_bf16_f32)) bitsLt_bf16_f32) (constant S16x256 .f32 0x00000000#32))
      (matmul dot_S16x128_S256x128_S16x256_1_1_0_0_n_n none ml (truncf .bf16 q bitsLt_bf16_f32) (constant S16x256 .f32 0x00000000#32)))
      (matmul dot_S16x128_S256x128_S16x256_1_1_0_0_n_n none mh (truncf .bf16 q bitsLt_bf16_f32) (constant S16x256 .f32 0x00000000#32)))
    (broadcast S16x256 (Scalar.ofBits .f32 0xFF800000#32))

/-- One step of the count: one more where key block `n` is ahead. -/
def cntStep (n : ℕ) (h : S16x256.Slices ![n, 0] S1x256) (io : IVec S16x256 32) (xs acc : FVec Ideal S16x256 .f32) : FVec Ideal S16x256 .f32 :=
  addf acc (select (ori (cmpf .ogt (broadcastTo S16x256 (extractStridedSlice S1x256 ![n, 0] xs h) broadcasts_S1x256_S16x256) xs)
      (andi (cmpf .oeq (broadcastTo S16x256 (extractStridedSlice S1x256 ![n, 0] xs h) broadcasts_S1x256_S16x256) xs) (cmpi .sgt io (broadcast S16x256 (BitVec.ofNat 32 n)))))
    (broadcast S16x256 (Scalar.ofBits .f32 0x3F800000#32)) (broadcast S16x256 (Scalar.ofBits .f32 0x00000000#32)))

theorem cnt_slices (n : Fin 16) : S16x256.Slices ![n.val, 0] S1x256 := by revert n; decide

/-- The count after the first `n` key blocks. -/
def cntF (io : IVec S16x256 32) (xs : FVec Ideal S16x256 .f32) : ℕ → FVec Ideal S16x256 .f32
  | 0 => broadcast S16x256 (Scalar.ofBits .f32 0x00000000#32)
  | n + 1 => if h : n < 16 then cntStep n (cnt_slices ⟨n, h⟩) io xs (cntF io xs n) else cntF io xs n

/-- The bias the routing selects: `0` where a key block is attended to, the mask elsewhere. -/
def selF (io : IVec S16x256 32) (a : BitVec 32) (xs : FVec Ideal S16x256 .f32) : FVec Ideal S16x256 .f32 :=
  select (ori (andi (cmpf .olt (cntF io xs 16) (broadcast S16x256 (Scalar.ofBits .f32 0x40400000#32))) (cmpi .slt io (broadcast S16x256 a))) (cmpi .eq io (broadcast S16x256 a)))
    (broadcast S16x256 (Scalar.ofBits .f32 0x00000000#32)) (broadcast S16x256 (Named.named κ "mask" 0xF149F2CA#32))

/-- The scaled queries of a block, transposed, over the routing bias, over zeros. -/
def qaugF (q : FVec Ideal S256x128 .f32) (sel : FVec Ideal S16x256 .f32) : FVec Ideal S256x256 .bf16 :=
  truncf .bf16 (concatenate S256x256 0 [⟨S128x256, transpose S128x256 [1, 0] (mulf q (broadcast S256x128 (Scalar.ofBits .f32 0x3DB504F3#32))) transposes_S256x128_p1_0_S128x256⟩, ⟨S16x256, sel⟩,
    ⟨S112x256, broadcast S112x256 (Scalar.ofBits .f32 0x00000000#32)⟩] concatenates_S128x256_S16x256_S112x256_S256x256_d0) bitsLt_bf16_f32

/-- The scores of 256 keys. -/
def scoreF (kb : FVec Ideal S1x256x256 .bf16) (qa : FVec Ideal S256x256 .bf16) (bb : FVec Ideal S1x256x256 .f32) : FVec Ideal S256x256 .f32 :=
  addf (matmul dot_S256x256_S256x256_S256x256_1_0_0_1_n_n none (shapeCast S256x256 kb shapeCasts_S1x256x256_S256x256) qa (constant S256x256 .f32 0x00000000#32))
    (shapeCast S256x256 bb shapeCasts_S1x256x256_S256x256)

/-- The greatest score of each query among 256 keys. -/
def topF (s : FVec Ideal S256x256 .f32) : FVec Ideal S1x256 .f32 :=
  shapeCast S1x256 (multiReduction .maximumf [0] S256 s 0xFF800000#32 reduces_S256x256_S256 (.inl rfl) rfl) shapeCasts_S256_S1x256

/-- The weighted values of the first 256 keys. -/
def startF (s : FVec Ideal S256x256 .f32) (vb : FVec Ideal S1x1x144x256 .bf16) : FVec Ideal S144x256 .f32 :=
  matmul dot_S144x256_S256x256_S144x256_1_0_0_1_n_n none (shapeCast S144x256 vb shapeCasts_S1x1x144x256_S144x256)
    (truncf .bf16 (exp (subf s (broadcastTo S256x256 (topF s) broadcasts_S1x256_S256x256))) bitsLt_bf16_f32) (constant S144x256 .f32 0x00000000#32)

/-- The running maximum after 256 more keys, whose scores are all `c` short. -/
def topStepF (m : FVec Ideal S1x256 .f32) (s : FVec Ideal S256x256 .f32) (c : Ideal .f32) : FVec Ideal S1x256 .f32 :=
  maximumf m (addf (topF s) (broadcast S1x256 c))

/-- The weighted values after 256 more keys. -/
def accStepF (m : FVec Ideal S1x256 .f32) (A : FVec Ideal S144x256 .f32) (s : FVec Ideal S256x256 .f32) (c : Ideal .f32) (vb : FVec Ideal S1x1x144x256 .bf16) : FVec Ideal S144x256 .f32 :=
  addf (mulf (broadcastTo S144x256 (exp (subf m (topStepF m s c))) broadcasts_S1x256_S144x256) A)
    (matmul dot_S144x256_S256x256_S144x256_1_0_0_1_n_n none (shapeCast S144x256 vb shapeCasts_S1x1x144x256_S144x256)
      (truncf .bf16 (exp (subf s (broadcastTo S256x256 (subf (topStepF m s c) (broadcast S1x256 c)) broadcasts_S1x256_S256x256))) bitsLt_bf16_f32) (constant S144x256 .f32 0x00000000#32))

/-- The scores of 512 keys. -/
def scoreF2 (kb : FVec Ideal S1x512x256 .bf16) (qa : FVec Ideal S256x256 .bf16) (bb : FVec Ideal S1x512x256 .f32) : FVec Ideal S512x256 .f32 :=
  addf (matmul dot_S512x256_S256x256_S512x256_1_0_0_1_n_n none (shapeCast S512x256 kb shapeCasts_S1x512x256_S512x256) qa (constant S512x256 .f32 0x00000000#32))
    (shapeCast S512x256 bb shapeCasts_S1x512x256_S512x256)

/-- The running maximum after 512 more keys. -/
def topStepF2 (m : FVec Ideal S1x256 .f32) (s : FVec Ideal S512x256 .f32) (c : Ideal .f32) : FVec Ideal S1x256 .f32 :=
  maximumf m (addf (shapeCast S1x256 (multiReduction .maximumf [0] S256 s 0xFF800000#32 reduces_S512x256_S256 (.inl rfl) rfl) shapeCasts_S256_S1x256) (broadcast S1x256 c))

/-- The weighted values after 512 more keys, in two blocks. -/
def accStepF2 (m : FVec Ideal S1x256 .f32) (A : FVec Ideal S144x256 .f32) (s : FVec Ideal S512x256 .f32) (c : Ideal .f32) (vb vb' : FVec Ideal S1x1x144x256 .bf16) : FVec Ideal S144x256 .f32 :=
  addf (mulf (broadcastTo S144x256 (exp (subf m (topStepF2 m s c))) broadcasts_S1x256_S144x256) A)
    (matmul dot_S144x512_S512x256_S144x256_1_0_0_1_n_n none
      (concatenate S144x512 1 [⟨S144x256, shapeCast S144x256 vb shapeCasts_S1x1x144x256_S144x256⟩, ⟨S144x256, shapeCast S144x256 vb' shapeCasts_S1x1x144x256_S144x256⟩] concatenates_S144x256_S144x256_S144x512_d1)
      (truncf .bf16 (exp (subf s (broadcastTo S512x256 (subf (topStepF2 m s c) (broadcast S1x256 c)) broadcasts_S1x256_S512x256))) bitsLt_bf16_f32) (constant S144x256 .f32 0x00000000#32))

end Cert.Proof.KI.Flow

end
-- ==== Proof.KI.Parts.lean ====
/-
  One query block's stored value, in terms of the loads: the sixteen-row count, the running softmax and the division are
  the functions of Flow.lean at both heads and both parities.
-/
module

public import proofs.«01_k».proof.Proof.KI.Loop
public import proofs.«01_k».proof.Proof.KI.Flow

@[expose] public section

set_option maxRecDepth 65536
set_option maxHeartbeats 2000000

noncomputable section

namespace Cert.Proof.KI

open Cert.KernelIdeal Cert.KernelIdeal.Gen
open Idealize.ShloMosaic Idealize.ShloMosaic.TcCoe Idealize.SL.Sem
open Flow

variable (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole)
  (v3 v7 : Ideal .f32) (mh0 ml0 mh1 ml1 : FVec Ideal S16x128 .bf16) (io : IVec S16x256 32)
  (X3 : BufTy.Contents (Elt Ideal) arg3.view.ty) (X7 : BufTy.Contents (Elt Ideal) arg7.view.ty) (X8 : BufTy.Contents (Elt Ideal) arg8.view.ty) (X10 : BufTy.Contents (Elt Ideal) arg10.view.ty)
  (k : Fin k0_t1_loop.trips)

/-- The number of query block `k`, as the word the kernel carries. -/
abbrev blkNo (k : Fin k0_t1_loop.trips) : BitVec 32 := Scf.iv 0#32 1#32 k

/-- The parity of query block `k`, as the kernel computes it. -/
abbrev blkPar (k : Fin k0_t1_loop.trips) : BitVec 32 := Scalar.select (0#1) (Scalar.addi (Scalar.remsi (blkNo k) 2#32) 2#32) (Scalar.remsi (blkNo k) 2#32)

/-- The queries of block `k`, head 0. -/
abbrev q0 : FVec Ideal S256x128 .f32 := shapeCast S256x128 (View.readAt (Elt Ideal) arg3.view (Rect.unit (s := S1x4096x256) (k0_off2 k) S1x256x128.size (k0_off2_inb k)).toLoadRect X3) shapeCasts_S1x256x128_S256x128
/-- The queries of block `k`, head 1. -/
abbrev q1 : FVec Ideal S256x128 .f32 := shapeCast S256x128 (View.readAt (Elt Ideal) arg3.view (Rect.unit (s := S1x4096x256) (k0_off5 k) S1x256x128.size (k0_off5_inb k)).toLoadRect X3) shapeCasts_S1x256x128_S256x128
/-- The augmented queries of block `k`, head 0. -/
abbrev qa0 : FVec Ideal S256x256 .bf16 := qaugF (q0 arg3 X3 k) (selF io (blkNo k) (xsF mh0 ml0 io (blkNo k) (q0 arg3 X3 k)))
/-- The augmented queries of block `k`, head 1. -/
abbrev qa1 : FVec Ideal S256x256 .bf16 := qaugF (q1 arg3 X3 k) (selF io (blkNo k) (xsF mh1 ml1 io (blkNo k) (q1 arg3 X3 k)))
/-- The scores of the block's own keys, head 0. -/
abbrev own0 : FVec Ideal S256x256 .f32 := scoreF (View.readAt (Elt Ideal) arg7.view (Rect.unit (s := S2x4096x256) (k0_off3 k) S1x256x256.size (k0_off3_inb k)).toLoadRect X7) (qa0 arg3 mh0 ml0 io X3 k) (View.readAt (Elt Ideal) arg10.view (Rect.unit (s := S2x768x256) ![0, 512, 0] S1x256x256.size inb_S2x768x256_S1x256x256_0_512_0).toLoadRect X10)
/-- The scores of the block's own keys, head 1. -/
abbrev own1 : FVec Ideal S256x256 .f32 := scoreF (View.readAt (Elt Ideal) arg7.view (Rect.unit (s := S2x4096x256) (k0_off6 k) S1x256x256.size (k0_off6_inb k)).toLoadRect X7) (qa1 arg3 mh1 ml1 io X3 k) (View.readAt (Elt Ideal) arg10.view (Rect.unit (s := S2x768x256) ![1, 512, 0] S1x256x256.size inb_S2x768x256_S1x256x256_1_512_0).toLoadRect X10)
/-- The running softmax after the block's own keys, both heads. -/
abbrev startSt : FVec Ideal S1x256 .f32 × FVec Ideal S144x256 .f32 × FVec Ideal S1x256 .f32 × FVec Ideal S144x256 .f32 :=
  (topF (own0 arg3 arg7 arg10 mh0 ml0 io X3 X7 X10 k), startF (own0 arg3 arg7 arg10 mh0 ml0 io X3 X7 X10 k) (View.readAt (Elt Ideal) arg8.view (Rect.unit (s := S2x16x144x256) (k0_off4 k) S1x1x144x256.size (k0_off4_inb k)).toLoadRect X8),
   topF (own1 arg3 arg7 arg10 mh1 ml1 io X3 X7 X10 k), startF (own1 arg3 arg7 arg10 mh1 ml1 io X3 X7 X10 k) (View.readAt (Elt Ideal) arg8.view (Rect.unit (s := S2x16x144x256) (k0_off7 k) S1x1x144x256.size (k0_off7_inb k)).toLoadRect X8))
/-- The scores of key block 0, head 0. -/
abbrev zero0 : FVec Ideal S256x256 .f32 := scoreF (View.readAt (Elt Ideal) arg7.view (Rect.unit (s := S2x4096x256) ![0, 0, 0] S1x256x256.size inb_S2x4096x256_S1x256x256_0_0_0).toLoadRect X7) (qa0 arg3 mh0 ml0 io X3 k) (View.readAt (Elt Ideal) arg10.view (Rect.unit (s := S2x768x256) ![0, 256, 0] S1x256x256.size inb_S2x768x256_S1x256x256_0_256_0).toLoadRect X10)
/-- The scores of key block 0, head 1. -/
abbrev zero1 : FVec Ideal S256x256 .f32 := scoreF (View.readAt (Elt Ideal) arg7.view (Rect.unit (s := S2x4096x256) ![1, 0, 0] S1x256x256.size inb_S2x4096x256_S1x256x256_1_0_0).toLoadRect X7) (qa1 arg3 mh1 ml1 io X3 k) (View.readAt (Elt Ideal) arg10.view (Rect.unit (s := S2x768x256) ![1, 256, 0] S1x256x256.size inb_S2x768x256_S1x256x256_1_256_0).toLoadRect X10)
/-- How far key block 0 is from the block, in the slope `v`. -/
abbrev far0 (v : Ideal .f32) : Ideal .f32 := Scalar.mulf (Scalar.subf (Scalar.ofBits .f32 0x00000000#32) v) (Scalar.sitofp .f32 (Scalar.muli (blkNo k) 256#32))
/-- The running softmax after the block's own keys and key block 0, both heads. -/
abbrev oddSt : FVec Ideal S1x256 .f32 × FVec Ideal S144x256 .f32 × FVec Ideal S1x256 .f32 × FVec Ideal S144x256 .f32 :=
  let s := startSt arg3 arg7 arg8 arg10 mh0 ml0 mh1 ml1 io X3 X7 X8 X10 k
  (topStepF s.1 (zero0 arg3 arg7 arg10 mh0 ml0 io X3 X7 X10 k) (far0 k v3),
   accStepF s.1 s.2.1 (zero0 arg3 arg7 arg10 mh0 ml0 io X3 X7 X10 k) (far0 k v3) (View.readAt (Elt Ideal) arg8.view (Rect.unit (s := S2x16x144x256) ![0, 0, 0, 0] S1x1x144x256.size inb_S2x16x144x256_S1x1x144x256_0_0_0_0).toLoadRect X8),
   topStepF s.2.2.1 (zero1 arg3 arg7 arg10 mh1 ml1 io X3 X7 X10 k) (far0 k v7),
   accStepF s.2.2.1 s.2.2.2 (zero1 arg3 arg7 arg10 mh1 ml1 io X3 X7 X10 k) (far0 k v7) (View.readAt (Elt Ideal) arg8.view (Rect.unit (s := S2x16x144x256) ![1, 0, 0, 0] S1x1x144x256.size inb_S2x16x144x256_S1x1x144x256_1_0_0_0).toLoadRect X8))

/-- The running softmax after `n` pairs of earlier key blocks, from `init`. -/
abbrev pairSt (init : FVec Ideal S1x256 .f32 × FVec Ideal S144x256 .f32 × FVec Ideal S1x256 .f32 × FVec Ideal S144x256 .f32) (n : ℕ) :=
  st_k0_t2 (F := Ideal) 𝒱₀ c none i arg2 harg2 arg3 harg3 arg4 harg4 arg5 harg5 arg6 harg6 arg7 harg7 arg8 harg8 arg9 harg9 arg10 harg10 v3 v7 k (blkNo k) (qa0 arg3 mh0 ml0 io X3 k) (blank _ _) (blank _ _) (qa1 arg3 mh1 ml1 io X3 k) (blank _ _) (blank _ _) (blank (F := Ideal) S1x1x144x256 .bf16) (blkPar k) X7 X8 X10 init n

/-- The two pieces a query block stores once the running softmax is `s`. -/
abbrev outPieces (k : Fin k0_t1_loop.trips) (s : FVec Ideal S1x256 .f32 × FVec Ideal S144x256 .f32 × FVec Ideal S1x256 .f32 × FVec Ideal S144x256 .f32) : List (View.Piece (Elt Ideal) S1x4096x256 .bf16) :=
  [⟨Rect.unit (k0_off5 k) S1x256x128.size (k0_off5_inb k), k0_pay1 s.2.2.2⟩, ⟨Rect.unit (k0_off2 k) S1x256x128.size (k0_off2_inb k), k0_pay1 s.2.1⟩]

theorem t3_trips : ∀ k : Fin k0_t1_loop.trips, (k0_t3_loop k).trips = 0 := by decide +kernel

theorem odd_cnt0 : oddRun.sl.v1297 (F := Ideal) arg3 mh0 ml0 io X3 k = cntF io (oddRun.sl.v1127 (F := Ideal) arg3 mh0 ml0 io X3 k) 13 := rfl
theorem odd_cnt1 : oddRun.sl.v1582 (F := Ideal) arg3 mh1 ml1 io X3 k = cntF io (oddRun.sl.v1386 (F := Ideal) arg3 mh1 ml1 io X3 k) 15 := rfl
theorem odd_xs0 : oddRun.sl.v1127 (F := Ideal) arg3 mh0 ml0 io X3 k = xsF mh0 ml0 io (blkNo k) (q0 arg3 X3 k) := rfl
theorem odd_xs1 : oddRun.sl.v1386 (F := Ideal) arg3 mh1 ml1 io X3 k = xsF mh1 ml1 io (blkNo k) (q1 arg3 X3 k) := rfl
theorem odd_sel0 : oddRun.sl.r (F := Ideal) arg3 mh0 ml0 io X3 k = selF io (blkNo k) (oddRun.sl.v1127 (F := Ideal) arg3 mh0 ml0 io X3 k) := by
  unfold oddRun.sl.r; rw [odd_cnt0]; rfl
theorem odd_qa0 : oddRun.sl.v1353 (F := Ideal) arg3 mh0 ml0 io X3 k = qa0 arg3 mh0 ml0 io X3 k := by
  unfold oddRun.sl.v1353 oddRun.sl.v1352; rw [odd_sel0, odd_xs0]; rfl
theorem odd_qa1_aux : oddRun.sl.r_1 (F := Ideal) arg3 mh1 ml1 io X3 k = qaugF (q1 arg3 X3 k) (selF io (blkNo k) (oddRun.sl.v1386 (F := Ideal) arg3 mh1 ml1 io X3 k)) := by
  unfold oddRun.sl.r_1; rw [odd_cnt1]; rfl
theorem odd_qa1 : oddRun.sl.r_1 (F := Ideal) arg3 mh1 ml1 io X3 k = qa1 arg3 mh1 ml1 io X3 k := by rw [odd_qa1_aux, odd_xs1]
theorem odd_own0 : oddRun.sl.v1360 (F := Ideal) arg3 arg7 arg10 mh0 ml0 io X3 X7 X10 k = own0 arg3 arg7 arg10 mh0 ml0 io X3 X7 X10 k := by
  unfold oddRun.sl.v1360 oddRun.sl.v1357; rw [odd_qa0]; rfl
theorem odd_top0 : oddRun.sl.v1362 (F := Ideal) arg3 arg7 arg10 mh0 ml0 io X3 X7 X10 k = topF (own0 arg3 arg7 arg10 mh0 ml0 io X3 X7 X10 k) := by
  unfold oddRun.sl.v1362 oddRun.sl.v1361; rw [odd_own0]; rfl
theorem odd_start0 : oddRun.sl.v1370 (F := Ideal) arg3 arg7 arg8 arg10 mh0 ml0 io X3 X7 X8 X10 k = startF (own0 arg3 arg7 arg10 mh0 ml0 io X3 X7 X10 k) (View.readAt (Elt Ideal) arg8.view (Rect.unit (s := S2x16x144x256) (k0_off4 k) S1x1x144x256.size (k0_off4_inb k)).toLoadRect X8) := by
  unfold oddRun.sl.v1370 oddRun.sl.v1369 oddRun.sl.v1365 oddRun.sl.v1364 oddRun.sl.v1363; rw [odd_top0, odd_own0]; rfl
theorem odd_top1_aux : oddRun.sl.r_2 (F := Ideal) arg3 arg7 arg10 mh1 ml1 io X3 X7 X10 k = topF (scoreF (View.readAt (Elt Ideal) arg7.view (Rect.unit (s := S2x4096x256) (k0_off6 k) S1x256x256.size (k0_off6_inb k)).toLoadRect X7) (oddRun.sl.r_1 (F := Ideal) arg3 mh1 ml1 io X3 k) (View.readAt (Elt Ideal) arg10.view (Rect.unit (s := S2x768x256) ![1, 512, 0] S1x256x256.size inb_S2x768x256_S1x256x256_1_512_0).toLoadRect X10)) := rfl
theorem odd_top1 : oddRun.sl.r_2 (F := Ideal) arg3 arg7 arg10 mh1 ml1 io X3 X7 X10 k = topF (own1 arg3 arg7 arg10 mh1 ml1 io X3 X7 X10 k) := by
  rw [odd_top1_aux, odd_qa1]
theorem odd_start1_aux : oddRun.sl.v1629 (F := Ideal) arg3 arg7 arg8 arg10 mh1 ml1 io X3 X7 X8 X10 k = startF (scoreF (View.readAt (Elt Ideal) arg7.view (Rect.unit (s := S2x4096x256) (k0_off6 k) S1x256x256.size (k0_off6_inb k)).toLoadRect X7) (oddRun.sl.r_1 (F := Ideal) arg3 mh1 ml1 io X3 k) (View.readAt (Elt Ideal) arg10.view (Rect.unit (s := S2x768x256) ![1, 512, 0] S1x256x256.size inb_S2x768x256_S1x256x256_1_512_0).toLoadRect X10)) (View.readAt (Elt Ideal) arg8.view (Rect.unit (s := S2x16x144x256) (k0_off7 k) S1x1x144x256.size (k0_off7_inb k)).toLoadRect X8) := rfl
theorem odd_start1 : oddRun.sl.v1629 (F := Ideal) arg3 arg7 arg8 arg10 mh1 ml1 io X3 X7 X8 X10 k = startF (own1 arg3 arg7 arg10 mh1 ml1 io X3 X7 X10 k) (View.readAt (Elt Ideal) arg8.view (Rect.unit (s := S2x16x144x256) (k0_off7 k) S1x1x144x256.size (k0_off7_inb k)).toLoadRect X8) := by
  rw [odd_start1_aux, odd_qa1]

/-- How far a pair of key blocks is from the block, in the slope `v`. -/
abbrev farP (v : Ideal .f32) (n : Fin (k0_t2_loop k).trips) : Ideal .f32 := k0_pay9 (F := Ideal) v k (blkNo k) (blkPar k) 0#32 1#32 n
/-- The scores of a pair of key blocks, head 0. -/
abbrev pair0 (n : Fin (k0_t2_loop k).trips) : FVec Ideal S512x256 .f32 := scoreF2 (View.readAt (Elt Ideal) arg7.view (Rect.unit (s := S2x4096x256) (k0_off8 k n) S1x512x256.size (k0_off8_inb k n)).toLoadRect X7) (qa0 arg3 mh0 ml0 io X3 k) (View.readAt (Elt Ideal) arg10.view (Rect.unit (s := S2x768x256) ![0, 0, 0] S1x512x256.size inb_S2x768x256_S1x512x256_0_0_0).toLoadRect X10)
/-- The scores of a pair of key blocks, head 1. -/
abbrev pair1 (n : Fin (k0_t2_loop k).trips) : FVec Ideal S512x256 .f32 := scoreF2 (View.readAt (Elt Ideal) arg7.view (Rect.unit (s := S2x4096x256) (k0_off11 k n) S1x512x256.size (k0_off11_inb k n)).toLoadRect X7) (qa1 arg3 mh1 ml1 io X3 k) (View.readAt (Elt Ideal) arg10.view (Rect.unit (s := S2x768x256) ![1, 0, 0] S1x512x256.size inb_S2x768x256_S1x512x256_1_0_0).toLoadRect X10)
/-- The running softmax after one more pair of key blocks, both heads. -/
abbrev pairStep (n : Fin (k0_t2_loop k).trips) (s : FVec Ideal S1x256 .f32 × FVec Ideal S144x256 .f32 × FVec Ideal S1x256 .f32 × FVec Ideal S144x256 .f32) : FVec Ideal S1x256 .f32 × FVec Ideal S144x256 .f32 × FVec Ideal S1x256 .f32 × FVec Ideal S144x256 .f32 :=
  (topStepF2 s.1 (pair0 arg3 arg7 arg10 mh0 ml0 io X3 X7 X10 k n) (farP k v3 n),
   accStepF2 s.1 s.2.1 (pair0 arg3 arg7 arg10 mh0 ml0 io X3 X7 X10 k n) (farP k v3 n) (View.readAt (Elt Ideal) arg8.view (Rect.unit (s := S2x16x144x256) (k0_off9 k n) S1x1x144x256.size (k0_off9_inb k n)).toLoadRect X8) (View.readAt (Elt Ideal) arg8.view (Rect.unit (s := S2x16x144x256) (k0_off10 k n) S1x1x144x256.size (k0_off10_inb k n)).toLoadRect X8),
   topStepF2 s.2.2.1 (pair1 arg3 arg7 arg10 mh1 ml1 io X3 X7 X10 k n) (farP k v7 n),
   accStepF2 s.2.2.1 s.2.2.2 (pair1 arg3 arg7 arg10 mh1 ml1 io X3 X7 X10 k n) (farP k v7 n) (View.readAt (Elt Ideal) arg8.view (Rect.unit (s := S2x16x144x256) (k0_off12 k n) S1x1x144x256.size (k0_off12_inb k n)).toLoadRect X8) (View.readAt (Elt Ideal) arg8.view (Rect.unit (s := S2x16x144x256) (k0_off13 k n) S1x1x144x256.size (k0_off13_inb k n)).toLoadRect X8))

theorem odd_step0 : oddRun.sl.v1704 (F := Ideal) arg3 arg7 arg10 v3 mh0 ml0 io X3 X7 X10 k = topStepF (oddRun.sl.v1362 (F := Ideal) arg3 arg7 arg10 mh0 ml0 io X3 X7 X10 k) (scoreF (View.readAt (Elt Ideal) arg7.view (Rect.unit (s := S2x4096x256) ![0, 0, 0] S1x256x256.size inb_S2x4096x256_S1x256x256_0_0_0).toLoadRect X7) (oddRun.sl.v1353 (F := Ideal) arg3 mh0 ml0 io X3 k) (View.readAt (Elt Ideal) arg10.view (Rect.unit (s := S2x768x256) ![0, 256, 0] S1x256x256.size inb_S2x768x256_S1x256x256_0_256_0).toLoadRect X10)) (far0 k v3) := rfl
theorem odd_acc0 : oddRun.sl.v1716 (F := Ideal) arg3 arg7 arg8 arg10 v3 mh0 ml0 io X3 X7 X8 X10 k = accStepF (oddRun.sl.v1362 (F := Ideal) arg3 arg7 arg10 mh0 ml0 io X3 X7 X10 k) (oddRun.sl.v1370 (F := Ideal) arg3 arg7 arg8 arg10 mh0 ml0 io X3 X7 X8 X10 k) (scoreF (View.readAt (Elt Ideal) arg7.view (Rect.unit (s := S2x4096x256) ![0, 0, 0] S1x256x256.size inb_S2x4096x256_S1x256x256_0_0_0).toLoadRect X7) (oddRun.sl.v1353 (F := Ideal) arg3 mh0 ml0 io X3 k) (View.readAt (Elt Ideal) arg10.view (Rect.unit (s := S2x768x256) ![0, 256, 0] S1x256x256.size inb_S2x768x256_S1x256x256_0_256_0).toLoadRect X10)) (far0 k v3) (View.readAt (Elt Ideal) arg8.view (Rect.unit (s := S2x16x144x256) ![0, 0, 0, 0] S1x1x144x256.size inb_S2x16x144x256_S1x1x144x256_0_0_0_0).toLoadRect X8) := rfl
theorem odd_step1 : oddRun.sl.v1733 (F := Ideal) arg3 arg7 arg10 v7 mh1 ml1 io X3 X7 X10 k = topStepF (oddRun.sl.r_2 (F := Ideal) arg3 arg7 arg10 mh1 ml1 io X3 X7 X10 k) (scoreF (View.readAt (Elt Ideal) arg7.view (Rect.unit (s := S2x4096x256) ![1, 0, 0] S1x256x256.size inb_S2x4096x256_S1x256x256_1_0_0).toLoadRect X7) (oddRun.sl.r_1 (F := Ideal) arg3 mh1 ml1 io X3 k) (View.readAt (Elt Ideal) arg10.view (Rect.unit (s := S2x768x256) ![1, 256, 0] S1x256x256.size inb_S2x768x256_S1x256x256_1_256_0).toLoadRect X10)) (far0 k v7) := rfl
theorem odd_acc1 : oddRun.sl.v1745 (F := Ideal) arg3 arg7 arg8 arg10 v7 mh1 ml1 io X3 X7 X8 X10 k = accStepF (oddRun.sl.r_2 (F := Ideal) arg3 arg7 arg10 mh1 ml1 io X3 X7 X10 k) (oddRun.sl.v1629 (F := Ideal) arg3 arg7 arg8 arg10 mh1 ml1 io X3 X7 X8 X10 k) (scoreF (View.readAt (Elt Ideal) arg7.view (Rect.unit (s := S2x4096x256) ![1, 0, 0] S1x256x256.size inb_S2x4096x256_S1x256x256_1_0_0).toLoadRect X7) (oddRun.sl.r_1 (F := Ideal) arg3 mh1 ml1 io X3 k) (View.readAt (Elt Ideal) arg10.view (Rect.unit (s := S2x768x256) ![1, 256, 0] S1x256x256.size inb_S2x768x256_S1x256x256_1_256_0).toLoadRect X10)) (far0 k v7) (View.readAt (Elt Ideal) arg8.view (Rect.unit (s := S2x16x144x256) ![1, 0, 0, 0] S1x1x144x256.size inb_S2x16x144x256_S1x1x144x256_1_0_0_0).toLoadRect X8) := rfl

/-- The loop past the last pair runs no trip. -/
theorem last_eq (v1353 v1612 : FVec Ideal S256x256 .bf16) (a b d : BitVec 32) (init : FVec Ideal S1x256 .f32 × FVec Ideal S144x256 .f32 × FVec Ideal S1x256 .f32 × FVec Ideal S144x256 .f32) :
    st_k0_t3 (F := Ideal) 𝒱₀ c none i arg2 harg2 arg3 harg3 arg4 harg4 arg5 harg5 arg6 harg6 arg7 harg7 arg8 harg8 arg9 harg9 arg10 harg10 v3 v7 k (blkNo k) v1353 v1612 a b d X7 X8 X10 init (k0_t3_loop k).trips = init := by
  rw [t3_trips]; rfl

theorem pay2_eq (x : FVec Ideal S144x256 .f32) : k0_pay2 (F := Ideal) x = k0_pay1 (F := Ideal) x := rfl

/-- What an odd query block stores. -/
theorem odd_pieces (hk : k.val % 2 = 1) :
    (oddRun (F := Ideal) c i arg2 harg2 arg3 harg3 arg4 harg4 arg5 harg5 arg6 harg6 arg7 harg7 arg8 harg8 arg9 harg9 arg10 harg10 v3 v7 mh0 ml0 mh1 ml1 io X3 X7 X8 X10 k hk).1
      = outPieces k (pairSt c i arg2 harg2 arg3 harg3 arg4 harg4 arg5 harg5 arg6 harg6 arg7 harg7 arg8 harg8 arg9 harg9 arg10 harg10 v3 v7 mh0 ml0 mh1 ml1 io X3 X7 X8 X10 k (oddSt arg3 arg7 arg8 arg10 v3 v7 mh0 ml0 mh1 ml1 io X3 X7 X8 X10 k) (k0_t2_loop k).trips) := by
  unfold oddRun
  refine Eq.trans (b := outPieces k (st_k0_t3 (F := Ideal) 𝒱₀ c none i arg2 harg2 arg3 harg3 arg4 harg4 arg5 harg5 arg6 harg6 arg7 harg7 arg8 harg8 arg9 harg9 arg10 harg10 v3 v7 k (blkNo k) (oddRun.sl.v1353 (F := Ideal) arg3 mh0 ml0 io X3 k) (oddRun.sl.r_1 (F := Ideal) arg3 mh1 ml1 io X3 k) (oddRun.sl.v1639 k) (oddRun.sl.v1665 k) 1#32 X7 X8 X10
    (oddRun.sl.r_5 (F := Ideal) c i arg2 harg2 arg3 harg3 arg4 harg4 arg5 harg5 arg6 harg6 arg7 harg7 arg8 harg8 arg9 harg9 arg10 harg10 v3 v7 mh0 ml0 mh1 ml1 io X3 X7 X8 X10 k, oddRun.sl.r_6 (F := Ideal) c i arg2 harg2 arg3 harg3 arg4 harg4 arg5 harg5 arg6 harg6 arg7 harg7 arg8 harg8 arg9 harg9 arg10 harg10 v3 v7 mh0 ml0 mh1 ml1 io X3 X7 X8 X10 k, oddRun.sl.r_7 (F := Ideal) c i arg2 harg2 arg3 harg3 arg4 harg4 arg5 harg5 arg6 harg6 arg7 harg7 arg8 harg8 arg9 harg9 arg10 harg10 v3 v7 mh0 ml0 mh1 ml1 io X3 X7 X8 X10 k, oddRun.sl.r_8 (F := Ideal) c i arg2 harg2 arg3 harg3 arg4 harg4 arg5 harg5 arg6 harg6 arg7 harg7 arg8 harg8 arg9 harg9 arg10 harg10 v3 v7 mh0 ml0 mh1 ml1 io X3 X7 X8 X10 k) (k0_t3_loop k).trips)) rfl ?_
  rw [last_eq]
  refine Eq.trans (b := outPieces k (st_k0_t2 (F := Ideal) 𝒱₀ c none i arg2 harg2 arg3 harg3 arg4 harg4 arg5 harg5 arg6 harg6 arg7 harg7 arg8 harg8 arg9 harg9 arg10 harg10 v3 v7 k (blkNo k) (oddRun.sl.v1353 (F := Ideal) arg3 mh0 ml0 io X3 k) (blank _ _) (blank _ _) (oddRun.sl.r_1 (F := Ideal) arg3 mh1 ml1 io X3 k) (blank _ _) (blank _ _) (blank (F := Ideal) S1x1x144x256 .bf16) (blkPar k) X7 X8 X10 (oddRun.sl.v1704 (F := Ideal) arg3 arg7 arg10 v3 mh0 ml0 io X3 X7 X10 k, oddRun.sl.v1716 (F := Ideal) arg3 arg7 arg8 arg10 v3 mh0 ml0 io X3 X7 X8 X10 k, oddRun.sl.v1733 (F := Ideal) arg3 arg7 arg10 v7 mh1 ml1 io X3 X7 X10 k, oddRun.sl.v1745 (F := Ideal) arg3 arg7 arg8 arg10 v7 mh1 ml1 io X3 X7 X8 X10 k) (k0_t2_loop k).trips)) rfl ?_
  rw [odd_step0, odd_acc0, odd_step1, odd_acc1, odd_top0, odd_start0, odd_top1, odd_start1, odd_qa0, odd_qa1]

/-- What an even query block stores. -/
theorem even_pieces (hk : k.val % 2 = 0) :
    (evenRun (F := Ideal) c i arg2 harg2 arg3 harg3 arg4 harg4 arg5 harg5 arg6 harg6 arg7 harg7 arg8 harg8 arg9 harg9 arg10 harg10 v3 v7 mh0 ml0 mh1 ml1 io X3 X7 X8 X10 k hk).1
      = outPieces k (pairSt c i arg2 harg2 arg3 harg3 arg4 harg4 arg5 harg5 arg6 harg6 arg7 harg7 arg8 harg8 arg9 harg9 arg10 harg10 v3 v7 mh0 ml0 mh1 ml1 io X3 X7 X8 X10 k (startSt arg3 arg7 arg8 arg10 mh0 ml0 mh1 ml1 io X3 X7 X8 X10 k) (k0_t2_loop k).trips) := by
  unfold evenRun
  refine Eq.trans (b := outPieces k (st_k0_t3 (F := Ideal) 𝒱₀ c none i arg2 harg2 arg3 harg3 arg4 harg4 arg5 harg5 arg6 harg6 arg7 harg7 arg8 harg8 arg9 harg9 arg10 harg10 v3 v7 k (blkNo k) (evenRun.sl.v1353 (F := Ideal) arg3 mh0 ml0 io X3 k) (evenRun.sl.r_1 (F := Ideal) arg3 mh1 ml1 io X3 k) (evenRun.sl.v1639 k) (evenRun.sl.v1665 k) 1#32 X7 X8 X10
    (evenRun.sl.r_5 (F := Ideal) c i arg2 harg2 arg3 harg3 arg4 harg4 arg5 harg5 arg6 harg6 arg7 harg7 arg8 harg8 arg9 harg9 arg10 harg10 v3 v7 mh0 ml0 mh1 ml1 io X3 X7 X8 X10 k, evenRun.sl.r_6 (F := Ideal) c i arg2 harg2 arg3 harg3 arg4 harg4 arg5 harg5 arg6 harg6 arg7 harg7 arg8 harg8 arg9 harg9 arg10 harg10 v3 v7 mh0 ml0 mh1 ml1 io X3 X7 X8 X10 k, evenRun.sl.r_7 (F := Ideal) c i arg2 harg2 arg3 harg3 arg4 harg4 arg5 harg5 arg6 harg6 arg7 harg7 arg8 harg8 arg9 harg9 arg10 harg10 v3 v7 mh0 ml0 mh1 ml1 io X3 X7 X8 X10 k, evenRun.sl.r_8 (F := Ideal) c i arg2 harg2 arg3 harg3 arg4 harg4 arg5 harg5 arg6 harg6 arg7 harg7 arg8 harg8 arg9 harg9 arg10 harg10 v3 v7 mh0 ml0 mh1 ml1 io X3 X7 X8 X10 k) (k0_t3_loop k).trips)) rfl ?_
  rw [last_eq]
  refine Eq.trans (b := outPieces k (st_k0_t2 (F := Ideal) 𝒱₀ c none i arg2 harg2 arg3 harg3 arg4 harg4 arg5 harg5 arg6 harg6 arg7 harg7 arg8 harg8 arg9 harg9 arg10 harg10 v3 v7 k (blkNo k) (evenRun.sl.v1353 (F := Ideal) arg3 mh0 ml0 io X3 k) (blank _ _) (blank _ _) (evenRun.sl.r_1 (F := Ideal) arg3 mh1 ml1 io X3 k) (blank _ _) (blank _ _) (blank (F := Ideal) S1x1x144x256 .bf16) (blkPar k) X7 X8 X10 (evenRun.sl.v1362 (F := Ideal) arg3 arg7 arg10 mh0 ml0 io X3 X7 X10 k, evenRun.sl.v1370 (F := Ideal) arg3 arg7 arg8 arg10 mh0 ml0 io X3 X7 X8 X10 k, evenRun.sl.r_2 (F := Ideal) arg3 arg7 arg10 mh1 ml1 io X3 X7 X10 k, evenRun.sl.v1629 (F := Ideal) arg3 arg7 arg8 arg10 mh1 ml1 io X3 X7 X8 X10 k) (k0_t2_loop k).trips)) rfl ?_
  rw [show evenRun.sl.v1362 (F := Ideal) arg3 arg7 arg10 mh0 ml0 io X3 X7 X10 k = _ from odd_top0 arg3 arg7 arg10 mh0 ml0 io X3 X7 X10 k, show evenRun.sl.v1370 (F := Ideal) arg3 arg7 arg8 arg10 mh0 ml0 io X3 X7 X8 X10 k = _ from odd_start0 arg3 arg7 arg8 arg10 mh0 ml0 io X3 X7 X8 X10 k,
    show evenRun.sl.r_2 (F := Ideal) arg3 arg7 arg10 mh1 ml1 io X3 X7 X10 k = _ from odd_top1 arg3 arg7 arg10 mh1 ml1 io X3 X7 X10 k, show evenRun.sl.v1629 (F := Ideal) arg3 arg7 arg8 arg10 mh1 ml1 io X3 X7 X8 X10 k = _ from odd_start1 arg3 arg7 arg8 arg10 mh1 ml1 io X3 X7 X8 X10 k,
    show evenRun.sl.v1353 (F := Ideal) arg3 mh0 ml0 io X3 k = _ from odd_qa0 arg3 mh0 ml0 io X3 k, show evenRun.sl.r_1 (F := Ideal) arg3 mh1 ml1 io X3 k = _ from odd_qa1 arg3 mh1 ml1 io X3 k]

/-- One trip over a pair of key blocks: 512 keys at both heads. -/
theorem pair_succ (init : FVec Ideal S1x256 .f32 × FVec Ideal S144x256 .f32 × FVec Ideal S1x256 .f32 × FVec Ideal S144x256 .f32) (n : Fin (k0_t2_loop k).trips) :
    pairSt c i arg2 harg2 arg3 harg3 arg4 harg4 arg5 harg5 arg6 harg6 arg7 harg7 arg8 harg8 arg9 harg9 arg10 harg10 v3 v7 mh0 ml0 mh1 ml1 io X3 X7 X8 X10 k init (n.val + 1)
      = pairStep arg3 arg7 arg8 arg10 v3 v7 mh0 ml0 mh1 ml1 io X3 X7 X8 X10 k n (pairSt c i arg2 harg2 arg3 harg3 arg4 harg4 arg5 harg5 arg6 harg6 arg7 harg7 arg8 harg8 arg9 harg9 arg10 harg10 v3 v7 mh0 ml0 mh1 ml1 io X3 X7 X8 X10 k init n.val) := by
  rw [pairSt, st_k0_t2_succ]
  unfold tripR_k0_t2 trip_k0_t2
  rfl
end Cert.Proof.KI

end
-- ==== Proof.Math.Stream.lean ====
/-
  The softmax over a masked row, streamed and whole, over the extended reals: scores are reals, or −∞ where masked.
-/
module

public import Idealize.ShloMosaic.PureOps.Ideal
public import Mathlib.Data.Finset.Fold
public import Mathlib.Algebra.BigOperators.Group.Finset.Basic

@[expose] public section

noncomputable section

namespace Cert.Proof.Math

open Idealize.ShloMosaic

/-- The weight of a score: none where it is −∞, else its exponential. -/
def wt (x : EReal) : ℝ := if x = ⊥ then 0 else Real.exp x.toReal

theorem wt_bot : wt ⊥ = 0 := if_pos rfl
theorem wt_coe (x : ℝ) : wt (x : EReal) = Real.exp x := by
  unfold wt; rw [if_neg (EReal.coe_ne_bot x), EReal.toReal_coe]

theorem wt_nonneg (x : EReal) : 0 ≤ wt x := by
  unfold wt; split_ifs
  · exact le_refl _
  · exact (Real.exp_pos _).le

theorem wt_pos {x : EReal} (h : x ≠ ⊥) : 0 < wt x := by
  unfold wt; rw [if_neg h]; exact Real.exp_pos _

/-- An extended real below +∞ is −∞ or a real. -/
theorem bot_or_real {x : EReal} (h : x ≠ ⊤) : x = ⊥ ∨ ∃ r : ℝ, x = r := by
  induction x with
  | bot => exact .inl rfl
  | coe r => exact .inr ⟨r, rfl⟩
  | top => exact absurd rfl h

/-- The exponential of a score from which a real is taken is its weight times one factor. -/
theorem exp_sub_coe {x : EReal} (h : x ≠ ⊤) (M : ℝ) : Ideal.exp (x - (M : EReal)) = ((wt x * Real.exp (-M) : ℝ) : EReal) := by
  rcases bot_or_real h with rfl | ⟨r, rfl⟩
  · rw [EReal.bot_sub, wt_bot, zero_mul]; rfl
  · rw [← EReal.coe_sub, Ideal.exp_coe, wt_coe, sub_eq_add_neg, Real.exp_add]

/-- The greatest of scores none of which is +∞ is not +∞. -/
theorem fold_max_ne_top {ι : Type} (S : Finset ι) (s : ι → EReal) (hs : ∀ k, s k ≠ ⊤) : S.fold max ⊥ s ≠ ⊤ := by
  classical
  refine Finset.induction_on S (by simp) fun a S ha ih => ?_
  rw [Finset.fold_insert ha]
  rcases max_choice (s a) (S.fold max ⊥ s) with h | h <;> rw [h]
  · exact hs a
  · exact ih

/-- It is a real where one of them is. -/
theorem fold_max_real {ι : Type} [Fintype ι] (s : ι → EReal) (hs : ∀ k, s k ≠ ⊤) (k : ι) (hk : s k ≠ ⊥) :
    ∃ M : ℝ, Finset.univ.fold max ⊥ s = (M : EReal) := by
  rcases bot_or_real (fold_max_ne_top Finset.univ s hs) with h | h
  · exfalso
    have : s k ≤ Finset.univ.fold max ⊥ s := (Finset.le_fold_max (s k)).mpr (.inr ⟨k, Finset.mem_univ k, le_refl _⟩)
    rw [h] at this
    exact hk (le_bot_iff.mp this)
  · exact h

/-- The running maximum after one more block of scores, each of them off by `c`, is a real again. -/
theorem step_max {ι : Type} [Fintype ι] (s : ι → EReal) (hs : ∀ k, s k ≠ ⊤) (M c : ℝ) :
    ∃ M' : ℝ, max (M : EReal) (Finset.univ.fold max ⊥ s + (c : EReal)) = (M' : EReal) := by
  have h1 : max (M : EReal) (Finset.univ.fold max ⊥ s + (c : EReal)) ≠ ⊤ := by
    rcases max_choice (M : EReal) (Finset.univ.fold max ⊥ s + (c : EReal)) with h | h <;> rw [h]
    · exact EReal.coe_ne_top M
    · rcases bot_or_real (fold_max_ne_top Finset.univ s hs) with h' | ⟨r, h'⟩ <;> rw [h']
      · rw [EReal.bot_add]; exact bot_ne_top
      · rw [← EReal.coe_add]; exact EReal.coe_ne_top _
  rcases bot_or_real h1 with h | h
  · exfalso
    have : (M : EReal) ≤ ⊥ := h ▸ le_max_left _ _
    exact EReal.coe_ne_bot M (le_bot_iff.mp this)
  · exact h

/-- The exponential that a block of scores off by `c` contributes. -/
theorem step_exp {x : EReal} (h : x ≠ ⊤) (M c : ℝ) :
    Ideal.exp (x - ((M : EReal) - (c : EReal))) = ((wt (x + (c : EReal)) * Real.exp (-M) : ℝ) : EReal) := by
  rw [← EReal.coe_sub, exp_sub_coe h]
  rcases bot_or_real h with rfl | ⟨r, rfl⟩
  · rw [EReal.bot_add, wt_bot, zero_mul, zero_mul]
  · rw [← EReal.coe_add, wt_coe, wt_coe, ← Real.exp_add, ← Real.exp_add]
    congr 2; ring

/-- A sum of reals is the real sum. -/
theorem coe_sum {ι : Type} (S : Finset ι) (f : ι → ℝ) : (∑ k ∈ S, (f k : EReal)) = ((∑ k ∈ S, f k : ℝ) : EReal) := by
  classical
  refine Finset.induction_on S (by simp) fun a S ha ih => ?_
  rw [Finset.sum_insert ha, Finset.sum_insert ha, ih, EReal.coe_add]

/-- The contribution of a block to a row of the accumulator. -/
theorem block_sum {ι : Type} [Fintype ι] (va w : ι → ℝ) (E : ℝ) :
    (∑ k, (va k : EReal) * ((w k * E : ℝ) : EReal)) = ((E * ∑ k, va k * w k : ℝ) : EReal) := by
  rw [Finset.mul_sum, ← coe_sum]
  exact Finset.sum_congr rfl fun k _ => by rw [← EReal.coe_mul]; congr 1; ring

/-- A row of the accumulator after one more block. -/
theorem step_acc {ι : Type} [Fintype ι] (va w : ι → ℝ) (M M' A : ℝ) :
    Ideal.exp ((M : EReal) - (M' : EReal)) * ((Real.exp (-M) * A : ℝ) : EReal)
        + ∑ k, (va k : EReal) * ((w k * Real.exp (-M') : ℝ) : EReal)
      = ((Real.exp (-M') * (A + ∑ k, va k * w k) : ℝ) : EReal) := by
  rw [block_sum, ← EReal.coe_sub, Ideal.exp_coe, ← EReal.coe_mul, ← EReal.coe_add]
  congr 1
  rw [mul_add, ← mul_assoc, ← Real.exp_add]
  congr 3; ring

/-- The common factor of numerator and denominator cancels. -/
theorem div_cancel (E N D : ℝ) (hE : E ≠ 0) (hD : D ≠ 0) :
    Ideal.div ((E * N : ℝ) : EReal) ((E * D : ℝ) : EReal) = ((N / D : ℝ) : EReal) := by
  rw [Ideal.div_coe (mul_ne_zero hE hD), ← EReal.coe_mul]
  congr 1
  field_simp

/-- A softmax weight: the exponential off the maximum over the sum of all of them. -/
theorem softmax_entry {ι : Type} [Fintype ι] (x : ι → EReal) (hx : ∀ k, x k ≠ ⊤) (M : ℝ) (k0 : ι) (hk0 : x k0 ≠ ⊥) (k : ι) :
    Ideal.div (Ideal.exp (x k - (M : EReal))) (∑ l, Ideal.exp (x l - (M : EReal)))
      = ((wt (x k) / ∑ l, wt (x l) : ℝ) : EReal) := by
  have hD : (∑ l, wt (x l)) ≠ 0 :=
    (Finset.sum_pos' (fun l _ => wt_nonneg _) ⟨k0, Finset.mem_univ _, wt_pos hk0⟩).ne'
  rw [exp_sub_coe (hx k), Finset.sum_congr rfl fun l _ => exp_sub_coe (hx l) M, coe_sum, ← Finset.sum_mul, mul_comm (wt _),
    mul_comm (∑ l, wt (x l)), div_cancel _ _ _ (Real.exp_pos _).ne' hD]

end Cert.Proof.Math

end
-- ==== Proof.Math.Rank.lean ====
/-
  The routing's order: how many blocks come ahead of a block by their scores, and what a stable sort by the scores puts where.
-/
module

public import Idealize.ShloMosaic.PureOps.Ideal
public import Idealize.ShloMosaic.Lib.SortFacts

@[expose] public section

noncomputable section

namespace Cert.Proof.Math

open Idealize.ShloMosaic

variable {n : ℕ}

/-- Block `a` comes ahead of block `b`: by a greater score, or by the lower number of two equal ones. -/
def ahead (x : Fin n → EReal) (a b : Fin n) : Prop := x b < x a ∨ (x a = x b ∧ a < b)

instance (x : Fin n → EReal) (a b : Fin n) : Decidable (ahead x a b) := Classical.propDecidable _

/-- How many blocks come ahead of `b`. -/
def rank (x : Fin n → EReal) (b : Fin n) : ℕ := (Finset.univ.filter fun a => ahead x a b).card

/-- The order by scores alone, as the sort reads it. -/
def gtB (x : Fin n → EReal) (a b : Fin n) : Bool := decide (x b < x a)

/-- The order by scores and, of equal ones, by number. -/
def aheadB (x : Fin n → EReal) (a b : Fin n) : Bool := decide (ahead x a b)

theorem ahead_asymm {x : Fin n → EReal} {a b : Fin n} (h : ahead x a b) : ¬ ahead x b a := by
  rintro (h' | ⟨e', h'⟩) <;> rcases h with h | ⟨e, h⟩
  · exact lt_asymm h h'
  · rw [e] at h'; exact lt_irrefl _ h'
  · rw [e'] at h; exact lt_irrefl _ h
  · exact lt_asymm h h'

theorem ahead_total {x : Fin n → EReal} {a b : Fin n} (hab : a ≠ b) (h : ¬ ahead x a b) : ahead x b a := by
  unfold ahead at *
  push Not at h
  rcases lt_or_eq_of_le h.1 with h1 | h1
  · exact .inl h1
  · exact .inr ⟨h1.symm, lt_of_le_of_ne (h.2 h1) hab.symm⟩

/-- Inserting into a list of later positions, the two orders agree; so they sort an increasing list alike. -/
theorem stableSort_gt (x : Fin n → EReal) (l : List (Fin n)) (hl : l.Pairwise (· < ·)) :
    stableSort (gtB x) l = stableSort (aheadB x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold gtB aheadB ahead
    refine decide_eq_decide.mpr ⟨.inl, fun h => h.elim id fun h => absurd h.2 (lt_asymm hab)⟩

theorem sortPositions_gt (x : Fin n → EReal) : sortPositions n (gtB x) = sortPositions n (aheadB x) :=
  stableSort_gt x _ (List.pairwise_lt_finRange n)

theorem sortedFrom_gt (x : Fin n → EReal) : sortedFrom (gtB x) = sortedFrom (aheadB x) := by
  funext k
  unfold sortedFrom
  rw [List.get_of_eq (sortPositions_gt x)]
  rfl

/-- A later place of the sorted order is not ahead of an earlier one. -/
theorem sorted_ahead (x : Fin n → EReal) {i j : Fin n} (hij : i < j) :
    ahead x (sortedFrom (aheadB x) i) (sortedFrom (aheadB x) j) := by
  refine ahead_total (fun e => (ne_of_gt hij) (sortedFrom_injective _ e)) ?_
  have := sortedFrom_noInversion (aheadB x) (aheadB x)
    (fun a b h => by unfold aheadB at *; exact decide_eq_false (ahead_asymm (of_decide_eq_true h))) (fun _ _ h => h)
    (fun a b c h1 h2 => by
      unfold aheadB at *
      rw [decide_eq_false_iff_not] at *
      intro h
      by_cases hab : a = b
      · subst hab; exact h2 h
      by_cases hbc : b = c
      · subst hbc; exact h1 h
      have g1 := ahead_total hab h1
      have g2 := ahead_total hbc h2
      unfold ahead at *
      rcases g1 with g1 | ⟨e1, g1⟩ <;> rcases g2 with g2 | ⟨e2, g2⟩ <;> rcases h with h | ⟨e, h⟩
      · exact lt_irrefl _ (h.trans (g1.trans g2))
      · rw [e] at g1; exact lt_irrefl _ (g1.trans g2)
      · rw [← e2] at g1; exact lt_irrefl _ (h.trans g1)
      · rw [e, e2] at g1; exact lt_irrefl _ g1
      · rw [e1] at g2; exact lt_irrefl _ (h.trans g2)
      · rw [← e, ← e1] at g2; exact lt_irrefl _ g2
      · rw [← e1, ← e2] at h; exact lt_irrefl _ h
      · exact lt_irrefl _ (h.trans (g2.trans g1))) i j hij
  exact of_decide_eq_false this

/-- The block in place `k` of the stable order has exactly `k` blocks ahead of it. -/
theorem rank_sorted (x : Fin n → EReal) (k : Fin n) : rank x (sortedFrom (gtB x) k) = k.val := by
  rw [sortedFrom_gt]
  unfold rank
  have : (Finset.univ.filter fun a => ahead x a (sortedFrom (aheadB x) k))
      = (Finset.univ.filter fun j => j < k).map ⟨sortedFrom (aheadB x), sortedFrom_injective _⟩ := by
    ext a
    obtain ⟨j, rfl⟩ := sortedFrom_surjective (aheadB x) a
    simp only [Finset.mem_filter, Finset.mem_univ, true_and, Finset.mem_map, Function.Embedding.coeFn_mk]
    constructor
    · intro h
      refine ⟨j, ?_, rfl⟩
      rcases lt_trichotomy j k with h' | h' | h'
      · exact h'
      · subst h'; exact absurd h (ahead_asymm h)
      · exact absurd h (ahead_asymm (sorted_ahead x h'))
    · rintro ⟨j', h, e⟩
      rw [← e]
      exact sorted_ahead x h
  rw [this, Finset.card_map]
  have : (Finset.univ.filter fun j : Fin n => j < k) = Finset.Iio k := by ext; simp
  rw [this, Fin.card_Iio]

/-- The place of a block in the stable order is its rank. -/
theorem sorted_rank (x : Fin n → EReal) (b k : Fin n) (h : rank x b = k.val) : sortedFrom (gtB x) k = b := by
  obtain ⟨j, rfl⟩ := sortedFrom_surjective (gtB x) b
  rw [rank_sorted] at h
  rw [Fin.ext h]

/-- Blocks below `q` have real scores and the others none: then the `t`-th block in order is below `q` exactly for `t < q`. -/
theorem sorted_lt_iff (x : Fin n → EReal) (q : ℕ) (hx : ∀ a, x a ≠ ⊥ ↔ a.val < q) (k : Fin n) (hq : q ≤ n) :
    (sortedFrom (gtB x) k).val < q ↔ k.val < q := by
  rw [← rank_sorted x k]
  generalize sortedFrom (gtB x) k = b
  unfold rank
  constructor
  · intro h
    have hsub : (Finset.univ.filter fun a => ahead x a b) ⊆ (Finset.univ.filter fun a : Fin n => a.val < q).erase b := by
      intro a ha
      simp only [Finset.mem_filter, Finset.mem_univ, true_and, Finset.mem_erase] at ha ⊢
      refine ⟨fun e => by subst e; exact ahead_asymm ha ha, ?_⟩
      rcases ha with ha | ⟨e, ha⟩
      · exact (hx a).mp (bot_lt_iff_ne_bot.mp (lt_of_le_of_lt bot_le ha))
      · exact lt_trans ha h
    have hc := Finset.card_le_card hsub
    have hb : b ∈ (Finset.univ.filter fun a : Fin n => a.val < q) := by simpa using h
    rw [Finset.card_erase_of_mem hb, Fin.card_filter_val_lt, min_eq_right hq] at hc
    omega
  · intro h
    by_contra hb
    have hxb : x b = ⊥ := by
      by_contra h'; exact hb ((hx b).mp h')
    have hsub : (Finset.univ.filter fun a : Fin n => a.val < q) ⊆ (Finset.univ.filter fun a => ahead x a b) := by
      intro a ha
      simp only [Finset.mem_filter, Finset.mem_univ, true_and] at ha ⊢
      left
      rw [hxb]
      exact bot_lt_iff_ne_bot.mpr ((hx a).mpr ha)
    have hc := Finset.card_le_card hsub
    rw [Fin.card_filter_val_lt, min_eq_right hq] at hc
    omega

/-- A sum over the first `m` places of the order, of those below `q`, is the sum over the blocks below `q` with fewer than `m` ahead. -/
theorem sum_sorted (x : Fin n → EReal) (q : ℕ) (hx : ∀ a, x a ≠ ⊥ ↔ a.val < q) (hq : q ≤ n) {m : ℕ} (hm : m ≤ n) (f : Fin n → ℝ) :
    (∑ t : Fin m, if t.val < q then f (sortedFrom (gtB x) (t.castLE hm)) else 0)
      = ∑ b : Fin n, if b.val < q ∧ rank x b < m then f b else 0 := by
  rw [← Finset.sum_filter, ← Finset.sum_filter]
  refine Finset.sum_bij (fun t _ => sortedFrom (gtB x) (t.castLE hm)) ?_ ?_ ?_ ?_
  · intro t ht
    simp only [Finset.mem_filter, Finset.mem_univ, true_and] at ht ⊢
    refine ⟨(sorted_lt_iff x q hx _ hq).mpr ht, ?_⟩
    rw [rank_sorted]; exact t.isLt
  · intro t _ t' _ h
    exact Fin.castLE_injective hm (sortedFrom_injective _ h)
  · intro b hb
    simp only [Finset.mem_filter, Finset.mem_univ, true_and] at hb
    have e := sorted_rank x b (Fin.castLE hm ⟨rank x b, hb.2⟩) rfl
    refine ⟨⟨rank x b, hb.2⟩, ?_, e⟩
    simp only [Finset.mem_filter, Finset.mem_univ, true_and]
    have := (sorted_lt_iff x q hx (Fin.castLE hm ⟨rank x b, hb.2⟩) hq).mp (by rw [e]; exact hb.1)
    exact this
  · intro t _; rfl

end Cert.Proof.Math

end
-- ==== Proof.Math.Spec.lean ====
/-
  What the layer computes for one query, over the reals: the routing scores, the keys that are attended to, their
  weights, and the weighted mean of the values.
-/
module

public import proofs.«01_k».proof.Proof.Math.Stream
public import proofs.«01_k».proof.Proof.Math.Rank

@[expose] public section

noncomputable section

namespace Cert.Proof.Math

variable (Q K V : Fin 16 → Fin 256 → Fin 128 → ℝ) (σ sc : ℝ) (qb : Fin 16) (r : Fin 256)

/-- The mean key of a block. -/
def mean (n : Fin 16) (d : Fin 128) : ℝ := (∑ j, K n j d) * (1 / 256)

/-- The routing scores of a query, `-∞` for the blocks that are not before it. -/
def score (n : Fin 16) : EReal := if n < qb then ((∑ d, mean K n d * Q qb r d : ℝ) : EReal) else ⊥

/-- The exponent of a key: the scaled product less the slope times the distance. -/
def expo (n : Fin 16) (j : Fin 256) : ℝ := (∑ d, K n j d * (Q qb r d * sc)) - σ * ((256 * qb.val + r.val : ℝ) - (256 * n.val + j.val : ℝ))

/-- The blocks a query attends to whole: before it, and with fewer than three ahead. -/
def chosen (n : Fin 16) : Prop := n < qb ∧ rank (score Q K qb r) n < 3

/-- The keys a query attends to. -/
def live (n : Fin 16) (j : Fin 256) : Prop := chosen Q K qb r n ∨ (n = qb ∧ j ≤ r)

open Classical in
/-- The weight of a key. -/
def weight (n : Fin 16) (j : Fin 256) : ℝ := if live Q K qb r n j then Real.exp (expo Q K σ sc qb r n j) else 0

/-- The sum of the weights. -/
def denom : ℝ := ∑ n, ∑ j, weight Q K σ sc qb r n j

/-- The weighted sum of the values. -/
def numer (d : Fin 128) : ℝ := ∑ n, ∑ j, V n j d * weight Q K σ sc qb r n j

/-- The layer's result for one query. -/
def result (d : Fin 128) : ℝ := numer Q K V σ sc qb r d / denom Q K σ sc qb r

theorem weight_nonneg (n : Fin 16) (j : Fin 256) : 0 ≤ weight Q K σ sc qb r n j := by
  unfold weight; split_ifs
  · exact (Real.exp_pos _).le
  · exact le_refl _

theorem weight_own_pos : 0 < weight Q K σ sc qb r qb r := by
  unfold weight; rw [if_pos (.inr ⟨rfl, le_refl _⟩)]; exact Real.exp_pos _

/-- A query attends to itself, so the sum of the weights is positive. -/
theorem denom_pos : 0 < denom Q K σ sc qb r :=
  Finset.sum_pos' (fun n _ => Finset.sum_nonneg fun j _ => weight_nonneg Q K σ sc qb r n j)
    ⟨qb, Finset.mem_univ _, Finset.sum_pos' (fun j _ => weight_nonneg Q K σ sc qb r qb j) ⟨r, Finset.mem_univ _, weight_own_pos Q K σ sc qb r⟩⟩

/-- No key of a later block is attended to. -/
theorem weight_later (n : Fin 16) (j : Fin 256) (h : qb < n) : weight Q K σ sc qb r n j = 0 := by
  unfold weight live chosen
  rw [if_neg]
  rintro (⟨h', _⟩ | ⟨h', _⟩)
  · exact lt_asymm h h'
  · exact (ne_of_gt h) h'

end Cert.Proof.Math

end
-- ==== Proof.KI.FlowAt.lean ====
/-
  The functions of Flow.lean read at one entry, over finite queries, keys and values.
-/
module

public import proofs.«01_k».proof.Proof.KI.Flow
public import proofs.«01_k».proof.Proof.Math.Spec
public import Idealize.ShloMosaic.Lib.WordCmp

@[expose] public section

set_option maxRecDepth 16384
set_option maxHeartbeats 1000000

noncomputable section

namespace Cert.Proof.KI.Flow

open Cert.KernelIdeal Cert.KernelIdeal.Gen
open Idealize.ShloMosaic Idealize.ShloMosaic.TcCoe Idealize.SL.Sem
open Cert.Proof.Math WordCmp

theorem ofBits_ninf : Ideal.ofBits .f32 0xFF800000#32 = ⊥ := by simp [Ideal.ofBits, Ideal.ieee]
theorem ofBits_three : Ideal.ofBits .f32 0x40400000#32 = ((3 : ℝ) : EReal) := by
  simp [Ideal.ofBits, Ideal.ieee, -EReal.coe_mul]; norm_num
/-- The factor on the queries, a real number. -/
def scale : ℝ := (Ideal.ofBits .f32 0x3DB504F3#32).toReal
theorem ofBits_scale : Ideal.ofBits .f32 0x3DB504F3#32 = (scale : EReal) := by
  unfold scale; simp [Ideal.ofBits, Ideal.ieee, -EReal.coe_mul]
theorem mask_eq : (Named.named (F := Ideal) κ "mask" 0xF149F2CA#32 : Ideal .f32) = (⊥ : EReal) := rfl

theorem sel_word {α : Type} (p q s : Prop) [Decidable p] [Decidable q] [Decidable s] (a b : α) :
    Scalar.select (IntOp.ori (BitVec.ofBool (decide p)) (IntOp.andi (BitVec.ofBool (decide q)) (BitVec.ofBool (decide s)))) a b = if p ∨ (q ∧ s) then a else b := by
  by_cases p <;> by_cases q <;> by_cases s <;> simp [*, IntOp.ori, IntOp.andi, Scalar.select]

variable {mh ml : FVec Ideal S16x128 .bf16} {io : IVec S16x256 32} {a : BitVec 32} {q : FVec Ideal S256x128 .f32}
  (hio : ∀ (n : Fin 16) (l : Fin 256), io (ix2 n l) = BitVec.ofNat 32 n.val)
  (Q K V : Fin 16 → Fin 256 → Fin 128 → ℝ) (σ : ℝ) (qb : Fin 16) (l : Fin 256) (ha : a = BitVec.ofNat 32 qb.val)

include hio ha in
theorem xs_at (hmh : ∀ n d, mh (ix2 n d) = (mean K n d : EReal)) (hml : ∀ n d, ml (ix2 n d) = (0 : EReal)) (hq : ∀ l d, q (ix2 l d) = (Q qb l d : EReal)) (n : Fin 16) :
    xsF mh ml io a q (ix2 n l) = score Q K qb l n := by
  pointwise [xsF]
  rw [hio, ha, ofBits_ninf, cmpi_slt_ofNat (by omega) (by omega)]
  simp only [hmh, hml, hq, ← EReal.coe_sub, sub_self, EReal.coe_zero, mul_zero, zero_mul, Finset.sum_const_zero, zero_add, ← EReal.coe_mul, coe_sum]
  unfold score
  by_cases h : n < qb
  · rw [if_pos h, decide_eq_true (by exact h)]; rfl
  · rw [if_neg h, decide_eq_false (by exact h)]; rfl

include hio in
/-- The count after `n` key blocks: how many of them are ahead. -/
theorem cnt_at (xs : FVec Ideal S16x256 .f32) (b : Fin 16) (n : ℕ) (hn : n ≤ 16) :
    cntF io xs n (ix2 b l) = (((Finset.univ.filter fun c : Fin 16 => c.val < n ∧ ahead (fun c => xs (ix2 c l)) c b).card : ℝ) : EReal) := by
  induction n with
  | zero => simp [cntF]; pointwise
  | succ n ih =>
    have h : n < 16 := hn
    rw [cntF, dif_pos h]
    pointwise [cntStep]
    rw [ih (by omega), hio, cmpi_sgt_ofNat (by omega) (by omega), sel_word]
    have hs : (Finset.univ.filter fun c : Fin 16 => c.val < n + 1 ∧ ahead (fun c => xs (ix2 c l)) c b)
        = (Finset.univ.filter fun c : Fin 16 => c.val < n ∧ ahead (fun c => xs (ix2 c l)) c b) ∪ (if ahead (fun c => xs (ix2 c l)) ⟨n, h⟩ b then {⟨n, h⟩} else ∅) := by
      ext c
      have hc : c.val < n + 1 ↔ c.val < n ∨ c = ⟨n, h⟩ := by rw [Fin.ext_iff]; simp only; omega
      by_cases hA : ahead (fun c => xs (ix2 c l)) ⟨n, h⟩ b
      · simp only [Finset.mem_filter, Finset.mem_univ, true_and, Finset.mem_union, if_pos hA, Finset.mem_singleton, hc]
        constructor
        · rintro ⟨h1 | h1, h2⟩
          · exact .inl ⟨h1, h2⟩
          · exact .inr h1
        · rintro (⟨h1, h2⟩ | rfl)
          · exact ⟨.inl h1, h2⟩
          · exact ⟨.inr rfl, hA⟩
      · simp only [Finset.mem_filter, Finset.mem_univ, true_and, Finset.mem_union, if_neg hA, Finset.notMem_empty, or_false, hc]
        constructor
        · rintro ⟨h1 | rfl, h2⟩
          · exact ⟨h1, h2⟩
          · exact absurd h2 hA
        · rintro ⟨h1, h2⟩; exact ⟨.inl h1, h2⟩
    rw [hs, Finset.card_union_of_disjoint]
    · by_cases hA : ahead (fun c => xs (ix2 c l)) ⟨n, h⟩ b
      · rw [if_pos hA, Finset.card_singleton, if_pos]
        · push_cast; rfl
        · exact hA
      · rw [if_neg hA, Finset.card_empty, if_neg]
        · push_cast; simp
        · exact hA
    · split_ifs
      · rw [Finset.disjoint_singleton_right]; simp
      · exact Finset.disjoint_empty_right _

open Classical in
include hio ha in
/-- The routing bias is zero on the chosen blocks and the query's own, and `-∞` elsewhere. -/
theorem sel_at (xs : FVec Ideal S16x256 .f32) (hxs : ∀ n, xs (ix2 n l) = score Q K qb l n) (n : Fin 16) :
    selF io a xs (ix2 n l) = (if chosen Q K qb l n ∨ n = qb then 0 else ⊥ : EReal) := by
  pointwise [selF]
  rw [cnt_at hio l xs n 16 le_rfl, hio, ha, mask_eq, ofBits_three, cmpi_slt_ofNat (by omega) (by omega), cmpi_eq_ofNat (by omega) (by omega)]
  have h1 : (Finset.univ.filter fun c : Fin 16 => c.val < 16 ∧ ahead (fun c => xs (ix2 c l)) c n).card = rank (score Q K qb l) n := by
    unfold rank; congr 1; ext c
    simp only [Finset.mem_filter, Finset.mem_univ, true_and, c.isLt, hxs]
  rw [h1]
  have h2 : (((rank (score Q K qb l) n : ℝ) : EReal) < ((3 : ℝ) : EReal)) ↔ rank (score Q K qb l) n < 3 := by
    rw [EReal.coe_lt_coe_iff]; exact_mod_cast Iff.rfl
  have h3 : (n.val = qb.val) ↔ n = qb := Fin.ext_iff.symm
  simp only [h2, h3]
  unfold chosen
  by_cases A : rank (score Q K qb l) n < 3 <;> by_cases B : n < qb <;> by_cases C : n = qb <;> simp [A, B, C, IntOp.ori, IntOp.andi, Scalar.select]

/-- The running maximum and the accumulator of one query, once the keys taken so far add up to `N`. -/
def Acc (m : FVec Ideal S1x256 .f32) (A : FVec Ideal S144x256 .f32) (l : Fin 256) (N : Fin 144 → ℝ) : Prop :=
  ∃ M : ℝ, m (ix2 0 l) = (M : EReal) ∧ ∀ e, A (ix2 e l) = ((Real.exp (-M) * N e : ℝ) : EReal)

/-- The first block of keys. -/
theorem start_at (s : FVec Ideal S256x256 .f32) (vb : FVec Ideal S1x1x144x256 .bf16) (va : Fin 144 → Fin 256 → ℝ)
    (hvb : ∀ e j, vb (ix4 0 0 e j) = (va e j : EReal)) (hs : ∀ j, s (ix2 j l) ≠ (⊤ : EReal)) (k : Fin 256) (hk : s (ix2 k l) ≠ (⊥ : EReal)) :
    Acc (topF s) (startF s vb) l (fun e => ∑ j, va e j * wt (s (ix2 j l))) := by
  obtain ⟨M, hM⟩ := fold_max_real (fun x => s (ix2 x l)) hs k hk
  have hT : topF s (ix2 0 l) = (M : EReal) := by pointwise [topF]; rw [ofBits_ninf]; exact hM
  refine ⟨M, hT, fun e => ?_⟩
  pointwise [startF]
  rw [hT]
  simp only [hvb]
  rw [Finset.sum_congr rfl fun x _ => by rw [exp_sub_coe (hs x) M]]
  exact block_sum _ _ _

/-- A block of 256 keys more. -/
theorem step_at (m : FVec Ideal S1x256 .f32) (A : FVec Ideal S144x256 .f32) (s : FVec Ideal S256x256 .f32) (c : Ideal .f32) (vb : FVec Ideal S1x1x144x256 .bf16)
    (va : Fin 144 → Fin 256 → ℝ) (hvb : ∀ e j, vb (ix4 0 0 e j) = (va e j : EReal)) (hs : ∀ j, s (ix2 j l) ≠ (⊤ : EReal)) (c' : ℝ) (hc : c = (c' : EReal))
    (N : Fin 144 → ℝ) (h : Acc m A l N) :
    Acc (topStepF m s c) (accStepF m A s c vb) l (fun e => N e + ∑ j, va e j * wt (s (ix2 j l) + (c' : EReal))) := by
  obtain ⟨M, hM, hA⟩ := h
  obtain ⟨M', hM'⟩ := step_max (fun x => s (ix2 x l)) hs M c'
  have hT : topStepF m s c (ix2 0 l) = (M' : EReal) := by
    pointwise [topStepF, topF]; rw [ofBits_ninf, hM, hc]; exact hM'
  refine ⟨M', hT, fun e => ?_⟩
  pointwise [accStepF]
  rw [hT, hM, hA, hc]
  simp only [hvb]
  rw [Finset.sum_congr rfl fun x _ => by rw [step_exp (hs x) M' c']]
  exact step_acc _ _ _ _ _

/-- Two blocks of keys more. -/
theorem step2_at (m : FVec Ideal S1x256 .f32) (A : FVec Ideal S144x256 .f32) (s : FVec Ideal S512x256 .f32) (c : Ideal .f32) (vb vb' : FVec Ideal S1x1x144x256 .bf16)
    (va va' : Fin 144 → Fin 256 → ℝ) (hvb : ∀ e j, vb (ix4 0 0 e j) = (va e j : EReal)) (hvb' : ∀ e j, vb' (ix4 0 0 e j) = (va' e j : EReal))
    (hs : ∀ j, s (ix2 j l) ≠ (⊤ : EReal)) (c' : ℝ) (hc : c = (c' : EReal)) (N : Fin 144 → ℝ) (h : Acc m A l N) :
    Acc (topStepF2 m s c) (accStepF2 m A s c vb vb') l (fun e => N e + ((∑ j : Fin 256, va e j * wt (s (ix2 ⟨j.val, by omega⟩ l) + (c' : EReal)))
      + ∑ j : Fin 256, va' e j * wt (s (ix2 ⟨256 + j.val, by omega⟩ l) + (c' : EReal)))) := by
  obtain ⟨M, hM, hA⟩ := h
  obtain ⟨M', hM'⟩ := step_max (fun x => s (ix2 x l)) hs M c'
  have hT : topStepF2 m s c (ix2 0 l) = (M' : EReal) := by
    pointwise [topStepF2]; rw [ofBits_ninf, hM, hc]; exact hM'
  refine ⟨M', hT, fun e => ?_⟩
  pointwise [accStepF2]
  rw [hT, hM, hA, hc]
  have hE : ∀ j, Ideal.exp (s (ix2 j l) - ((M' : EReal) - (c' : EReal))) = ((wt (s (ix2 j l) + (c' : EReal)) * Real.exp (-M') : ℝ) : EReal) := fun j => step_exp (hs j) M' c'
  simp only [hvb, hvb', hE]
  rw [← add_assoc, step_acc, block_sum, ← EReal.coe_add]
  congr 1; ring

/-- The quotient that is written out. -/
theorem out_at (m : FVec Ideal S1x256 .f32) (A : FVec Ideal S144x256 .f32) (N : Fin 144 → ℝ) (h : Acc m A l N) (hN : N 128 ≠ 0) (e : Fin 128) :
    k0_pay1 (F := Ideal) A (ix3 0 l e) = ((N ⟨e.val, by omega⟩ / N 128 : ℝ) : EReal) := by
  obtain ⟨M, _, hA⟩ := h
  pointwise [k0_pay1]
  rw [hA, hA, div_cancel _ _ _ (Real.exp_pos _).ne' hN]

/-- A key row, the key and then the mark of its block, against a query column. -/
theorem aug_sum (kr : Fin 256 → EReal) (kd : Fin 128 → ℝ) (t : Fin 16)
    (hk : ∀ x : Fin 256, kr x = if h : x.val < 128 then (kd ⟨x.val, h⟩ : EReal) else if x.val - 128 = t.val then 1 else 0)
    (hq : ∀ l d, q (ix2 l d) = (Q qb l d : EReal)) (sel : FVec Ideal S16x256 .f32) :
    (∑ x, kr x * qaugF q sel (ix2 x l)) = ((∑ d, kd d * (Q qb l d * scale) : ℝ) : EReal) + sel (ix2 t l) := by
  have hqa : ∀ x : Fin 256, qaugF q sel (ix2 x l) = if h : x.val < 128 then ((Q qb l ⟨x.val, h⟩ * scale : ℝ) : EReal) else if h : x.val - 128 < 16 then sel (ix2 ⟨x.val - 128, h⟩ l) else 0 := by
    intro x
    pointwise [qaugF]
    rw [ofBits_scale]
    simp only [hq, ← EReal.coe_mul]
  rw [Fin.sum_univ_add (a := 128) (b := 128) (f := fun x : Fin (128 + 128) => kr x * qaugF q sel (ix2 (x : Fin 256) l))]
  congr 1
  · rw [← coe_sum]
    refine Finset.sum_congr rfl fun d _ => ?_
    rw [hk, hqa, dif_pos (by exact d.isLt), dif_pos (by exact d.isLt), ← EReal.coe_mul]
    rfl
  · rw [Finset.sum_eq_single (⟨t.val, by omega⟩ : Fin 128)]
    · rw [hk, hqa, dif_neg (by simp), dif_neg (by simp), if_pos (by simp), dif_pos (by simp), one_mul]
      congr 2; ext; simp
    · intro b _ hb
      have : b.val ≠ t.val := fun h => hb (Fin.ext h)
      rw [hk, dif_neg (by simp), if_neg (by simpa using this), zero_mul]
    · simp

theorem score_at (kb : FVec Ideal S1x256x256 .bf16) (bb : FVec Ideal S1x256x256 .f32) (j : Fin 256) (kd : Fin 128 → ℝ) (t : Fin 16)
    (hk : ∀ x : Fin 256, kb (ix3 0 j x) = if h : x.val < 128 then (kd ⟨x.val, h⟩ : EReal) else if x.val - 128 = t.val then 1 else 0)
    (hq : ∀ l d, q (ix2 l d) = (Q qb l d : EReal)) (sel : FVec Ideal S16x256 .f32) :
    scoreF kb (qaugF q sel) bb (ix2 j l) = ((∑ d, kd d * (Q qb l d * scale) : ℝ) : EReal) + sel (ix2 t l) + bb (ix3 0 j l) := by
  pointwise [scoreF]
  rw [aug_sum Q qb l (fun x => kb (ix3 0 j x)) kd t hk hq sel]

theorem score2_at (kb : FVec Ideal S1x512x256 .bf16) (bb : FVec Ideal S1x512x256 .f32) (j : Fin 512) (kd : Fin 128 → ℝ) (t : Fin 16)
    (hk : ∀ x : Fin 256, kb (ix3 0 j x) = if h : x.val < 128 then (kd ⟨x.val, h⟩ : EReal) else if x.val - 128 = t.val then 1 else 0)
    (hq : ∀ l d, q (ix2 l d) = (Q qb l d : EReal)) (sel : FVec Ideal S16x256 .f32) :
    scoreF2 kb (qaugF q sel) bb (ix2 j l) = ((∑ d, kd d * (Q qb l d * scale) : ℝ) : EReal) + sel (ix2 t l) + bb (ix3 0 j l) := by
  pointwise [scoreF2]
  rw [aug_sum Q qb l (fun x => kb (ix3 0 j x)) kd t hk hq sel]

open Classical in
/-- The weight of a key of an earlier block, from its score. -/
theorem wt_earlier (n : Fin 16) (j : Fin 256) (hn : n < qb) (b c : ℝ) (hb : b + c = -(σ * ((256 * qb.val + l.val : ℝ) - (256 * n.val + j.val : ℝ)))) :
    wt (((∑ d, K n j d * (Q qb l d * scale) : ℝ) : EReal) + (if chosen Q K qb l n ∨ n = qb then 0 else ⊥ : EReal) + (b : EReal) + (c : EReal)) = weight Q K σ scale qb l n j := by
  unfold weight
  have hne : n ≠ qb := hn.ne
  by_cases h : chosen Q K qb l n
  · rw [if_pos (.inl h), if_pos (.inl h), add_zero, ← EReal.coe_add, ← EReal.coe_add, wt_coe]
    congr 1; unfold expo; rw [add_assoc, hb]; ring
  · rw [if_neg (by rintro (h' | h') <;> contradiction), if_neg (by rintro (h' | ⟨h', _⟩) <;> contradiction), EReal.add_bot, EReal.bot_add, EReal.bot_add, wt_bot]

open Classical in
/-- The weight of a key of the query's own block, from its score. -/
theorem wt_own (j : Fin 256) (b : EReal) (hb : b = if j ≤ l then ((-(σ * ((l.val : ℝ) - (j.val : ℝ))) : ℝ) : EReal) else ⊥) :
    wt (((∑ d, K qb j d * (Q qb l d * scale) : ℝ) : EReal) + (if chosen Q K qb l qb ∨ qb = qb then 0 else ⊥ : EReal) + b) = weight Q K σ scale qb l qb j := by
  unfold weight live
  have hn : ¬ chosen Q K qb l qb := fun h => lt_irrefl _ h.1
  rw [if_pos (.inr rfl), add_zero, hb]
  by_cases h : j ≤ l
  · rw [if_pos h, if_pos (.inr ⟨rfl, h⟩), ← EReal.coe_add, wt_coe]
    congr 1; unfold expo; ring
  · rw [if_neg h, if_neg (by rintro (h' | ⟨_, h'⟩) <;> contradiction), EReal.add_bot, wt_bot]

end Cert.Proof.KI.Flow

end
-- ==== Proof.KI.Head.lean ====
/-
  One query of one head: the running softmax over its own block, then over the blocks before it, adds up to the sums of
  Spec.lean.
-/
module

public import proofs.«01_k».proof.Proof.KI.FlowAt

@[expose] public section

set_option maxRecDepth 16384
set_option maxHeartbeats 1000000

noncomputable section

namespace Cert.Proof.KI.Flow

open Cert.KernelIdeal Cert.KernelIdeal.Gen
open Idealize.ShloMosaic Idealize.ShloMosaic.TcCoe Idealize.SL.Sem
open Cert.Proof.Math

/-- An augmented key: the key, then the mark of its block. -/
def augK (K : Fin 16 → Fin 256 → Fin 128 → ℝ) (n : Fin 16) (j : Fin 256) (x : Fin 256) : EReal :=
  if h : x.val < 128 then (K n j ⟨x.val, h⟩ : EReal) else if x.val - 128 = n.val then 1 else 0

/-- An augmented value: the value, then one, then zeros. -/
def augV (V : Fin 16 → Fin 256 → Fin 128 → ℝ) (n : Fin 16) (e : Fin 144) (j : Fin 256) : ℝ :=
  if h : e.val < 128 then V n j ⟨e.val, h⟩ else if e.val = 128 then 1 else 0

variable (Q K V : Fin 16 → Fin 256 → Fin 128 → ℝ) (σ : ℝ) (qb : Fin 16) (l : Fin 256)

/-- What a block of keys adds. -/
def part (n : Fin 16) (e : Fin 144) : ℝ := ∑ j, augV V n e j * weight Q K σ scale qb l n j

/-- What the query's own block and the first `M` blocks add up to. -/
def upto (M : ℕ) (e : Fin 144) : ℝ := part Q K V σ qb l qb e + ∑ n ∈ Finset.univ.filter (fun n : Fin 16 => n.val < M), part Q K V σ qb l n e

theorem upto_zero : upto Q K V σ qb l 0 = part Q K V σ qb l qb := by
  funext e; unfold upto; simp

theorem upto_succ (n : Fin 16) (e : Fin 144) : upto Q K V σ qb l (n.val + 1) e = upto Q K V σ qb l n.val e + part Q K V σ qb l n e := by
  have h : (Finset.univ.filter fun m : Fin 16 => m.val < n.val + 1) = insert n (Finset.univ.filter fun m : Fin 16 => m.val < n.val) := by
    ext m; simp only [Finset.mem_filter, Finset.mem_univ, true_and, Finset.mem_insert, Fin.ext_iff]; omega
  unfold upto
  rw [h, Finset.sum_insert (by simp)]
  ring

theorem upto_own (e : Fin 144) : upto Q K V σ qb l qb.val e = ∑ n, part Q K V σ qb l n e := by
  have h : upto Q K V σ qb l qb.val e = upto Q K V σ qb l (qb.val + 1) e - part Q K V σ qb l qb e := by rw [upto_succ]; ring
  rw [h, upto, add_sub_cancel_left]
  refine Finset.sum_subset (Finset.filter_subset _ _) fun n _ hn => ?_
  unfold part
  refine Finset.sum_eq_zero fun j _ => ?_
  rw [weight_later Q K σ scale qb l n j (by
    simp only [Finset.mem_filter, Finset.mem_univ, true_and] at hn
    exact Fin.lt_def.mpr (by omega)), mul_zero]

theorem upto_denom : upto Q K V σ qb l qb.val 128 = denom Q K σ scale qb l := by
  rw [upto_own]
  unfold denom part augV
  simp

theorem upto_numer (d : Fin 128) : upto Q K V σ qb l qb.val ⟨d.val, by omega⟩ = numer Q K V σ scale qb l d := by
  rw [upto_own]
  unfold numer part augV
  simp

variable {q : FVec Ideal S256x128 .f32} (hq : ∀ l d, q (ix2 l d) = (Q qb l d : EReal)) {sel : FVec Ideal S16x256 .f32}

/-- A score with a real bias is not `+∞`. -/
theorem score_ne_top (p : Prop) [Decidable p] (a : ℝ) (b : EReal) (hb : b ≠ ⊤) : (a : EReal) + (if p then 0 else ⊥ : EReal) + b ≠ ⊤ := by
  rcases bot_or_real hb with rfl | ⟨r, rfl⟩
  · rw [EReal.add_bot]; exact bot_ne_top
  · split_ifs
    · rw [add_zero, ← EReal.coe_add]; exact EReal.coe_ne_top _
    · rw [EReal.add_bot, EReal.bot_add]; exact bot_ne_top

open Classical in
include hq in
/-- The query's own block. -/
theorem own_blk (hsel : ∀ n, sel (ix2 n l) = (if chosen Q K qb l n ∨ n = qb then 0 else ⊥ : EReal))
    (kb : FVec Ideal S1x256x256 .bf16) (bb : FVec Ideal S1x256x256 .f32) (vb : FVec Ideal S1x1x144x256 .bf16)
    (hk : ∀ j x, kb (ix3 0 j x) = augK K qb j x) (hb : ∀ j, bb (ix3 0 j l) = if j ≤ l then ((-(σ * ((l.val : ℝ) - (j.val : ℝ))) : ℝ) : EReal) else ⊥)
    (hv : ∀ e j, vb (ix4 0 0 e j) = (augV V qb e j : EReal)) :
    Acc (topF (scoreF kb (qaugF q sel) bb)) (startF (scoreF kb (qaugF q sel) bb) vb) l (upto Q K V σ qb l 0) := by
  have hs : ∀ j, scoreF kb (qaugF q sel) bb (ix2 j l) = ((∑ d, K qb j d * (Q qb l d * scale) : ℝ) : EReal) + (if chosen Q K qb l qb ∨ qb = qb then 0 else ⊥ : EReal) + bb (ix3 0 j l) :=
    fun j => (score_at Q qb l kb bb j (K qb j) qb (hk j) hq sel).trans (by rw [hsel])
  have hbt : ∀ j, bb (ix3 0 j l) ≠ (⊤ : EReal) := fun j => by rw [hb]; split_ifs; exacts [EReal.coe_ne_top _, bot_ne_top]
  have := start_at l (scoreF kb (qaugF q sel) bb) vb (augV V qb) hv (fun j => by rw [hs]; exact score_ne_top _ _ _ (hbt j)) l (by
    rw [hs, hb, if_pos (le_refl l), if_pos (.inr rfl), add_zero, ← EReal.coe_add]; exact EReal.coe_ne_bot _)
  rw [upto_zero]
  refine (congrArg _ (funext fun e => Finset.sum_congr rfl fun j _ => ?_)).mp this
  rw [hs, wt_own Q K σ qb l j _ (hb j)]

open Classical in
include hq in
/-- A block before it. -/
theorem more_blk (hsel : ∀ n, sel (ix2 n l) = (if chosen Q K qb l n ∨ n = qb then 0 else ⊥ : EReal))
    (kb : FVec Ideal S1x256x256 .bf16) (bb : FVec Ideal S1x256x256 .f32) (vb : FVec Ideal S1x1x144x256 .bf16) (n : Fin 16) (hn : n < qb)
    (b : Fin 256 → ℝ) (c : Ideal .f32) (c' : ℝ) (hc : c = (c' : EReal)) (hbc : ∀ j : Fin 256, b j + c' = -(σ * ((256 * qb.val + l.val : ℝ) - (256 * n.val + j.val : ℝ))))
    (hk : ∀ j x, kb (ix3 0 j x) = augK K n j x) (hb : ∀ j, bb (ix3 0 j l) = (b j : EReal))
    (hv : ∀ e j, vb (ix4 0 0 e j) = (augV V n e j : EReal)) (m : FVec Ideal S1x256 .f32) (A : FVec Ideal S144x256 .f32) (h : Acc m A l (upto Q K V σ qb l n.val)) :
    Acc (topStepF m (scoreF kb (qaugF q sel) bb) c) (accStepF m A (scoreF kb (qaugF q sel) bb) c vb) l (upto Q K V σ qb l (n.val + 1)) := by
  have hs : ∀ j, scoreF kb (qaugF q sel) bb (ix2 j l) = ((∑ d, K n j d * (Q qb l d * scale) : ℝ) : EReal) + (if chosen Q K qb l n ∨ n = qb then 0 else ⊥ : EReal) + (b j : EReal) :=
    fun j => (score_at Q qb l kb bb j (K n j) n (hk j) hq sel).trans (by rw [hsel, hb])
  have := step_at l m A (scoreF kb (qaugF q sel) bb) c vb (augV V n) hv (fun j => by rw [hs]; exact score_ne_top _ _ _ (EReal.coe_ne_top _)) c' hc _ h
  refine (congrArg _ (funext fun e => ?_)).mp this
  rw [upto_succ]
  refine congrArg _ (Finset.sum_congr rfl fun j _ => ?_)
  rw [hs, wt_earlier Q K σ qb l n j hn (b j) c' (hbc j)]

open Classical in
include hq in
/-- Two blocks before it. -/
theorem pair_blk (hsel : ∀ n, sel (ix2 n l) = (if chosen Q K qb l n ∨ n = qb then 0 else ⊥ : EReal))
    (kb : FVec Ideal S1x512x256 .bf16) (bb : FVec Ideal S1x512x256 .f32) (vb vb' : FVec Ideal S1x1x144x256 .bf16) (n n' : Fin 16) (hn' : n' < qb) (hnn : n'.val = n.val + 1)
    (b b' : Fin 256 → ℝ) (c : Ideal .f32) (c' : ℝ) (hc : c = (c' : EReal)) (hbc : ∀ j : Fin 256, b j + c' = -(σ * ((256 * qb.val + l.val : ℝ) - (256 * n.val + j.val : ℝ))))
    (hbc' : ∀ j : Fin 256, b' j + c' = -(σ * ((256 * qb.val + l.val : ℝ) - (256 * n'.val + j.val : ℝ))))
    (hk : ∀ (j : Fin 256) x, kb (ix3 0 ⟨j.val, by omega⟩ x) = augK K n j x) (hb : ∀ j : Fin 256, bb (ix3 0 ⟨j.val, by omega⟩ l) = (b j : EReal))
    (hk' : ∀ (j : Fin 256) x, kb (ix3 0 ⟨256 + j.val, by omega⟩ x) = augK K n' j x) (hb' : ∀ j : Fin 256, bb (ix3 0 ⟨256 + j.val, by omega⟩ l) = (b' j : EReal))
    (hv : ∀ e j, vb (ix4 0 0 e j) = (augV V n e j : EReal)) (hv' : ∀ e j, vb' (ix4 0 0 e j) = (augV V n' e j : EReal))
    (m : FVec Ideal S1x256 .f32) (A : FVec Ideal S144x256 .f32) (h : Acc m A l (upto Q K V σ qb l n.val)) :
    Acc (topStepF2 m (scoreF2 kb (qaugF q sel) bb) c) (accStepF2 m A (scoreF2 kb (qaugF q sel) bb) c vb vb') l (upto Q K V σ qb l (n.val + 2)) := by
  have hn : n < qb := Fin.lt_def.mpr (by have := Fin.lt_def.mp hn'; omega)
  have hs : ∀ j : Fin 256, scoreF2 kb (qaugF q sel) bb (ix2 ⟨j.val, by omega⟩ l) = ((∑ d, K n j d * (Q qb l d * scale) : ℝ) : EReal) + (if chosen Q K qb l n ∨ n = qb then 0 else ⊥ : EReal) + (b j : EReal) :=
    fun j => (score2_at Q qb l kb bb _ (K n j) n (hk j) hq sel).trans (by rw [hsel, hb])
  have hs' : ∀ j : Fin 256, scoreF2 kb (qaugF q sel) bb (ix2 ⟨256 + j.val, by omega⟩ l) = ((∑ d, K n' j d * (Q qb l d * scale) : ℝ) : EReal) + (if chosen Q K qb l n' ∨ n' = qb then 0 else ⊥ : EReal) + (b' j : EReal) :=
    fun j => (score2_at Q qb l kb bb _ (K n' j) n' (hk' j) hq sel).trans (by rw [hsel, hb'])
  have hst : ∀ j : Fin 512, scoreF2 kb (qaugF q sel) bb (ix2 j l) ≠ (⊤ : EReal) := fun j => by
    by_cases hj : j.val < 256
    · have := hs ⟨j.val, hj⟩
      rw [this]; exact score_ne_top _ _ _ (EReal.coe_ne_top _)
    · have := hs' ⟨j.val - 256, by omega⟩
      rw [show j = ⟨256 + (j.val - 256), by omega⟩ from Fin.ext (by simp only; omega), this]; exact score_ne_top _ _ _ (EReal.coe_ne_top _)
  have := step2_at l m A (scoreF2 kb (qaugF q sel) bb) c vb vb' (augV V n) (augV V n') hv hv' hst c' hc _ h
  refine (congrArg _ (funext fun e => ?_)).mp this
  rw [show n.val + 2 = n'.val + 1 by omega, upto_succ, hnn, upto_succ, add_assoc]
  refine congrArg _ (congrArg₂ _ (Finset.sum_congr rfl fun j _ => ?_) (Finset.sum_congr rfl fun j _ => ?_))
  · rw [hs, wt_earlier Q K σ qb l n j hn (b j) c' (hbc j)]
  · rw [hs', wt_earlier Q K σ qb l n' j hn' (b' j) c' (hbc' j)]

/-- What is written out once all the blocks are in. -/
theorem out_blk (m : FVec Ideal S1x256 .f32) (A : FVec Ideal S144x256 .f32) (h : Acc m A l (upto Q K V σ qb l qb.val)) (e : Fin 128) :
    k0_pay1 (F := Ideal) A (ix3 0 l e) = (result Q K V σ scale qb l e : EReal) := by
  rw [out_at l m A _ h (by rw [upto_denom]; exact (denom_pos Q K σ scale qb l).ne') e, upto_denom, upto_numer]
  rfl

end Cert.Proof.KI.Flow

end
-- ==== Proof.KI.Stores.lean ====
/-
  What the kernel's stores leave in its scratch: the lists of pieces, by number.
-/
module

public import proofs.«01_k».proof.Proof.KI.Run
public import proofs.«01_k».proof.Proof.KI.FlowAt
public import Idealize.ShloMosaic.Lib.Pipeline.ValueKit.Tiles

@[expose] public section

set_option maxRecDepth 65536
set_option maxHeartbeats 2000000

noncomputable section

namespace Cert.Proof.KI

open Cert.KernelIdeal Cert.KernelIdeal.Gen
open Idealize.ShloMosaic Idealize.ShloMosaic.TcCoe Idealize.SL.Sem
open Flow

/-- Lists of pieces stored one after another, the last first, over `base`. -/
def stack {s : Shape} {e : EltTy} {N : ℕ} (base : List (View.Piece (Elt Ideal) s e)) (f : ∀ p : ℕ, p < N → List (View.Piece (Elt Ideal) s e)) : ℕ → List (View.Piece (Elt Ideal) s e)
  | 0 => base
  | p + 1 => if h : p < N then f p h ++ stack base f p else stack base f p

theorem canon_append {s : Shape} {e : EltTy} (L L' : List (View.Piece (Elt Ideal) s e)) (y : s.Idx) (v : Elt Ideal e)
    (h : View.AllAt L y v) (h' : (∀ p ∈ L, y ∉ p.1.set) → View.canon L' y = v) : View.canon (L ++ L') y = v := by
  induction L with
  | nil => exact h' (by simp)
  | cons p L ih =>
    rw [List.cons_append]
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine ih (fun q hq => h q (List.mem_cons_of_mem _ hq)) fun hL => h' fun q hq => ?_
      rcases List.mem_cons.mp hq with rfl | hq
      · exact hm
      · exact hL q hq

/-- A stack holds at `y` the value that all its pieces holding `y` agree on. -/
theorem canon_stack {s : Shape} {e : EltTy} {N : ℕ} (base : List (View.Piece (Elt Ideal) s e)) (f : ∀ p : ℕ, p < N → List (View.Piece (Elt Ideal) s e)) (y : s.Idx) (v : Elt Ideal e)
    (hall : ∀ p h, View.AllAt (f p h) y v) (hcov : ∃ p, ∃ h : p < N, ∃ q ∈ f p h, y ∈ q.1.set) : View.canon (stack base f N) y = v := by
  have key : ∀ n, n ≤ N → (∃ p, ∃ h : p < N, p < n ∧ ∃ q ∈ f p h, y ∈ q.1.set) → View.canon (stack base f n) y = v := by
    intro n
    induction n with
    | zero => rintro _ ⟨p, _, hp, _⟩; omega
    | succ n ih =>
      rintro hn ⟨p, h, hp, q, hq, hy⟩
      rw [stack, dif_pos (by omega)]
      refine canon_append _ _ _ _ (hall n (by omega)) fun hno => ih (by omega) ⟨p, h, ?_, q, hq, hy⟩
      by_contra hpn
      obtain rfl : p = n := by omega
      exact hno q hq hy
  obtain ⟨p, h, hq⟩ := hcov
  exact key N le_rfl ⟨p, h, h, hq⟩

variable (i : grid0.Coords) (arg2 : Memref sig .tc .smem S16 .f32) (arg4 : Memref sig .tc .vmem S1x4096x256 .f32) (arg5 : Memref sig .tc .vmem S1x4096x256 .f32)
  (X2 : BufTy.Contents (Elt Ideal) arg2.view.ty) (X4 : BufTy.Contents (Elt Ideal) arg4.view.ty) (X5 : BufTy.Contents (Elt Ideal) arg5.view.ty)

theorem inb_key {p : ℕ} (hp : p < 32) : ∀ a, ![p / 16, 256 * (p % 16), 0] a + S1x256x128.size a ≤ S2x4096x256.size a :=
  (by decide +kernel : ∀ q : Fin 32, ∀ a, ![q.val / 16, 256 * (q.val % 16), 0] a + S1x256x128.size a ≤ S2x4096x256.size a) ⟨p, hp⟩
theorem inb_mark {p : ℕ} (hp : p < 32) : ∀ a, ![p / 16, 256 * (p % 16), 128] a + S1x256x128.size a ≤ S2x4096x256.size a :=
  (by decide +kernel : ∀ q : Fin 32, ∀ a, ![q.val / 16, 256 * (q.val % 16), 128] a + S1x256x128.size a ≤ S2x4096x256.size a) ⟨p, hp⟩
theorem inb_in {p : ℕ} (hp : p < 32) : ∀ a, ![0, 256 * (p % 16), 128 * (p / 16)] a + S1x256x128.size a ≤ S1x4096x256.size a :=
  (by decide +kernel : ∀ q : Fin 32, ∀ a, ![0, 256 * (q.val % 16), 128 * (q.val / 16)] a + S1x256x128.size a ≤ S1x4096x256.size a) ⟨p, hp⟩
theorem inb_val {p : ℕ} (hp : p < 32) : ∀ a, ![p / 16, p % 16, 0, 0] a + S1x1x128x256.size a ≤ S2x16x144x256.size a :=
  (by decide +kernel : ∀ q : Fin 32, ∀ a, ![q.val / 16, q.val % 16, 0, 0] a + S1x1x128x256.size a ≤ S2x16x144x256.size a) ⟨p, hp⟩
theorem inb_one {p : ℕ} (hp : p < 32) : ∀ a, ![p / 16, p % 16, 128, 0] a + S1x1x16x256.size a ≤ S2x16x144x256.size a :=
  (by decide +kernel : ∀ q : Fin 32, ∀ a, ![q.val / 16, q.val % 16, 128, 0] a + S1x1x16x256.size a ≤ S2x16x144x256.size a) ⟨p, hp⟩
theorem inb_row {p : ℕ} (hp : p < 32) : ∀ a, ![p / 16, p % 16, 0] a + S1x1x128.size a ≤ S2x16x128.size a :=
  (by decide +kernel : ∀ q : Fin 32, ∀ a, ![q.val / 16, q.val % 16, 0] a + S1x1x128.size a ≤ S2x16x128.size a) ⟨p, hp⟩
theorem inb_bias {p : ℕ} (hp : p < 6) : ∀ a, ![p / 3, 256 * (p % 3), 0] a + S1x256x256.size a ≤ S2x768x256.size a :=
  (by decide +kernel : ∀ q : Fin 6, ∀ a, ![q.val / 3, 256 * (q.val % 3), 0] a + S1x256x256.size a ≤ S2x768x256.size a) ⟨p, hp⟩

/-- The block of keys (or values) number `p % 16` of head `p / 16`. -/
def blkOf (b : Memref sig .tc .vmem S1x4096x256 .f32) (X : BufTy.Contents (Elt Ideal) b.view.ty) (p : ℕ) (hp : p < 32) : FVec Ideal S256x128 .f32 :=
  shapeCast S256x128 (View.readAt (Elt Ideal) b.view (Rect.unit (s := S1x4096x256) ![0, 256 * (p % 16), 128 * (p / 16)] S1x256x128.size (inb_in hp)).toLoadRect X) shapeCasts_S1x256x128_S256x128

/-- The stored keys of a block. -/
def keyP (x : FVec Ideal S256x128 .f32) : FVec Ideal S1x256x128 .bf16 := shapeCast S1x256x128 (truncf .bf16 x bitsLt_bf16_f32) shapeCasts_S256x128_S1x256x128
/-- The stored mark of a block. -/
def markP (n : ℕ) : FVec Ideal S1x256x128 .bf16 :=
  shapeCast S1x256x128 (truncf .bf16 (select (cmpi .eq (iota .tc S256x128 32 [1] iota_S256x128_d1_w32) (broadcast S256x128 (BitVec.ofNat 32 n)))
    (broadcast S256x128 (Scalar.ofBits (F := Ideal) .f32 0x3F800000#32)) (broadcast S256x128 (Scalar.ofBits .f32 0x00000000#32))) bitsLt_bf16_f32) shapeCasts_S256x128_S1x256x128

/-- The stored values of a block, transposed. -/
def valP (x : FVec Ideal S256x128 .f32) : FVec Ideal S1x1x128x256 .bf16 :=
  shapeCast S1x1x128x256 (truncf .bf16 (transpose S128x256 [1, 0] x transposes_S256x128_p1_0_S128x256) bitsLt_bf16_f32) shapeCasts_S128x256_S1x1x128x256
/-- The rows below the values: ones, then zeros. -/
def oneP : FVec Ideal S1x1x16x256 .bf16 :=
  shapeCast S1x1x16x256 (truncf .bf16 (select (cmpi .eq (iota .tc S16x256 32 [0] iota_S16x256_d0_w32) (broadcast S16x256 0#32))
    (broadcast S16x256 (Scalar.ofBits (F := Ideal) .f32 0x3F800000#32)) (broadcast S16x256 (Scalar.ofBits .f32 0x00000000#32))) bitsLt_bf16_f32) shapeCasts_S16x256_S1x1x16x256
/-- The stored mean of a block. -/
def rowP (x : FVec Ideal S256x128 .f32) : FVec Ideal S1x1x128 .f32 :=
  shapeCast S1x1x128 (mulf (shapeCast S1x128 (multiReduction .add [0] S128 x 0x00000000#32 reduces_S256x128_S128 (.inl rfl) rfl) shapeCasts_S128_S1x128)
    (broadcast S1x128 (Scalar.ofBits .f32 0x3B800000#32))) shapeCasts_S1x128_S1x1x128
/-- The distance of a query past a key, both counted from a block's start. -/
def distF : FVec Ideal S256x256 .f32 := sitofp .f32 (subi (iota .tc S256x256 32 [1] iota_S256x256_d1_w32) (iota .tc S256x256 32 [0] iota_S256x256_d0_w32))
/-- The stored bias, of kind `a`: of the block before, of the block, of the block behind the diagonal. -/
def biasP (v : Ideal .f32) (a : ℕ) : FVec Ideal S1x256x256 .f32 :=
  shapeCast S1x256x256 (match a with
    | 0 => mulf (broadcast S256x256 (Scalar.subf (Scalar.ofBits .f32 0x00000000#32) v)) (addf distF (broadcast S256x256 (Scalar.ofBits .f32 0x43800000#32)))
    | 1 => mulf (broadcast S256x256 (Scalar.subf (Scalar.ofBits .f32 0x00000000#32) v)) distF
    | _ => select (cmpf .oge distF (broadcast S256x256 (Scalar.ofBits .f32 0x00000000#32))) (mulf (broadcast S256x256 (Scalar.subf (Scalar.ofBits .f32 0x00000000#32) v)) distF)
        (broadcast S256x256 (Scalar.ofBits .f32 0xFF800000#32))) shapeCasts_S256x256_S1x256x256

/-- The pieces of the augmented keys. -/
def keyL (p : ℕ) (hp : p < 32) : List (View.Piece (Elt Ideal) S2x4096x256 .bf16) :=
  [⟨Rect.unit ![p / 16, 256 * (p % 16), 128] S1x256x128.size (inb_mark hp), markP (p % 16)⟩,
   ⟨Rect.unit ![p / 16, 256 * (p % 16), 0] S1x256x128.size (inb_key hp), keyP (blkOf arg4 X4 p hp)⟩]
/-- The pieces of the transposed values. -/
def valL (p : ℕ) (hp : p < 32) : List (View.Piece (Elt Ideal) S2x16x144x256 .bf16) :=
  [⟨Rect.unit ![p / 16, p % 16, 128, 0] S1x1x16x256.size (inb_one hp), oneP⟩,
   ⟨Rect.unit ![p / 16, p % 16, 0, 0] S1x1x128x256.size (inb_val hp), valP (blkOf arg5 X5 p hp)⟩]
/-- The pieces of the means. -/
def rowL (p : ℕ) (hp : p < 32) : List (View.Piece (Elt Ideal) S2x16x128 .f32) :=
  [⟨Rect.unit ![p / 16, p % 16, 0] S1x1x128.size (inb_row hp), rowP (blkOf arg4 X4 p hp)⟩]
/-- The slope of a head, as the kernel reads it. -/
def slopeOf (a : ℕ) : Ideal .f32 := if a = 0 then bodyRun.sl.r (F := Ideal) i arg2 X2 else bodyRun.sl.r_1 (F := Ideal) i arg2 X2
/-- The pieces of the biases. -/
def biasL (p : ℕ) (hp : p < 6) : List (View.Piece (Elt Ideal) S2x768x256 .f32) :=
  [⟨Rect.unit ![p / 3, 256 * (p % 3), 0] S1x256x256.size (inb_bias hp), biasP (slopeOf i arg2 X2 (p / 3)) (p % 3)⟩]

theorem key_stack : bodyRun.sl.H7_64 (F := Ideal) arg4 X4 = stack [] (keyL arg4 X4) 32 := rfl
theorem val_stack : bodyRun.sl.H8_64 (F := Ideal) arg5 X5 = stack [] (valL arg5 X5) 32 := rfl
theorem row_stack : bodyRun.sl.H9_33 (F := Ideal) arg4 X4 = stack (bodyRun.sl.H9_1 (F := Ideal)) (rowL arg4 X4) 32 := rfl
theorem bias_stack : bodyRun.sl.H10_6 (F := Ideal) i arg2 X2 = stack [] (biasL i arg2 X2) 6 := rfl

end Cert.Proof.KI

end
-- ==== Proof.KI.StoresAt.lean ====
/-
  The kernel's scratch, entry by entry: the augmented keys, the transposed values over a row of ones, the means, and the
  biases.
-/
module

public import proofs.«01_k».proof.Proof.KI.Stores

@[expose] public section

set_option maxRecDepth 16384
set_option maxHeartbeats 100000

noncomputable section

namespace Cert.Proof.KI

open Cert.KernelIdeal Cert.KernelIdeal.Gen
open Idealize.ShloMosaic Idealize.ShloMosaic.TcCoe Idealize.SL.Sem
open Flow Idealize.ShloMosaic.WordCmp Cert.Proof.Math

theorem ofBits_256 : Ideal.ofBits .f32 0x43800000#32 = ((256 : ℝ) : EReal) := by
  simp [Ideal.ofBits, Ideal.ieee, -EReal.coe_mul]; norm_num
theorem ofBits_256th : Ideal.ofBits .f32 0x3B800000#32 = ((1 / 256 : ℝ) : EReal) := by
  simp [Ideal.ofBits, Ideal.ieee, -EReal.coe_mul]; norm_num

theorem mem_unit {s : Shape} {r : ℕ} (hs : s.rank = r) (off size : Fin s.rank → ℕ) (inb) (y : s.Idx) (h : ∀ a : Fin r, off (a.cast hs.symm) ≤ (y (a.cast hs.symm)).val ∧ (y (a.cast hs.symm)).val < off (a.cast hs.symm) + size (a.cast hs.symm)) :
    y ∈ (Rect.unit off size inb).set := Rect.mem_set_unit.mpr fun a => h (a.cast hs)

variable (i : grid0.Coords) (arg2 : Memref sig .tc .smem S16 .f32) (arg4 : Memref sig .tc .vmem S1x4096x256 .f32) (arg5 : Memref sig .tc .vmem S1x4096x256 .f32)
  (X2 : BufTy.Contents (Elt Ideal) arg2.view.ty) (X4 : BufTy.Contents (Elt Ideal) arg4.view.ty) (X5 : BufTy.Contents (Elt Ideal) arg5.view.ty)

theorem cast_block (x : FVec Ideal S1x256x128 .f32) (j : Fin 256) (d : Fin 128) : shapeCast S256x128 x shapeCasts_S1x256x128_S256x128 (ix2 j d) = x (ix3 0 j d) := by
  pointwise

theorem blkOf_at (b : Memref sig .tc .vmem S1x4096x256 .f32) (X : BufTy.Contents (Elt Ideal) b.view.ty) (p : ℕ) (hp : p < 32) (j : Fin 256) (d : Fin 128) :
    blkOf b X p hp (ix2 j d) = b.view.read (Elt Ideal) X (ix3 0 ⟨256 * (p % 16) + j.val, by omega⟩ ⟨128 * (p / 16) + d.val, by omega⟩) := by
  refine (cast_block _ j d).trans ?_
  show b.view.read (Elt Ideal) X ((Rect.unit (s := S1x4096x256) ![0, 256 * (p % 16), 128 * (p / 16)] S1x256x128.size (inb_in hp)).idx (ix3 0 j d)) = _
  congr 1
  funext a
  apply Fin.ext
  rw [Rect.idx_unit_val]
  match a with
  | 0 => rfl
  | 1 => rfl
  | 2 => rfl

theorem keyP_at (x : FVec Ideal S256x128 .f32) (j : Fin 256) (d : Fin 128) : keyP x (ix3 0 j d) = x (ix2 j d) := by pointwise [keyP]
theorem markP_at (n : ℕ) (hn : n < 16) (j : Fin 256) (d : Fin 128) : markP n (ix3 0 j d) = (if d.val = n then 1 else 0 : EReal) := by
  pointwise [markP]
  rw [cmpi_eq_ofNat (by omega) (by omega), select_decide]
theorem valP_at (x : FVec Ideal S256x128 .f32) (d : Fin 128) (j : Fin 256) : valP x (ix4 0 0 d j) = x (ix2 j d) := by pointwise [valP]
theorem oneP_at (d : Fin 16) (j : Fin 256) : oneP (ix4 0 0 d j) = (if d.val = 0 then 1 else 0 : EReal) := by
  pointwise [oneP]
  rw [show (0#32) = BitVec.ofNat 32 0 from rfl, cmpi_eq_ofNat (by omega) (by omega), select_decide]
theorem rowP_at (x : FVec Ideal S256x128 .f32) (d : Fin 128) : rowP x (ix3 0 0 d) = (∑ j, x (ix2 j d) : EReal) * ((1 / 256 : ℝ) : EReal) := by
  pointwise [rowP]
  rw [ofBits_256th]
/-- The difference of two small words, signed. -/
theorem toInt_sub_ofNat (a b : ℕ) (ha : a < 65536) (hb : b < 65536) : (BitVec.ofNat 32 a - BitVec.ofNat 32 b).toInt = (a : ℤ) - (b : ℤ) := by
  rw [BitVec.toInt_sub, toInt_ofNat_of_lt (by omega), toInt_ofNat_of_lt (by omega)]
  exact Int.bmod_eq_of_le (by omega) (by omega)
theorem distF_at (j l : Fin 256) : distF (ix2 j l) = ((((l.val : ℝ) - (j.val : ℝ) : ℝ)) : EReal) := by
  pointwise [distF]
  show (((BitVec.ofNat 32 l.val - BitVec.ofNat 32 j.val).toInt : ℝ) : EReal) = _
  rw [toInt_sub_ofNat _ _ (by omega) (by omega)]
  push_cast; rfl

theorem biasP_at (v : ℝ) (a : ℕ) (j l : Fin 256) : biasP (v : EReal) a (ix3 0 j l) =
    (match a with
     | 0 => ((-(v * ((l.val : ℝ) - (j.val : ℝ) + 256)) : ℝ) : EReal)
     | 1 => ((-(v * ((l.val : ℝ) - (j.val : ℝ))) : ℝ) : EReal)
     | _ => if j ≤ l then ((-(v * ((l.val : ℝ) - (j.val : ℝ))) : ℝ) : EReal) else ⊥) := by
  unfold biasP
  split <;> pointwise <;> simp only [distF_at]
  · rw [ofBits_256, ← EReal.coe_zero, ← EReal.coe_sub, ← EReal.coe_add, ← EReal.coe_mul]; congr 1; ring
  · rw [← EReal.coe_zero, ← EReal.coe_sub, ← EReal.coe_mul]; congr 1; ring
  · rw [ofBits_ninf]
    by_cases h : j ≤ l
    · have : (j.val : ℝ) ≤ (l.val : ℝ) := by exact_mod_cast h
      rw [if_pos h, if_pos (by rw [← EReal.coe_zero, EReal.coe_le_coe_iff]; linarith), ← EReal.coe_zero, ← EReal.coe_sub, ← EReal.coe_mul]; congr 1; ring
    · have : (l.val : ℝ) < (j.val : ℝ) := by exact_mod_cast lt_of_not_ge h
      rw [if_neg h, if_neg (by rw [← EReal.coe_zero, EReal.coe_le_coe_iff]; linarith)]

/-- The augmented keys: the key, then the mark of its block. -/
theorem key_at (h : Fin 2) (t : Fin 4096) (e : Fin 256) : View.canon (bodyRun.sl.H7_64 (F := Ideal) arg4 X4) (ix3 h t e) =
    (if he : e.val < 128 then arg4.view.read (Elt Ideal) X4 (ix3 0 t ⟨128 * h.val + e.val, by omega⟩) else if e.val - 128 = t.val / 256 then 1 else 0 : EReal) := by
  rw [key_stack]
  refine canon_stack _ _ _ _ (fun p hp => ?_) ⟨16 * h.val + t.val / 256, by omega, ?_⟩
  · refine View.allAt_cons_unit _ _ _ _ _ (fun x hx => ?_) (View.allAt_cons_unit _ _ _ _ _ (fun x hx => ?_) (View.allAt_nil _ _))
    · obtain ⟨a, j, d, rfl⟩ : ∃ (a : Fin 1) (j : Fin 256) (d : Fin 128), x = ix3 a j d := ⟨_, _, _, eq_ix3 x⟩
      have h0 : h.val = p / 16 + a.val := hx 0
      have h1 : t.val = 256 * (p % 16) + j.val := hx 1
      have h2 : e.val = 128 + d.val := hx 2
      obtain rfl : a = 0 := Subsingleton.elim _ _
      refine (markP_at (p % 16) (by omega) j d).trans ?_
      rw [dif_neg (by omega)]
      exact if_congr (by omega) rfl rfl
    · obtain ⟨a, j, d, rfl⟩ : ∃ (a : Fin 1) (j : Fin 256) (d : Fin 128), x = ix3 a j d := ⟨_, _, _, eq_ix3 x⟩
      have h0 : h.val = p / 16 + a.val := hx 0
      have h1 : t.val = 256 * (p % 16) + j.val := hx 1
      have h2 : e.val = 0 + d.val := hx 2
      obtain rfl : a = 0 := Subsingleton.elim _ _
      refine (keyP_at _ j d).trans ((blkOf_at arg4 X4 p hp j d).trans ?_)
      rw [dif_pos (by omega)]
      congr 2 <;> (apply Fin.ext; simp only; simp only [Fin.val_zero] at h0; omega)
  · by_cases he : e.val < 128
    · refine ⟨_, List.mem_cons_of_mem _ List.mem_cons_self, mem_unit rfl _ _ (inb_key (by omega)) _ fun a => ?_⟩
      match a with
      | 0 => exact ⟨(show (16 * h.val + t.val / 256) / 16 ≤ h.val by omega), (show h.val < (16 * h.val + t.val / 256) / 16 + 1 by omega)⟩
      | 1 => exact ⟨(show 256 * ((16 * h.val + t.val / 256) % 16) ≤ t.val by omega), (show t.val < 256 * ((16 * h.val + t.val / 256) % 16) + 256 by omega)⟩
      | 2 => exact ⟨Nat.zero_le _, (show e.val < 0 + 128 by omega)⟩
    · refine ⟨_, List.mem_cons_self, mem_unit rfl _ _ (inb_mark (by omega)) _ fun a => ?_⟩
      match a with
      | 0 => exact ⟨(show (16 * h.val + t.val / 256) / 16 ≤ h.val by omega), (show h.val < (16 * h.val + t.val / 256) / 16 + 1 by omega)⟩
      | 1 => exact ⟨(show 256 * ((16 * h.val + t.val / 256) % 16) ≤ t.val by omega), (show t.val < 256 * ((16 * h.val + t.val / 256) % 16) + 256 by omega)⟩
      | 2 => exact ⟨(show 128 ≤ e.val by omega), (show e.val < 128 + 128 by omega)⟩

/-- The transposed values, over a row of ones, over zeros. -/
theorem val_at (h : Fin 2) (n : Fin 16) (e : Fin 144) (j : Fin 256) : View.canon (bodyRun.sl.H8_64 (F := Ideal) arg5 X5) (ix4 h n e j) =
    (if he : e.val < 128 then arg5.view.read (Elt Ideal) X5 (ix3 0 ⟨256 * n.val + j.val, by omega⟩ ⟨128 * h.val + e.val, by omega⟩) else if e.val = 128 then 1 else 0 : EReal) := by
  rw [val_stack]
  refine canon_stack _ _ _ _ (fun p hp => ?_) ⟨16 * h.val + n.val, by omega, ?_⟩
  · refine View.allAt_cons_unit _ _ _ _ _ (fun x hx => ?_) (View.allAt_cons_unit _ _ _ _ _ (fun x hx => ?_) (View.allAt_nil _ _))
    · obtain ⟨a, b, d, l, rfl⟩ : ∃ (a : Fin 1) (b : Fin 1) (d : Fin 16) (l : Fin 256), x = ix4 a b d l := ⟨_, _, _, _, eq_ix4 x⟩
      have h2 : e.val = 128 + d.val := hx 2
      obtain rfl : a = 0 := Subsingleton.elim _ _
      obtain rfl : b = 0 := Subsingleton.elim _ _
      refine (oneP_at d l).trans ?_
      rw [dif_neg (by omega)]
      exact if_congr (by omega) rfl rfl
    · obtain ⟨a, b, d, l, rfl⟩ : ∃ (a : Fin 1) (b : Fin 1) (d : Fin 128) (l : Fin 256), x = ix4 a b d l := ⟨_, _, _, _, eq_ix4 x⟩
      have h0 : h.val = p / 16 + a.val := hx 0
      have h1 : n.val = p % 16 + b.val := hx 1
      have h2 : e.val = 0 + d.val := hx 2
      have h3 : j.val = 0 + l.val := hx 3
      obtain rfl : a = 0 := Subsingleton.elim _ _
      obtain rfl : b = 0 := Subsingleton.elim _ _
      refine (valP_at _ d l).trans ((blkOf_at arg5 X5 p hp l d).trans ?_)
      rw [dif_pos (by omega)]
      congr 2 <;> (apply Fin.ext; simp only; simp only [Fin.val_zero] at h0 h1; omega)
  · by_cases he : e.val < 128
    · refine ⟨_, List.mem_cons_of_mem _ List.mem_cons_self, mem_unit rfl _ _ (inb_val (by omega)) _ fun a => ?_⟩
      match a with
      | 0 => exact ⟨(show (16 * h.val + n.val) / 16 ≤ h.val by omega), (show h.val < (16 * h.val + n.val) / 16 + 1 by omega)⟩
      | 1 => exact ⟨(show (16 * h.val + n.val) % 16 ≤ n.val by omega), (show n.val < (16 * h.val + n.val) % 16 + 1 by omega)⟩
      | 2 => exact ⟨Nat.zero_le _, (show e.val < 0 + 128 by omega)⟩
      | 3 => exact ⟨Nat.zero_le _, (show j.val < 0 + 256 by omega)⟩
    · refine ⟨_, List.mem_cons_self, mem_unit rfl _ _ (inb_one (by omega)) _ fun a => ?_⟩
      match a with
      | 0 => exact ⟨(show (16 * h.val + n.val) / 16 ≤ h.val by omega), (show h.val < (16 * h.val + n.val) / 16 + 1 by omega)⟩
      | 1 => exact ⟨(show (16 * h.val + n.val) % 16 ≤ n.val by omega), (show n.val < (16 * h.val + n.val) % 16 + 1 by omega)⟩
      | 2 => exact ⟨(show 128 ≤ e.val by omega), (show e.val < 128 + 16 by omega)⟩
      | 3 => exact ⟨Nat.zero_le _, (show j.val < 0 + 256 by omega)⟩

/-- The means. -/
theorem row_at (h : Fin 2) (n : Fin 16) (d : Fin 128) : View.canon (bodyRun.sl.H9_33 (F := Ideal) arg4 X4) (ix3 h n d) =
    ((∑ j : Fin 256, arg4.view.read (Elt Ideal) X4 (ix3 0 ⟨256 * n.val + j.val, by omega⟩ ⟨128 * h.val + d.val, by omega⟩)) * ((1 / 256 : ℝ) : EReal) : EReal) := by
  rw [row_stack]
  refine canon_stack _ _ _ _ (fun p hp => ?_) ⟨16 * h.val + n.val, by omega, _, List.mem_cons_self, mem_unit rfl _ _ (inb_row (by omega)) _ fun a => ?_⟩
  · refine View.allAt_cons_unit _ _ _ _ _ (fun x hx => ?_) (View.allAt_nil _ _)
    obtain ⟨a, b, d', rfl⟩ : ∃ (a : Fin 1) (b : Fin 1) (d' : Fin 128), x = ix3 a b d' := ⟨_, _, _, eq_ix3 x⟩
    have h0 : h.val = p / 16 + a.val := hx 0
    have h1 : n.val = p % 16 + b.val := hx 1
    have h2 : d.val = 0 + d'.val := hx 2
    obtain rfl : a = 0 := Subsingleton.elim _ _
    obtain rfl : b = 0 := Subsingleton.elim _ _
    refine (rowP_at _ d').trans (congrArg (· * _) (Finset.sum_congr rfl fun j _ => (blkOf_at arg4 X4 p hp j d').trans ?_))
    congr 2 <;> (apply Fin.ext; simp only; simp only [Fin.val_zero] at h0 h1; omega)
  · match a with
    | 0 => exact ⟨(show (16 * h.val + n.val) / 16 ≤ h.val by omega), (show h.val < (16 * h.val + n.val) / 16 + 1 by omega)⟩
    | 1 => exact ⟨(show (16 * h.val + n.val) % 16 ≤ n.val by omega), (show n.val < (16 * h.val + n.val) % 16 + 1 by omega)⟩
    | 2 => exact ⟨Nat.zero_le _, (show d.val < 0 + 128 by omega)⟩

/-- The biases, of the three kinds. -/
theorem bias_at (h : Fin 2) (a : Fin 3) (j l : Fin 256) : View.canon (bodyRun.sl.H10_6 (F := Ideal) i arg2 X2) (ix3 h ⟨256 * a.val + j.val, by omega⟩ l) =
    biasP (slopeOf i arg2 X2 h.val) a.val (ix3 0 j l) := by
  rw [bias_stack]
  refine canon_stack _ _ _ _ (fun p hp => ?_) ⟨3 * h.val + a.val, by omega, _, List.mem_cons_self, mem_unit rfl _ _ (inb_bias (by omega)) _ fun b => ?_⟩
  · refine View.allAt_cons_unit _ _ _ _ _ (fun x hx => ?_) (View.allAt_nil _ _)
    obtain ⟨b, j', l', rfl⟩ : ∃ (b : Fin 1) (j' : Fin 256) (l' : Fin 256), x = ix3 b j' l' := ⟨_, _, _, eq_ix3 x⟩
    have h0 : h.val = p / 3 + b.val := hx 0
    have h1 : 256 * a.val + j.val = 256 * (p % 3) + j'.val := hx 1
    have h2 : l.val = 0 + l'.val := hx 2
    obtain rfl : b = 0 := Subsingleton.elim _ _
    simp only [Fin.val_zero] at h0
    rw [show p / 3 = h.val by omega, show p % 3 = a.val by omega, show j' = j from Fin.ext (by omega), show l' = l from Fin.ext (by omega)]
  · match b with
    | 0 => exact ⟨(show (3 * h.val + a.val) / 3 ≤ h.val by omega), (show h.val < (3 * h.val + a.val) / 3 + 1 by omega)⟩
    | 1 => exact ⟨(show 256 * ((3 * h.val + a.val) % 3) ≤ 256 * a.val + j.val by omega), (show 256 * a.val + j.val < 256 * ((3 * h.val + a.val) % 3) + 256 by omega)⟩
    | 2 => exact ⟨Nat.zero_le _, (show l.val < 0 + 256 by omega)⟩

end Cert.Proof.KI

end
-- ==== Proof.KI.Block.lean ====
/-
  One query block: what it stores is the attention of each of its queries, at both heads.
-/
module

public import proofs.«01_k».proof.Proof.KI.Parts
public import proofs.«01_k».proof.Proof.KI.Head
public import proofs.«01_k».proof.Proof.KI.StoresAt

@[expose] public section

set_option maxRecDepth 65536
set_option maxHeartbeats 400000

noncomputable section

namespace Cert.Proof.KI

open Cert.KernelIdeal Cert.KernelIdeal.Gen
open Idealize.ShloMosaic Idealize.ShloMosaic.TcCoe Idealize.SL.Sem
open Cert.Proof.Math Flow

theorem t2_trips : ∀ k : Fin k0_t1_loop.trips, (k0_t2_loop k).trips = k.val / 2 := by decide +kernel
theorem off8_eq : ∀ k, ∀ n, k0_off8 k n = ![0, 256 * (k.val % 2 + 2 * n.val), 0] := by decide +kernel
theorem off9_eq : ∀ k, ∀ n, k0_off9 k n = ![0, k.val % 2 + 2 * n.val, 0, 0] := by decide +kernel
theorem off10_eq : ∀ k, ∀ n, k0_off10 k n = ![0, k.val % 2 + 2 * n.val + 1, 0, 0] := by decide +kernel
theorem off11_eq : ∀ k, ∀ n, k0_off11 k n = ![1, 256 * (k.val % 2 + 2 * n.val), 0] := by decide +kernel
theorem off12_eq : ∀ k, ∀ n, k0_off12 k n = ![1, k.val % 2 + 2 * n.val, 0, 0] := by decide +kernel
theorem off13_eq : ∀ k, ∀ n, k0_off13 k n = ![1, k.val % 2 + 2 * n.val + 1, 0, 0] := by decide +kernel
theorem far_word : ∀ k, ∀ n : Fin (k0_t2_loop k).trips, (Scalar.muli (Scalar.subi (Scalar.subi (blkNo k) (Scalar.addi (blkPar k) (Scalar.muli 2#32 (Scf.iv 0#32 1#32 n)))) 1#32) 256#32).toInt = 256 * ((k.val : ℤ) - (k.val % 2 + 2 * n.val : ℤ) - 1) := by decide +kernel
theorem far0_word : ∀ k : Fin k0_t1_loop.trips, (Scalar.muli (blkNo k) 256#32).toInt = 256 * (k.val : ℤ) := by decide +kernel
theorem blkNo_eq : ∀ k : Fin k0_t1_loop.trips, blkNo k = BitVec.ofNat 32 k.val := by decide +kernel

/-- A slope times a distance. -/
theorem far_at (v : ℝ) (w : BitVec 32) (z : ℤ) (hw : w.toInt = z) :
    (Scalar.mulf (F := Ideal) (Scalar.subf (F := Ideal) (Scalar.ofBits .f32 0x00000000#32) (v : EReal)) (Scalar.sitofp (F := Ideal) .f32 w) : Ideal .f32) = ((-(v * z) : ℝ) : EReal) := by
  show (Ideal.ofBits .f32 0x00000000#32 - (v : EReal)) * ((w.toInt : ℝ) : EReal) = _
  rw [Ideal.ofBits_zero_f32, hw, ← EReal.coe_zero, ← EReal.coe_sub, ← EReal.coe_mul]
  congr 1; ring

variable (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole)
  (v3 v7 : Ideal .f32) (mh0 ml0 mh1 ml1 : FVec Ideal S16x128 .bf16) (io : IVec S16x256 32)
  (X3 : BufTy.Contents (Elt Ideal) arg3.view.ty) (X7 : BufTy.Contents (Elt Ideal) arg7.view.ty) (X8 : BufTy.Contents (Elt Ideal) arg8.view.ty) (X10 : BufTy.Contents (Elt Ideal) arg10.view.ty)
  (k : Fin k0_t1_loop.trips)

/-- What the tables a query block reads hold: the augmented keys, the augmented values, the position biases, the queries. -/
structure Tabs (Q K V : Fin 2 → Fin 16 → Fin 256 → Fin 128 → ℝ) (σ : Fin 2 → ℝ) : Prop where
  key : ∀ off size inb (x : (Rect.unit (s := S2x4096x256) off size inb).toLoadRect.shape.Idx) (h : Fin 2) (n : Fin 16) (j y : Fin 256),
    off 0 + (x 0).val = h.val → off 1 + (x 1).val = 256 * n.val + j.val → off 2 + (x 2).val = y.val →
    View.readAt (Elt Ideal) arg7.view (Rect.unit (s := S2x4096x256) off size inb).toLoadRect X7 x = augK (K h) n j y
  value : ∀ off size inb (x : (Rect.unit (s := S2x16x144x256) off size inb).toLoadRect.shape.Idx) (h : Fin 2) (n : Fin 16) (e : Fin 144) (j : Fin 256),
    off 0 + (x 0).val = h.val → off 1 + (x 1).val = n.val → off 2 + (x 2).val = e.val → off 3 + (x 3).val = j.val →
    View.readAt (Elt Ideal) arg8.view (Rect.unit (s := S2x16x144x256) off size inb).toLoadRect X8 x = ((augV (V h) n e j : ℝ) : EReal)
  bias : ∀ off size inb (x : (Rect.unit (s := S2x768x256) off size inb).toLoadRect.shape.Idx) (h : Fin 2) (a : Fin 3) (j l : Fin 256),
    off 0 + (x 0).val = h.val → off 1 + (x 1).val = 256 * a.val + j.val → off 2 + (x 2).val = l.val →
    View.readAt (Elt Ideal) arg10.view (Rect.unit (s := S2x768x256) off size inb).toLoadRect X10 x = biasP ((σ h : ℝ) : EReal) a.val (ix3 0 j l)
  query : ∀ off size inb (x : (Rect.unit (s := S1x4096x256) off size inb).toLoadRect.shape.Idx) (h : Fin 2) (n : Fin 16) (j : Fin 256) (d : Fin 128),
    off 0 + (x 0).val = 0 → off 1 + (x 1).val = 256 * n.val + j.val → off 2 + (x 2).val = 128 * h.val + d.val →
    View.readAt (Elt Ideal) arg3.view (Rect.unit (s := S1x4096x256) off size inb).toLoadRect X3 x = ((Q h n j d : ℝ) : EReal)

variable {Q K V : Fin 2 → Fin 16 → Fin 256 → Fin 128 → ℝ} {σ : Fin 2 → ℝ}
  (T : Tabs arg3 arg7 arg8 arg10 X3 X7 X8 X10 Q K V σ)

section Head
variable (h : Fin 2) (kq : Fin 16) (l : Fin 256) {q : FVec Ideal S256x128 .f32} (hq : ∀ l d, q (ix2 l d) = (Q h kq l d : EReal)) {sel : FVec Ideal S16x256 .f32}

open Classical in
include T hq in
/-- The query's own block, loaded from the tables. -/
theorem own_hd (hsel : ∀ n, sel (ix2 n l) = (if chosen (Q h) (K h) kq l n ∨ n = kq then 0 else ⊥ : EReal))
    (o1 : Fin 3 → ℕ) (i1) (h1 : o1 = ![h.val, 256 * kq.val, 0]) (o2 : Fin 3 → ℕ) (i2) (h2 : o2 = ![h.val, 512, 0]) (o3 : Fin 4 → ℕ) (i3) (h3 : o3 = ![h.val, kq.val, 0, 0]) :
    Acc (topF (scoreF (View.readAt (Elt Ideal) arg7.view (Rect.unit (s := S2x4096x256) o1 S1x256x256.size i1).toLoadRect X7) (qaugF q sel) (View.readAt (Elt Ideal) arg10.view (Rect.unit (s := S2x768x256) o2 S1x256x256.size i2).toLoadRect X10)))
      (startF (scoreF (View.readAt (Elt Ideal) arg7.view (Rect.unit (s := S2x4096x256) o1 S1x256x256.size i1).toLoadRect X7) (qaugF q sel) (View.readAt (Elt Ideal) arg10.view (Rect.unit (s := S2x768x256) o2 S1x256x256.size i2).toLoadRect X10)) (View.readAt (Elt Ideal) arg8.view (Rect.unit (s := S2x16x144x256) o3 S1x1x144x256.size i3).toLoadRect X8))
      l (upto (Q h) (K h) (V h) (σ h) kq l 0) := by
  subst h1 h2 h3
  refine own_blk (Q h) (K h) (V h) (σ h) kq l hq hsel _ _ _ (fun j x => T.key _ _ _ _ h kq j x rfl rfl (Nat.zero_add _)) (fun j => ?_) (fun e j => T.value _ _ _ _ h kq e j rfl rfl (Nat.zero_add _) (Nat.zero_add _))
  exact (T.bias _ _ _ _ h 2 j l rfl rfl (Nat.zero_add _)).trans (biasP_at (σ h) 2 j l)

open Classical in
include T hq in
/-- Key block 0, loaded from the tables. -/
theorem zero_hd (hsel : ∀ n, sel (ix2 n l) = (if chosen (Q h) (K h) kq l n ∨ n = kq then 0 else ⊥ : EReal)) (hk : 0 < kq.val)
    (o1 : Fin 3 → ℕ) (i1) (h1 : o1 = ![h.val, 0, 0]) (o2 : Fin 3 → ℕ) (i2) (h2 : o2 = ![h.val, 256, 0]) (o3 : Fin 4 → ℕ) (i3) (h3 : o3 = ![h.val, 0, 0, 0])
    (c : Ideal .f32) (hc : c = ((-(σ h * (256 * kq.val : ℤ)) : ℝ) : EReal)) (m : FVec Ideal S1x256 .f32) (A : FVec Ideal S144x256 .f32) (hA : Acc m A l (upto (Q h) (K h) (V h) (σ h) kq l 0)) :
    Acc (topStepF m (scoreF (View.readAt (Elt Ideal) arg7.view (Rect.unit (s := S2x4096x256) o1 S1x256x256.size i1).toLoadRect X7) (qaugF q sel) (View.readAt (Elt Ideal) arg10.view (Rect.unit (s := S2x768x256) o2 S1x256x256.size i2).toLoadRect X10)) c)
      (accStepF m A (scoreF (View.readAt (Elt Ideal) arg7.view (Rect.unit (s := S2x4096x256) o1 S1x256x256.size i1).toLoadRect X7) (qaugF q sel) (View.readAt (Elt Ideal) arg10.view (Rect.unit (s := S2x768x256) o2 S1x256x256.size i2).toLoadRect X10)) c (View.readAt (Elt Ideal) arg8.view (Rect.unit (s := S2x16x144x256) o3 S1x1x144x256.size i3).toLoadRect X8))
      l (upto (Q h) (K h) (V h) (σ h) kq l 1) := by
  subst h1 h2 h3
  refine more_blk (Q h) (K h) (V h) (σ h) kq l hq hsel _ _ _ 0 (Fin.lt_def.mpr hk) (fun j => -(σ h * ((l.val : ℝ) - j.val))) c _ hc (fun j => ?_)
    (fun j x => T.key _ _ _ _ h 0 j x rfl rfl (Nat.zero_add _)) (fun j => ?_) (fun e j => T.value _ _ _ _ h 0 e j rfl rfl (Nat.zero_add _) (Nat.zero_add _)) m A hA
  · push_cast; simp; ring
  · exact (T.bias _ _ _ _ h 1 j l rfl rfl (Nat.zero_add _)).trans (biasP_at (σ h) 1 j l)

open Classical in
include T hq in
/-- A pair of key blocks, loaded from the tables. -/
theorem pair_hd (hsel : ∀ n, sel (ix2 n l) = (if chosen (Q h) (K h) kq l n ∨ n = kq then 0 else ⊥ : EReal)) (n : ℕ) (hn : n + 1 < kq.val)
    (o1 : Fin 3 → ℕ) (i1) (h1 : o1 = ![h.val, 256 * n, 0]) (o2 : Fin 3 → ℕ) (i2) (h2 : o2 = ![h.val, 0, 0]) (o3 : Fin 4 → ℕ) (i3) (h3 : o3 = ![h.val, n, 0, 0]) (o4 : Fin 4 → ℕ) (i4) (h4 : o4 = ![h.val, n + 1, 0, 0])
    (c : Ideal .f32) (hc : c = ((-(σ h * (256 * ((kq.val : ℤ) - n - 1) : ℤ)) : ℝ) : EReal)) (m : FVec Ideal S1x256 .f32) (A : FVec Ideal S144x256 .f32) (hA : Acc m A l (upto (Q h) (K h) (V h) (σ h) kq l n)) :
    Acc (topStepF2 m (scoreF2 (View.readAt (Elt Ideal) arg7.view (Rect.unit (s := S2x4096x256) o1 S1x512x256.size i1).toLoadRect X7) (qaugF q sel) (View.readAt (Elt Ideal) arg10.view (Rect.unit (s := S2x768x256) o2 S1x512x256.size i2).toLoadRect X10)) c)
      (accStepF2 m A (scoreF2 (View.readAt (Elt Ideal) arg7.view (Rect.unit (s := S2x4096x256) o1 S1x512x256.size i1).toLoadRect X7) (qaugF q sel) (View.readAt (Elt Ideal) arg10.view (Rect.unit (s := S2x768x256) o2 S1x512x256.size i2).toLoadRect X10)) c
        (View.readAt (Elt Ideal) arg8.view (Rect.unit (s := S2x16x144x256) o3 S1x1x144x256.size i3).toLoadRect X8) (View.readAt (Elt Ideal) arg8.view (Rect.unit (s := S2x16x144x256) o4 S1x1x144x256.size i4).toLoadRect X8))
      l (upto (Q h) (K h) (V h) (σ h) kq l (n + 2)) := by
  subst h1 h2 h3 h4
  have hk := kq.isLt
  refine pair_blk (Q h) (K h) (V h) (σ h) kq l hq hsel _ _ _ _ ⟨n, by omega⟩ ⟨n + 1, by omega⟩ (Fin.lt_def.mpr hn) rfl (fun j => -(σ h * ((l.val : ℝ) - j.val + 256))) (fun j => -(σ h * ((l.val : ℝ) - j.val))) c _ hc (fun j => ?_) (fun j => ?_)
    (fun j x => T.key _ _ _ _ h ⟨n, by omega⟩ j x rfl rfl (Nat.zero_add _)) (fun j => ?_) (fun j x => T.key _ _ _ _ h ⟨n + 1, by omega⟩ j x rfl ?_ (Nat.zero_add _)) (fun j => ?_)
    (fun e j => T.value _ _ _ _ h ⟨n, by omega⟩ e j rfl rfl (Nat.zero_add _) (Nat.zero_add _)) (fun e j => T.value _ _ _ _ h ⟨n + 1, by omega⟩ e j rfl rfl (Nat.zero_add _) (Nat.zero_add _)) m A hA
  · push_cast; ring
  · push_cast; ring
  · exact (T.bias _ _ _ _ h 0 j l rfl (show 0 + j.val = 256 * 0 + j.val by omega) (Nat.zero_add _)).trans (biasP_at (σ h) 0 j l)
  · show 256 * n + (256 + j.val) = 256 * (n + 1) + j.val; omega
  · exact (T.bias _ _ _ _ h 1 j l rfl (show 0 + (256 + j.val) = 256 * 1 + j.val by omega) (Nat.zero_add _)).trans (biasP_at (σ h) 1 j l)

end Head

/-- What the means and the row numbers a query block takes hold. -/
structure Means (K : Fin 2 → Fin 16 → Fin 256 → Fin 128 → ℝ) : Prop where
  io : ∀ (n : Fin 16) (l : Fin 256), io (ix2 n l) = BitVec.ofNat 32 n.val
  hi0 : ∀ n d, mh0 (ix2 n d) = ((mean (K 0) n d : ℝ) : EReal)
  lo0 : ∀ n d, ml0 (ix2 n d) = (0 : EReal)
  hi1 : ∀ n d, mh1 (ix2 n d) = ((mean (K 1) n d : ℝ) : EReal)
  lo1 : ∀ n d, ml1 (ix2 n d) = (0 : EReal)

variable (M : Means mh0 ml0 mh1 ml1 io K) (kq : Fin 16) (hkq : k.val = kq.val) (l : Fin 256) (hv3 : v3 = ((σ 0 : ℝ) : EReal)) (hv7 : v7 = ((σ 1 : ℝ) : EReal))

include T in
theorem query_hd (h : Fin 2) (o : Fin 3 → ℕ) (inb) (ho : o = ![0, 256 * kq.val, 128 * h.val]) (l : Fin 256) (d : Fin 128) :
    shapeCast S256x128 (View.readAt (Elt Ideal) arg3.view (Rect.unit (s := S1x4096x256) o S1x256x128.size inb).toLoadRect X3) shapeCasts_S1x256x128_S256x128 (ix2 l d) = ((Q h kq l d : ℝ) : EReal) := by
  subst ho
  exact (cast_block _ l d).trans (T.query _ _ _ _ h kq l d rfl rfl rfl)
include T hkq in
theorem q0_at (l : Fin 256) (d : Fin 128) : q0 arg3 X3 k (ix2 l d) = ((Q 0 kq l d : ℝ) : EReal) :=
  query_hd arg3 arg7 arg8 arg10 X3 X7 X8 X10 T kq 0 _ _ ((k0_off2_eq k).trans (by rw [hkq]; rfl)) l d
include T hkq in
theorem q1_at (l : Fin 256) (d : Fin 128) : q1 arg3 X3 k (ix2 l d) = ((Q 1 kq l d : ℝ) : EReal) :=
  query_hd arg3 arg7 arg8 arg10 X3 X7 X8 X10 T kq 1 _ _ ((k0_off5_eq k).trans (by rw [hkq]; rfl)) l d

open Classical in
include T M hkq in
theorem sel0_at (n : Fin 16) : selF io (blkNo k) (xsF mh0 ml0 io (blkNo k) (q0 arg3 X3 k)) (ix2 n l) = (if chosen (Q 0) (K 0) kq l n ∨ n = kq then 0 else ⊥ : EReal) :=
  sel_at M.io (Q 0) (K 0) kq l (by rw [blkNo_eq, hkq]) _ (xs_at M.io (Q 0) (K 0) kq l (by rw [blkNo_eq, hkq]) M.hi0 M.lo0 (q0_at arg3 arg7 arg8 arg10 X3 X7 X8 X10 k T kq hkq)) n
open Classical in
include T M hkq in
theorem sel1_at (n : Fin 16) : selF io (blkNo k) (xsF mh1 ml1 io (blkNo k) (q1 arg3 X3 k)) (ix2 n l) = (if chosen (Q 1) (K 1) kq l n ∨ n = kq then 0 else ⊥ : EReal) :=
  sel_at M.io (Q 1) (K 1) kq l (by rw [blkNo_eq, hkq]) _ (xs_at M.io (Q 1) (K 1) kq l (by rw [blkNo_eq, hkq]) M.hi1 M.lo1 (q1_at arg3 arg7 arg8 arg10 X3 X7 X8 X10 k T kq hkq)) n

/-- The running softmax of query `l`, at both heads, holds the sums over its own block and the first `n` blocks. -/
def Holds (Q K V : Fin 2 → Fin 16 → Fin 256 → Fin 128 → ℝ) (σ : Fin 2 → ℝ) (kq : Fin 16) (l : Fin 256) (n : ℕ) (s : FVec Ideal S1x256 .f32 × FVec Ideal S144x256 .f32 × FVec Ideal S1x256 .f32 × FVec Ideal S144x256 .f32) : Prop :=
  Acc s.1 s.2.1 l (upto (Q 0) (K 0) (V 0) (σ 0) kq l n) ∧ Acc s.2.2.1 s.2.2.2 l (upto (Q 1) (K 1) (V 1) (σ 1) kq l n)

theorem Holds.of {kq : Fin 16} {l : Fin 256} {n : ℕ} {m0 m1 : FVec Ideal S1x256 .f32} {A0 A1 : FVec Ideal S144x256 .f32} (h0 : Acc m0 A0 l (upto (Q 0) (K 0) (V 0) (σ 0) kq l n))
    (h1 : Acc m1 A1 l (upto (Q 1) (K 1) (V 1) (σ 1) kq l n)) : Holds Q K V σ kq l n (m0, A0, m1, A1) := ⟨h0, h1⟩

include T M hkq in
theorem start_holds : Holds Q K V σ kq l 0 (startSt arg3 arg7 arg8 arg10 mh0 ml0 mh1 ml1 io X3 X7 X8 X10 k) := by
  have h3 : k0_off3 k = ![0, 256 * kq.val, 0] := (k0_off3_eq k).trans (by rw [hkq])
  have h4 : k0_off4 k = ![0, kq.val, 0, 0] := (k0_off4_eq k).trans (by rw [hkq])
  have h6 : k0_off6 k = ![1, 256 * kq.val, 0] := (k0_off6_eq k).trans (by rw [hkq])
  have h7 : k0_off7 k = ![1, kq.val, 0, 0] := (k0_off7_eq k).trans (by rw [hkq])
  have e0 := sel0_at arg3 arg7 arg8 arg10 mh0 ml0 mh1 ml1 io X3 X7 X8 X10 k T M kq hkq l
  have e1 := q0_at arg3 arg7 arg8 arg10 X3 X7 X8 X10 k T kq hkq
  have e2 := own_hd arg3 arg7 arg8 arg10 X3 X7 X8 X10 T 0 kq l e1 e0 (k0_off3 k) (k0_off3_inb k) h3 ![0, 512, 0] inb_S2x768x256_S1x256x256_0_512_0 rfl
  have e3 := e2 (k0_off4 k) (k0_off4_inb k) h4
  have f0 := sel1_at arg3 arg7 arg8 arg10 mh0 ml0 mh1 ml1 io X3 X7 X8 X10 k T M kq hkq l
  have f1 := q1_at arg3 arg7 arg8 arg10 X3 X7 X8 X10 k T kq hkq
  have f2 := own_hd arg3 arg7 arg8 arg10 X3 X7 X8 X10 T 1 kq l f1 f0 (k0_off6 k) (k0_off6_inb k) h6 ![1, 512, 0] inb_S2x768x256_S1x256x256_1_512_0 rfl
  have f3 := f2 (k0_off7 k) (k0_off7_inb k) h7
  have g := Holds.of e3 f3
  unfold startSt own0 own1 qa0 qa1
  exact g

include T M hkq hv3 hv7 in
theorem odd_holds (hk : 0 < k.val) : Holds Q K V σ kq l 1 (oddSt arg3 arg7 arg8 arg10 v3 v7 mh0 ml0 mh1 ml1 io X3 X7 X8 X10 k) := by
  have hs := start_holds arg3 arg7 arg8 arg10 mh0 ml0 mh1 ml1 io X3 X7 X8 X10 k T M kq hkq l
  have hf : ∀ v : ℝ, far0 k (v : EReal) = ((-(v * (256 * kq.val : ℤ)) : ℝ) : EReal) := fun v => far_at v _ _ ((far0_word k).trans (by rw [hkq]))
  exact ⟨zero_hd arg3 arg7 arg8 arg10 X3 X7 X8 X10 T 0 kq l (q0_at arg3 arg7 arg8 arg10 X3 X7 X8 X10 k T kq hkq) (sel0_at arg3 arg7 arg8 arg10 mh0 ml0 mh1 ml1 io X3 X7 X8 X10 k T M kq hkq l) (by omega) _ _ rfl _ _ rfl _ _ rfl _ (by rw [hv3]; exact hf _) _ _ hs.1,
   zero_hd arg3 arg7 arg8 arg10 X3 X7 X8 X10 T 1 kq l (q1_at arg3 arg7 arg8 arg10 X3 X7 X8 X10 k T kq hkq) (sel1_at arg3 arg7 arg8 arg10 mh0 ml0 mh1 ml1 io X3 X7 X8 X10 k T M kq hkq l) (by omega) _ _ rfl _ _ rfl _ _ rfl _ (by rw [hv7]; exact hf _) _ _ hs.2⟩

include T M hkq hv3 hv7 in
theorem pair_holds (n : Fin (k0_t2_loop k).trips) (s) (hs : Holds Q K V σ kq l (k.val % 2 + 2 * n.val) s) : Holds Q K V σ kq l (k.val % 2 + 2 * (n.val + 1)) (pairStep arg3 arg7 arg8 arg10 v3 v7 mh0 ml0 mh1 ml1 io X3 X7 X8 X10 k n s) := by
  have hn : n.val < k.val / 2 := lt_of_lt_of_eq n.isLt (t2_trips k)
  have hf : ∀ v : ℝ, farP k (v : EReal) n = ((-(v * (256 * ((kq.val : ℤ) - (k.val % 2 + 2 * n.val : ℕ) - 1) : ℤ)) : ℝ) : EReal) := fun v => far_at v _ _ ((far_word k n).trans (by rw [hkq]; push_cast; rfl))
  exact ⟨pair_hd arg3 arg7 arg8 arg10 X3 X7 X8 X10 T 0 kq l (q0_at arg3 arg7 arg8 arg10 X3 X7 X8 X10 k T kq hkq) (sel0_at arg3 arg7 arg8 arg10 mh0 ml0 mh1 ml1 io X3 X7 X8 X10 k T M kq hkq l) (k.val % 2 + 2 * n.val) (by omega) _ _ (by rw [off8_eq]; rfl) _ _ rfl _ _ (by rw [off9_eq]; rfl) _ _ (by rw [off10_eq]; rfl) _ (by rw [hv3]; exact hf _) _ _ hs.1,
   pair_hd arg3 arg7 arg8 arg10 X3 X7 X8 X10 T 1 kq l (q1_at arg3 arg7 arg8 arg10 X3 X7 X8 X10 k T kq hkq) (sel1_at arg3 arg7 arg8 arg10 mh0 ml0 mh1 ml1 io X3 X7 X8 X10 k T M kq hkq l) (k.val % 2 + 2 * n.val) (by omega) _ _ (by rw [off11_eq]; rfl) _ _ rfl _ _ (by rw [off12_eq]; rfl) _ _ (by rw [off13_eq]; rfl) _ (by rw [hv7]; exact hf _) _ _ hs.2⟩

include T M hkq hv3 hv7 in
theorem pairs_hold (init) (hi : Holds Q K V σ kq l (k.val % 2) init) (n : ℕ) (hn : n ≤ (k0_t2_loop k).trips) :
    Holds Q K V σ kq l (k.val % 2 + 2 * n) (pairSt c i arg2 harg2 arg3 harg3 arg4 harg4 arg5 harg5 arg6 harg6 arg7 harg7 arg8 harg8 arg9 harg9 arg10 harg10 v3 v7 mh0 ml0 mh1 ml1 io X3 X7 X8 X10 k init n) := by
  induction n with
  | zero => exact hi
  | succ n ih =>
    have := pair_holds arg3 arg7 arg8 arg10 v3 v7 mh0 ml0 mh1 ml1 io X3 X7 X8 X10 k T M kq hkq l hv3 hv7 ⟨n, hn⟩ _ (ih (by omega))
    rw [← pair_succ c i arg2 harg2 arg3 harg3 arg4 harg4 arg5 harg5 arg6 harg6 arg7 harg7 arg8 harg8 arg9 harg9 arg10 harg10 v3 v7 mh0 ml0 mh1 ml1 io X3 X7 X8 X10 k init ⟨n, hn⟩] at this
    exact this

include T M hkq hv3 hv7 in
/-- A query block stores two pieces, of a running softmax that holds the sums over all the blocks. -/
theorem pieces_holds : ∃ s, (∀ l, Holds Q K V σ kq l kq.val s) ∧
    pieces (F := Ideal) c i arg2 harg2 arg3 harg3 arg4 harg4 arg5 harg5 arg6 harg6 arg7 harg7 arg8 harg8 arg9 harg9 arg10 harg10 v3 v7 mh0 ml0 mh1 ml1 io X3 X7 X8 X10 k = outPieces k s := by
  have he : k.val % 2 + 2 * (k0_t2_loop k).trips = kq.val := by rw [t2_trips]; omega
  unfold pieces
  split
  next hk => exact ⟨_, fun l => he ▸ pairs_hold c i arg2 harg2 arg3 harg3 arg4 harg4 arg5 harg5 arg6 harg6 arg7 harg7 arg8 harg8 arg9 harg9 arg10 harg10 v3 v7 mh0 ml0 mh1 ml1 io X3 X7 X8 X10 k T M kq hkq l hv3 hv7 _ (hk ▸ odd_holds arg3 arg7 arg8 arg10 v3 v7 mh0 ml0 mh1 ml1 io X3 X7 X8 X10 k T M kq hkq l hv3 hv7 (by omega)) _ le_rfl, odd_pieces c i arg2 harg2 arg3 harg3 arg4 harg4 arg5 harg5 arg6 harg6 arg7 harg7 arg8 harg8 arg9 harg9 arg10 harg10 v3 v7 mh0 ml0 mh1 ml1 io X3 X7 X8 X10 k hk⟩
  next hk => exact ⟨_, fun l => he ▸ pairs_hold c i arg2 harg2 arg3 harg3 arg4 harg4 arg5 harg5 arg6 harg6 arg7 harg7 arg8 harg8 arg9 harg9 arg10 harg10 v3 v7 mh0 ml0 mh1 ml1 io X3 X7 X8 X10 k T M kq hkq l hv3 hv7 _ ((show k.val % 2 = 0 by omega) ▸ start_holds arg3 arg7 arg8 arg10 mh0 ml0 mh1 ml1 io X3 X7 X8 X10 k T M kq hkq l) _ le_rfl, even_pieces c i arg2 harg2 arg3 harg3 arg4 harg4 arg5 harg5 arg6 harg6 arg7 harg7 arg8 harg8 arg9 harg9 arg10 harg10 v3 v7 mh0 ml0 mh1 ml1 io X3 X7 X8 X10 k (by omega)⟩

end Cert.Proof.KI

end
-- ==== Proof.KI.Tables.lean ====
/-
  The tables a query block reads, from what the inputs hold.
-/
module

public import proofs.«01_k».proof.Proof.KI.Block

@[expose] public section

set_option maxRecDepth 65536
set_option maxHeartbeats 200000

noncomputable section

namespace Cert.Proof.KI

open Cert.KernelIdeal Cert.KernelIdeal.Gen
open Idealize.ShloMosaic Idealize.ShloMosaic.TcCoe Idealize.SL.Sem
open Cert.Proof.Math Flow

variable (i : grid0.Coords) (arg2 : Memref sig .tc .smem S16 .f32) (arg3 : Memref sig .tc .vmem S1x4096x256 .f32) (arg4 : Memref sig .tc .vmem S1x4096x256 .f32) (arg5 : Memref sig .tc .vmem S1x4096x256 .f32)
  (arg7 : Memref sig .tc .vmem S2x4096x256 .bf16) (arg8 : Memref sig .tc .vmem S2x16x144x256 .bf16) (arg9 : Memref sig .tc .vmem S2x16x128 .f32) (arg10 : Memref sig .tc .vmem S2x768x256 .f32)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty)

/-- A block holds, head by head and row by row, the entries of `Y`. -/
def Blk (b : Memref sig .tc .vmem S1x4096x256 .f32) (X : BufTy.Contents (Elt Ideal) b.view.ty) (Y : Fin 2 → Fin 16 → Fin 256 → Fin 128 → ℝ) : Prop :=
  ∀ (h : Fin 2) (n : Fin 16) (j : Fin 256) (d : Fin 128), b.view.read (Elt Ideal) X (ix3 0 ⟨256 * n.val + j.val, by omega⟩ ⟨128 * h.val + d.val, by omega⟩) = ((Y h n j d : ℝ) : EReal)

/-- A rectangle's entry, by its coordinates. -/
theorem rect_ix3 {A B C : ℕ} (off size : Fin 3 → ℕ) (inb) (x : (Rect.unit (s := ⟨3, ![A, B, C]⟩) off size inb).toLoadRect.shape.Idx) (a : Fin A) (b : Fin B) (c : Fin C)
    (ha : off 0 + (x 0).val = a.val) (hb : off 1 + (x 1).val = b.val) (hc : off 2 + (x 2).val = c.val) :
    (Rect.unit (s := ⟨3, ![A, B, C]⟩) off size inb).toLoadRect.idx x = ix3 a b c :=
  funext fun r => Fin.ext ((Rect.idx_unit_val _ _ _ x r).trans (by match r with | ⟨0, _⟩ => exact ha | ⟨1, _⟩ => exact hb | ⟨2, _⟩ => exact hc))
theorem rect_ix4 {A B C D : ℕ} (off size : Fin 4 → ℕ) (inb) (x : (Rect.unit (s := ⟨4, ![A, B, C, D]⟩) off size inb).toLoadRect.shape.Idx) (a : Fin A) (b : Fin B) (c : Fin C) (d : Fin D)
    (ha : off 0 + (x 0).val = a.val) (hb : off 1 + (x 1).val = b.val) (hc : off 2 + (x 2).val = c.val) (hd : off 3 + (x 3).val = d.val) :
    (Rect.unit (s := ⟨4, ![A, B, C, D]⟩) off size inb).toLoadRect.idx x = ix4 a b c d :=
  funext fun r => Fin.ext ((Rect.idx_unit_val _ _ _ x r).trans (by match r with | ⟨0, _⟩ => exact ha | ⟨1, _⟩ => exact hb | ⟨2, _⟩ => exact hc | ⟨3, _⟩ => exact hd))

variable {Q K V : Fin 2 → Fin 16 → Fin 256 → Fin 128 → ℝ} {σ : Fin 2 → ℝ}
  (hq : Blk arg3 X3 Q) (hk : Blk arg4 X4 K) (hv : Blk arg5 X5 V) (hs : ∀ h : Fin 2, slopeOf i arg2 X2 h.val = ((σ h : ℝ) : EReal))

include hk in
theorem key_tab (h : Fin 2) (n : Fin 16) (j y : Fin 256) : View.canon (bodyRun.sl.H7_64 (F := Ideal) arg4 X4) (ix3 h ⟨256 * n.val + j.val, by omega⟩ y) = augK (K h) n j y := by
  refine (key_at arg4 X4 h _ y).trans ?_
  unfold augK
  have hn : (256 * n.val + j.val) / 256 = n.val := by omega
  by_cases hy : y.val < 128
  · rw [dif_pos hy, dif_pos hy]; exact hk h n j ⟨y.val, hy⟩
  · rw [dif_neg hy, dif_neg hy]; simp only [hn]

include hv in
theorem val_tab (h : Fin 2) (n : Fin 16) (e : Fin 144) (j : Fin 256) : View.canon (bodyRun.sl.H8_64 (F := Ideal) arg5 X5) (ix4 h n e j) = ((augV (V h) n e j : ℝ) : EReal) := by
  refine (val_at arg5 X5 h n e j).trans ?_
  unfold augV
  by_cases he : e.val < 128
  · rw [dif_pos he, dif_pos he]; exact hv h n j ⟨e.val, he⟩
  · rw [dif_neg he, dif_neg he]; split <;> simp

include hs in
theorem bias_tab (h : Fin 2) (a : Fin 3) (j l : Fin 256) : View.canon (bodyRun.sl.H10_6 (F := Ideal) i arg2 X2) (ix3 h ⟨256 * a.val + j.val, by omega⟩ l) = biasP ((σ h : ℝ) : EReal) a.val (ix3 0 j l) := by
  refine (bias_at i arg2 X2 h a j l).trans ?_
  rw [hs]

include hq hk hv hs in
/-- The tables as the prologue leaves them. -/
theorem tabs : Tabs arg3 arg7 arg8 arg10 X3 (arg7.view.writes (Elt Ideal) arg7.view.junk (bodyRun.sl.H7_64 (F := Ideal) arg4 X4)) (arg8.view.writes (Elt Ideal) arg8.view.junk (bodyRun.sl.H8_64 (F := Ideal) arg5 X5))
    (arg10.view.writes (Elt Ideal) arg10.view.junk (bodyRun.sl.H10_6 (F := Ideal) i arg2 X2)) Q K V σ where
  key off size inb x h n j y h0 h1 h2 := by
    rw [View.readAt_writes_junk_eq_canon]
    exact (congrArg _ (rect_ix3 off size inb x h ⟨256 * n.val + j.val, by omega⟩ y h0 h1 h2)).trans (key_tab arg4 X4 hk h n j y)
  value off size inb x h n e j h0 h1 h2 h3 := by
    rw [View.readAt_writes_junk_eq_canon]
    exact (congrArg _ (rect_ix4 off size inb x h n e j h0 h1 h2 h3)).trans (val_tab arg5 X5 hv h n e j)
  bias off size inb x h a j l h0 h1 h2 := by
    rw [View.readAt_writes_junk_eq_canon]
    exact (congrArg _ (rect_ix3 off size inb x h ⟨256 * a.val + j.val, by omega⟩ l h0 h1 h2)).trans (bias_tab i arg2 X2 hs h a j l)
  query off size inb x h n j d h0 h1 h2 :=
    (congrArg (arg3.view.read (Elt Ideal) X3) (rect_ix3 off size inb x 0 ⟨256 * n.val + j.val, by omega⟩ ⟨128 * h.val + d.val, by omega⟩ h0 h1 h2)).trans (hq h n j d)

include hk in
/-- The mean of a key block, as loaded. -/
theorem mean_tab (h : Fin 2) (o : Fin 3 → ℕ) (inb) (ho : o = ![h.val, 0, 0]) (n : Fin 16) (d : Fin 128) :
    shapeCast S16x128 (arg9.view.readCov (bodyRun.sl.H9_33 (F := Ideal) arg4 X4) (Rect.unit (s := S2x16x128) o S1x16x128.size inb).toLoadRect) shapeCasts_S1x16x128_S16x128 (ix2 n d) = ((mean (K h) n d : ℝ) : EReal) := by
  subst ho
  have e : ∀ x : FVec Ideal S1x16x128 .f32, shapeCast S16x128 x shapeCasts_S1x16x128_S16x128 (ix2 n d) = x (ix3 0 n d) := by intro x; pointwise
  refine (e _).trans ?_
  rw [View.readCov_eq_canon']
  refine (congrArg _ (rect_ix3 _ _ _ _ h n d rfl (Nat.zero_add _) (Nat.zero_add _))).trans ((row_at arg4 X4 h n d).trans ?_)
  rw [Finset.sum_congr rfl fun j _ => hk h n j d, coe_sum, ← EReal.coe_mul]
  rfl

theorem truncf_at {s : Shape} (x : FVec Ideal s .f32) (y : s.Idx) : truncf (F := Ideal) .bf16 x bitsLt_bf16_f32 y = x y := rfl
theorem lo_at {s : Shape} (x : FVec Ideal s .f32) (y : s.Idx) (r : ℝ) (hx : x y = (r : EReal)) :
    truncf (F := Ideal) .bf16 (subf x (extf .f32 (truncf .bf16 x bitsLt_bf16_f32) bitsLt_bf16_f32)) bitsLt_bf16_f32 y = (0 : EReal) := by
  show x y - x y = 0
  rw [hx, ← EReal.coe_sub, sub_self, EReal.coe_zero]

include hk in
/-- The means as the prologue leaves them. -/
theorem means : Means (bodyRun.sl.v1098 (F := Ideal) arg4 arg9 X4) (bodyRun.sl.v1101 (F := Ideal) arg4 arg9 X4) (bodyRun.sl.v1104 (F := Ideal) arg4 arg9 X4) (bodyRun.sl.v1107 (F := Ideal) arg4 arg9 X4) bodyRun.sl.v9 K where
  io n l := by pointwise [bodyRun.sl.v9]
  hi0 n d := mean_tab arg4 arg9 X4 hk 0 _ _ rfl n d
  lo0 n d := lo_at _ _ _ (mean_tab arg4 arg9 X4 hk 0 _ _ rfl n d)
  hi1 n d := mean_tab arg4 arg9 X4 hk 1 _ _ rfl n d
  lo1 n d := lo_at _ _ _ (mean_tab arg4 arg9 X4 hk 1 _ _ rfl n d)

end Cert.Proof.KI

end
-- ==== Proof.KI.Out.lean ====
/-
  What the body leaves in its output block: at each head and query, the attention of that query.
-/
module

public import proofs.«01_k».proof.Proof.KI.Tables
public import proofs.«01_k».proof.Proof.KI.Run
import all proofs.«01_k».proof.Proof.KI.Loop
import all proofs.«01_k».proof.Proof.KI.Body

@[expose] public section

set_option maxRecDepth 65536
set_option maxHeartbeats 400000

noncomputable section

namespace Cert.Proof.KI

open Cert.KernelIdeal Cert.KernelIdeal.Gen
open Idealize.ShloMosaic Idealize.ShloMosaic.TcCoe Idealize.SL.Sem
open Cert.Proof.Math Flow

/-- The attention at head `h`, query `r` of block `n`, entry `d`. -/
def attn (Q K V : Fin 2 → Fin 16 → Fin 256 → Fin 128 → ℝ) (σ : Fin 2 → ℝ) (h : Fin 2) (n : Fin 16) (r : Fin 256) (d : Fin 128) : EReal :=
  ((result (Q h) (K h) (V h) (σ h) scale n r d : ℝ) : EReal)

/-- A piece of the attention of one head and one block has the attention's entries. -/
theorem tile_out (Q K V : Fin 2 → Fin 16 → Fin 256 → Fin 128 → ℝ) (σ : Fin 2 → ℝ) (h : Fin 2) (n : Fin 16) (r : Fin 256) (d : Fin 128) (g : Fin 2) (q : Fin 16)
    (w : FVec Ideal S1x256x128 .bf16) (hw : ∀ l e, w (ix3 0 l e) = attn Q K V σ g q l e) (o : Fin 3 → ℕ) (ho : o = ![0, 256 * q.val, 128 * g.val]) :
    View.TileAt (Val := Elt Ideal) (S := S1x4096x256) (e := .bf16) (ix3 0 ⟨256 * n.val + r.val, by omega⟩ ⟨128 * h.val + d.val, by omega⟩) o S1x256x128.size w (attn Q K V σ h n r d) := by
  subst ho
  intro x hx
  have h1 : 256 * n.val + r.val = 256 * q.val + (x 1).val := hx 1
  have h2 : 128 * h.val + d.val = 128 * g.val + (x 2).val := hx 2
  have b1 : (x 1).val < 256 := (x 1).isLt
  have b2 : (x 2).val < 128 := (x 2).isLt
  have e1 : q = n := Fin.ext (by omega)
  have e2 : g = h := Fin.ext (by omega)
  subst e1 e2
  have e3 : x = ix3 (0 : Fin 1) r d := funext fun a => Fin.ext (by
    match a with
    | ⟨0, _⟩ => show (x 0).val = 0; have : (x 0).val < 1 := (x 0).isLt; omega
    | ⟨1, _⟩ => show (x 1).val = r.val; omega
    | ⟨2, _⟩ => show (x 2).val = d.val; omega)
  rw [e3]; exact hw r d

variable (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole)
  (v3 v7 : Ideal .f32) (mh0 ml0 mh1 ml1 : FVec Ideal S16x128 .bf16) (io : IVec S16x256 32)
  (X3 : BufTy.Contents (Elt Ideal) arg3.view.ty) (X7 : BufTy.Contents (Elt Ideal) arg7.view.ty) (X8 : BufTy.Contents (Elt Ideal) arg8.view.ty) (X10 : BufTy.Contents (Elt Ideal) arg10.view.ty)
  {Q K V : Fin 2 → Fin 16 → Fin 256 → Fin 128 → ℝ} {σ : Fin 2 → ℝ}

/-- The pieces of the first query blocks have the attention's entries. -/
theorem pieces_at (T : Tabs arg3 arg7 arg8 arg10 X3 X7 X8 X10 Q K V σ) (M : Means mh0 ml0 mh1 ml1 io K) (hv3 : v3 = ((σ 0 : ℝ) : EReal)) (hv7 : v7 = ((σ 1 : ℝ) : EReal))
    (h : Fin 2) (n : Fin 16) (r : Fin 256) (d : Fin 128) (N : ℕ) (hN : N ≤ k0_t1_loop.trips) :
    View.AllAt (pieceList (F := Ideal) c i arg2 harg2 arg3 harg3 arg4 harg4 arg5 harg5 arg6 harg6 arg7 harg7 arg8 harg8 arg9 harg9 arg10 harg10 v3 v7 mh0 ml0 mh1 ml1 io X3 X7 X8 X10 N) (ix3 0 ⟨256 * n.val + r.val, by omega⟩ ⟨128 * h.val + d.val, by omega⟩) (attn Q K V σ h n r d) := by
  induction N with
  | zero => exact View.allAt_nil _ _
  | succ N ih =>
    have hN16 : N < 16 := by rw [trips_eq] at hN; omega
    obtain ⟨s, hs, he⟩ := pieces_holds c i arg2 harg2 arg3 harg3 arg4 harg4 arg5 harg5 arg6 harg6 arg7 harg7 arg8 harg8 arg9 harg9 arg10 harg10 v3 v7 mh0 ml0 mh1 ml1 io X3 X7 X8 X10 ⟨N, hN⟩ T M ⟨N, hN16⟩ rfl hv3 hv7
    have hp := pieceList_succ (F := Ideal) c i arg2 harg2 arg3 harg3 arg4 harg4 arg5 harg5 arg6 harg6 arg7 harg7 arg8 harg8 arg9 harg9 arg10 harg10 v3 v7 mh0 ml0 mh1 ml1 io X3 X7 X8 X10 ⟨N, hN⟩
    refine (congrArg (fun L => View.AllAt L _ _) (hp.trans (congrArg (· ++ _) he))).mpr ?_
    refine View.allAt_cons_unit _ _ _ _ _ (tile_out Q K V σ h n r d 1 ⟨N, hN16⟩ _ (fun l e => out_blk (Q 1) (K 1) (V 1) (σ 1) ⟨N, hN16⟩ l _ _ (hs l).2 e) _ ((off5_eq ⟨N, hN⟩).trans rfl)) ?_
    refine View.allAt_cons_unit _ _ _ _ _ (tile_out Q K V σ h n r d 0 ⟨N, hN16⟩ _ (fun l e => out_blk (Q 0) (K 0) (V 0) (σ 0) ⟨N, hN16⟩ l _ _ (hs l).1 e) _ ((off2_eq ⟨N, hN⟩).trans rfl)) ?_
    exact ih (by omega)

variable (X2 : BufTy.Contents (Elt Ideal) arg2.view.ty) (X4 : BufTy.Contents (Elt Ideal) arg4.view.ty) (X5 : BufTy.Contents (Elt Ideal) arg5.view.ty)

/-- What the body leaves, entry by entry. -/
theorem body_at (hq : Blk arg3 X3 Q) (hk : Blk arg4 X4 K) (hv : Blk arg5 X5 V) (hs : ∀ h : Fin 2, slopeOf i arg2 X2 h.val = ((σ h : ℝ) : EReal))
    (h : Fin 2) (n : Fin 16) (r : Fin 256) (d : Fin 128) :
    View.canon (bodyRun (F := Ideal) c i arg2 harg2 arg3 harg3 arg4 harg4 arg5 harg5 arg6 harg6 arg7 harg7 arg8 harg8 arg9 harg9 arg10 harg10 X2 X3 X4 X5).1 (ix3 0 ⟨256 * n.val + r.val, by omega⟩ ⟨128 * h.val + d.val, by omega⟩) = attn Q K V σ h n r d := by
  refine View.canon_eq_of_allAt _ _ _ (cover_body c i arg2 harg2 arg3 harg3 arg4 harg4 arg5 harg5 arg6 harg6 arg7 harg7 arg8 harg8 arg9 harg9 arg10 harg10 X2 X3 X4 X5 _) ?_
  have hT := tabs i arg2 arg3 arg4 arg5 arg7 arg8 arg10 X2 X3 X4 X5 hq hk hv hs
  have hM := means arg4 arg9 X4 hk
  have h0 : bodyRun.sl.r (F := Ideal) i arg2 X2 = ((σ 0 : ℝ) : EReal) := hs 0
  have h1 : bodyRun.sl.r_1 (F := Ideal) i arg2 X2 = ((σ 1 : ℝ) : EReal) := hs 1
  have hA := pieces_at c i arg2 harg2 arg3 harg3 arg4 harg4 arg5 harg5 arg6 harg6 arg7 harg7 arg8 harg8 arg9 harg9 arg10 harg10 _ _ _ _ _ _ _ _ _ _ _ hT hM h0 h1 h n r d k0_t1_loop.trips le_rfl
  unfold bodyRun
  exact hA

end Cert.Proof.KI

end
-- ==== Proof.Math.Flat.lean ====
/-
  The softmax of the reference, over one list of 1024 keys: three selected blocks and the query's own.
-/
module

public import proofs.«01_k».proof.Proof.Math.Spec

@[expose] public section

set_option maxRecDepth 16384
set_option maxHeartbeats 400000

noncomputable section

namespace Cert.Proof.Math

open Idealize.ShloMosaic

variable (Q K V : Fin 16 → Fin 256 → Fin 128 → ℝ) (σ sc : ℝ) (qb : Fin 16) (r : Fin 256)

/-- The number of the `t`-th selected block. -/
def sel (t : Fin 3) : Fin 16 := sortedFrom (gtB (score Q K qb r)) (t.castLE (by decide))

/-- The exponent of a key of a selected block, `-∞` where fewer blocks than that come before the query's. -/
def far (t : Fin 3) (j : Fin 256) : EReal := if t.val < qb.val then (expo Q K σ sc qb r (sel Q K qb r t) j : EReal) else ⊥

/-- The exponent of a key of the own block, `-∞` after the query. -/
def own (j : Fin 256) : EReal := if j ≤ r then (expo Q K σ sc qb r qb j : EReal) else ⊥

/-- All the exponents in one list. -/
def row (x : Fin 1024) : EReal :=
  if h : x.val < 768 then far Q K σ sc qb r ⟨x.val / 256, by omega⟩ ⟨x.val % 256, by omega⟩ else own Q K σ sc qb r ⟨x.val - 768, by omega⟩

theorem far_ne_top (t : Fin 3) (j : Fin 256) : far Q K σ sc qb r t j ≠ ⊤ := by
  unfold far; split_ifs
  · exact EReal.coe_ne_top _
  · exact bot_ne_top

theorem own_ne_top (j : Fin 256) : own Q K σ sc qb r j ≠ ⊤ := by
  unfold own; split_ifs
  · exact EReal.coe_ne_top _
  · exact bot_ne_top

theorem row_ne_top (x : Fin 1024) : row Q K σ sc qb r x ≠ ⊤ := by
  unfold row; split_ifs
  · exact far_ne_top _ _ _ _ _ _ _ _
  · exact own_ne_top _ _ _ _ _ _ _

/-- Where the query itself stands in the list. -/
def here : Fin 1024 := ⟨768 + r.val, by omega⟩

theorem row_here : row Q K σ sc qb r (here r) ≠ ⊥ := by
  unfold row here
  rw [dif_neg (by simp)]
  unfold own
  rw [if_pos (by rw [Fin.le_def]; simp)]
  exact EReal.coe_ne_bot _

/-- A sum over the first 768 keys is one over the three blocks. -/
theorem sum_768 (f : Fin 768 → ℝ) : ∑ x, f x = ∑ t : Fin 3, ∑ j : Fin 256, f ⟨256 * t.val + j.val, by omega⟩ := by
  refine Eq.trans ?_ (Finset.sum_product' (Finset.univ : Finset (Fin 3)) (Finset.univ : Finset (Fin 256)) fun t j => f ⟨256 * t.val + j.val, by omega⟩)
  refine (Finset.sum_bij (fun p _ => (⟨256 * p.1.val + p.2.val, by omega⟩ : Fin 768)) ?_ ?_ ?_ ?_).symm
  · intro _ _; exact Finset.mem_univ _
  · rintro ⟨a, b⟩ _ ⟨a', b'⟩ _ h
    have h' : 256 * a.val + b.val = 256 * a'.val + b'.val := congrArg Fin.val h
    exact Prod.ext (Fin.ext (by show a.val = a'.val; omega)) (Fin.ext (by show b.val = b'.val; omega))
  · intro x _
    exact ⟨(⟨x.val / 256, by omega⟩, ⟨x.val % 256, by omega⟩), Finset.mem_product.2 ⟨Finset.mem_univ _, Finset.mem_univ _⟩,
      Fin.ext (by show 256 * (x.val / 256) + x.val % 256 = x.val; omega)⟩
  · intro _ _; rfl

/-- A sum over the list is one over the selected blocks' keys and one over the own block's. -/
theorem sum_1024 (f : Fin 1024 → ℝ) :
    ∑ x, f x = (∑ x : Fin 768, f ⟨x.val, by omega⟩) + ∑ j : Fin 256, f ⟨768 + j.val, by omega⟩ :=
  Fin.sum_univ_add (a := 768) (b := 256) f

theorem row_far (t : Fin 3) (j : Fin 256) : row Q K σ sc qb r ⟨256 * t.val + j.val, by omega⟩ = far Q K σ sc qb r t j := by
  unfold row
  rw [dif_pos (by show 256 * t.val + j.val < 768; omega)]
  congr 1 <;> refine Fin.ext ?_
  · show (256 * t.val + j.val) / 256 = t.val; omega
  · show (256 * t.val + j.val) % 256 = j.val; omega

theorem row_own (j : Fin 256) : row Q K σ sc qb r ⟨768 + j.val, by omega⟩ = own Q K σ sc qb r j := by
  unfold row
  rw [dif_neg (by show ¬ 768 + j.val < 768; omega)]
  congr 1; exact Fin.ext (by show 768 + j.val - 768 = j.val; omega)

theorem score_bot_iff (n : Fin 16) : score Q K qb r n ≠ ⊥ ↔ n.val < qb.val := by
  unfold score; split_ifs with h
  · exact ⟨fun _ => h, fun _ => EReal.coe_ne_bot _⟩
  · exact ⟨fun h' => absurd rfl h', fun h' => absurd h' h⟩

/-- Sums with the weights of the selected blocks and of the own block are sums with the weights of all keys. -/
theorem sums_eq (g : Fin 16 → Fin 256 → ℝ) :
    (∑ t : Fin 3, ∑ j, g (sel Q K qb r t) j * wt (far Q K σ sc qb r t j)) + ∑ j, g qb j * wt (own Q K σ sc qb r j)
      = ∑ n, ∑ j, g n j * weight Q K σ sc qb r n j := by
  classical
  have h1 : ∀ t : Fin 3, (∑ j, g (sel Q K qb r t) j * wt (far Q K σ sc qb r t j))
      = if t.val < qb.val then (fun n => ∑ j, g n j * Real.exp (expo Q K σ sc qb r n j)) (sel Q K qb r t) else 0 := by
    intro t
    split_ifs with h
    · exact Finset.sum_congr rfl fun j _ => by unfold far; rw [if_pos h, wt_coe]
    · exact Finset.sum_eq_zero fun j _ => by unfold far; rw [if_neg h, wt_bot, mul_zero]
  rw [Finset.sum_congr rfl fun t _ => h1 t]
  unfold sel
  rw [sum_sorted (score Q K qb r) qb.val (score_bot_iff Q K qb r) (by omega) (by decide) (fun n => ∑ j, g n j * Real.exp (expo Q K σ sc qb r n j))]
  have h2 : (∑ j, g qb j * wt (own Q K σ sc qb r j)) = ∑ n : Fin 16, if n = qb then (∑ j, g n j * wt (own Q K σ sc qb r j)) else 0 := by
    rw [Finset.sum_ite_eq' Finset.univ qb]; simp
  rw [h2, ← Finset.sum_add_distrib]
  refine Finset.sum_congr rfl fun n _ => ?_
  by_cases hc : chosen Q K qb r n
  · have hn : n ≠ qb := fun e => absurd hc.1 (by rw [e]; exact lt_irrefl _)
    rw [if_pos (show n.val < qb.val ∧ rank (score Q K qb r) n < 3 from hc), if_neg hn, add_zero]
    exact Finset.sum_congr rfl fun j _ => by unfold weight live; rw [if_pos (.inl hc)]
  · rw [if_neg (show ¬ (n.val < qb.val ∧ rank (score Q K qb r) n < 3) from hc), zero_add]
    split_ifs with hn
    · subst hn
      refine Finset.sum_congr rfl fun j _ => ?_
      unfold weight live own
      by_cases hj : j ≤ r
      · rw [if_pos hj, if_pos (.inr ⟨rfl, hj⟩), wt_coe]
      · rw [if_neg hj, if_neg (by rintro (h | h); exacts [hc h, hj h.2]), wt_bot]
    · exact (Finset.sum_eq_zero fun j _ => by
        unfold weight live
        rw [if_neg (by rintro (h | h); exacts [hc h, hn h.1]), mul_zero]).symm

/-- The weights of the list sum to the denominator. -/
theorem row_denom : ∑ x, wt (row Q K σ sc qb r x) = denom Q K σ sc qb r := by
  rw [sum_1024, sum_768]
  have h := sums_eq Q K σ sc qb r (fun _ _ => 1)
  simp only [one_mul] at h
  unfold denom
  rw [← h]
  refine congrArg₂ (· + ·) (Finset.sum_congr rfl fun t _ => Finset.sum_congr rfl fun j _ => congrArg wt (row_far Q K σ sc qb r t j))
    (Finset.sum_congr rfl fun j _ => congrArg wt (row_own Q K σ sc qb r j))

/-- The reference's two products with the values, of the normalised weights, sum to the result. -/
theorem row_result (d : Fin 128) :
    (∑ x : Fin 768, (wt (row Q K σ sc qb r ⟨x.val, by omega⟩) / ∑ l, wt (row Q K σ sc qb r l)) * V (sel Q K qb r ⟨x.val / 256, by omega⟩) ⟨x.val % 256, by omega⟩ d)
      + (∑ j : Fin 256, (wt (row Q K σ sc qb r ⟨768 + j.val, by omega⟩) / ∑ l, wt (row Q K σ sc qb r l)) * V qb j d)
      = result Q K V σ sc qb r d := by
  rw [row_denom, sum_768]
  unfold result numer
  rw [← sums_eq Q K σ sc qb r (fun n j => V n j d), add_div, Finset.sum_div, Finset.sum_div]
  refine congrArg₂ (· + ·) (Finset.sum_congr rfl fun t _ => ?_) (Finset.sum_congr rfl fun j _ => ?_)
  · rw [Finset.sum_div]
    refine Finset.sum_congr rfl fun j _ => ?_
    have e1 : (⟨(256 * t.val + j.val) / 256, by omega⟩ : Fin 3) = t := Fin.ext (by show (256 * t.val + j.val) / 256 = t.val; omega)
    have e2 : (⟨(256 * t.val + j.val) % 256, by omega⟩ : Fin 256) = j := Fin.ext (by show (256 * t.val + j.val) % 256 = j.val; omega)
    rw [row_far]
    show _ / _ * V (sel Q K qb r ⟨(256 * t.val + j.val) / 256, _⟩) ⟨(256 * t.val + j.val) % 256, _⟩ d = _
    rw [e1, e2]; ring
  · rw [row_own]; ring

end Cert.Proof.Math

end
-- ==== Proof.RI.Read1.lean ====
/-
  The reference's blocks, mean keys and routing scores read at one entry.
-/
module

public import proofs.«01_k».proof.Proof.Gen.ReferenceIdeal.Read
public import proofs.«01_k».proof.Proof.KI.FlowAt
public import proofs.«01_k».proof.Proof.Math.Flat

@[expose] public section

set_option maxRecDepth 16384
set_option maxHeartbeats 400000

noncomputable section

namespace Cert.Proof.RI

open Cert.ReferenceIdeal Cert.ReferenceIdeal.Read
open Idealize.ShloMosaic Idealize.ShloMosaic.WordCmp
open Cert.Proof.Math

/-- The position of an entry of a block in the whole array. -/
def at3 (b : Fin 2) (h n : Fin 16) (j : Fin 256) (d : Fin 128) : (⟨3, ![2, 4096, 2048]⟩ : Shape).Idx :=
  ix3 b ⟨256 * n.val + j.val, by omega⟩ ⟨128 * h.val + d.val, by omega⟩

/-- The blocks of one head of one prompt. -/
def cut (x : (⟨3, ![2, 4096, 2048]⟩ : Shape).Idx → ℝ) (b : Fin 2) (h n : Fin 16) (j : Fin 256) (d : Fin 128) : ℝ := x (at3 b h n j d)

/-- An array of reals as one of extended reals. -/
def up (x : (⟨3, ![2, 4096, 2048]⟩ : Shape).Idx → ℝ) : (⟨S2x4096x2048, .f32⟩ : BufTy).Contents (Elt Ideal) := fun i => ((x i : ℝ) : EReal)

theorem split_idx (b : Fin 2) (h n : Fin 16) (j : Fin 256) (d : Fin 128) (y : S2x4096x2048.Idx)
    (h0 : (y 0).val = ((((b.val * 16 + n.val) * 256 + j.val) * 16 + h.val) * 128 + d.val) / 8388608)
    (h1 : (y 1).val = ((((b.val * 16 + n.val) * 256 + j.val) * 16 + h.val) * 128 + d.val) / 2048 % 4096)
    (h2 : (y 2).val = ((((b.val * 16 + n.val) * 256 + j.val) * 16 + h.val) * 128 + d.val) % 2048) : y = at3 b h n j d := by
  funext a; refine Fin.ext ?_
  match a with
  | ⟨0, _⟩ => refine h0.trans ?_; show _ = b.val; omega
  | ⟨1, _⟩ => refine h1.trans ?_; show _ = 256 * n.val + j.val; omega
  | ⟨2, _⟩ => refine h2.trans ?_; show _ = 128 * h.val + d.val; omega

variable (x q k v : (⟨3, ![2, 4096, 2048]⟩ : Shape).Idx → ℝ)
variable (b : Fin 2) (h n m : Fin 16) (r j : Fin 256) (d : Fin 128)

/-- The queries' blocks. -/
theorem v1_at : val_main_v1 (F := Ideal) (up x) (ix5 b h n j d) = (cut x b h n j d : EReal) := by
  rw [val_main_v1_apply, val_main_v0_apply]
  exact congrArg (up x) (split_idx b h n j d _ rfl rfl rfl)

/-- The keys' blocks. -/
theorem v3_at : val_main_v3 (F := Ideal) (up x) (ix5 b h n j d) = (cut x b h n j d : EReal) := by
  rw [val_main_v3_apply, val_main_v2_apply]
  exact congrArg (up x) (split_idx b h n j d _ rfl rfl rfl)

/-- The values' blocks. -/
theorem v5_at : val_main_v5 (F := Ideal) (up x) (ix5 b h n j d) = (cut x b h n j d : EReal) := by
  rw [val_main_v5_apply, val_main_v4_apply]
  exact congrArg (up x) (split_idx b h n j d _ rfl rfl rfl)

theorem ofBits_256' : Ideal.ofBits .f32 0x43800000#32 = ((256 : ℝ) : EReal) := by
  simp [Ideal.ofBits, Ideal.ieee, -EReal.coe_mul]; norm_num

/-- The mean keys. -/
theorem v17_at : val_main_v17 (F := Ideal) (up k) (ix4 b h n d) = (mean (cut k b h) n d : EReal) := by
  rw [val_main_v17_apply, val_main_v15_apply, val_main_v16_apply, val_main_cst_0_apply, val_main_cst_apply]
  have e : ∀ l : Fin 256, val_main_v3 (F := Ideal) (up k) (idx_main_v15 (ix4 b h n d) l) = (cut k b h n l d : EReal) := fun l => by
    rw [← v3_at]; exact congrArg _ (funext fun a => by match a with | ⟨0, _⟩ | ⟨1, _⟩ | ⟨2, _⟩ | ⟨3, _⟩ | ⟨4, _⟩ => rfl)
  rw [Finset.sum_congr rfl fun l _ => e l, coe_sum]
  show Ideal.div (Ideal.ofBits .f32 0x00000000#32 + _) (Ideal.ofBits .f32 0x43800000#32) = _
  rw [ofBits_256', Ideal.ofBits_zero_f32, zero_add, Ideal.div_coe (by norm_num), ← EReal.coe_mul]
  rfl

/-- The products of the queries with the mean keys. -/
theorem v18_at : val_main_v18 (F := Ideal) (up q) (up k) (ix5 b h n r m) = ((∑ d, mean (cut k b h) m d * cut q b h n r d : ℝ) : EReal) := by
  rw [val_main_v18_apply, ← coe_sum]
  refine Finset.sum_congr rfl fun d _ => ?_
  have e1 : lidx_main_v18 (ix5 b h n r m) d = ix5 b h n r d := funext fun a => by match a with | ⟨0, _⟩ | ⟨1, _⟩ | ⟨2, _⟩ | ⟨3, _⟩ | ⟨4, _⟩ => rfl
  have e2 : ridx_main_v18 (ix5 b h n r m) d = ix4 b h m d := funext fun a => by match a with | ⟨0, _⟩ | ⟨1, _⟩ | ⟨2, _⟩ | ⟨3, _⟩ => rfl
  rw [e1, e2, v1_at, v17_at, ← EReal.coe_mul, mul_comm]

/-- Which blocks come before the query's. -/
theorem mask_at : val_main_call0_v1 (F := Ideal) (ix5 b h n r m) = BitVec.ofBool (decide (m.val < n.val)) := by
  rw [val_main_call0_v1_apply, val_main_v23_apply, val_main_v21_apply, val_main_v20_apply, val_main_v22_apply, val_main_v19_apply, val_main_v7_apply, val_main_v7_apply]
  show IntOp.cmpi .slt (BitVec.ofNat 32 m.val) (BitVec.ofNat 32 n.val) = _
  exact cmpi_slt_ofNat (by omega) (by omega)

/-- The routing scores. -/
theorem v24_at : val_main_v24 (F := Ideal) (up q) (up k) (ix5 b h n r m) = score (cut q b h) (cut k b h) n r m := by
  rw [val_main_v24_apply, mask_at, v18_at, val_main_call0_v2_apply, val_main_call0_v0_apply, val_main_cst_1_apply]
  refine (select_decide _ _ _).trans ?_
  unfold score
  refine if_congr Iff.rfl rfl ?_
  exact KI.Flow.ofBits_ninf

end Cert.Proof.RI

end
-- ==== Proof.RI.Gather.lean ====
/-
  The reference's selection of three blocks, and its gathers of the selected blocks, read at one entry.
-/
module

public import proofs.«01_k».proof.Proof.RI.Read1

@[expose] public section

set_option maxRecDepth 16384
set_option maxHeartbeats 400000

noncomputable section

namespace Cert.Proof.RI

open Cert.ReferenceIdeal Cert.ReferenceIdeal.Read
open Idealize.ShloMosaic Idealize.ShloMosaic.WordCmp
open Cert.Proof.Math

variable (b : Fin 2) (h n m : Fin 16) (r j : Fin 256) (d : Fin 128) (t : Fin 3)

/-- The positions the selection of the greatest entries along an axis returns. -/
theorem topK_snd {s t : Shape} {α : Type} (d : ℕ) (hd : d < s.rank) (gt : α → α → BitVec 1) (x : s.Idx → α) (hs) (i : t.Idx) (j : s.Idx)
    (hj : ∀ a, (j a).val = (i (a.cast hs.1.symm)).val) :
    (Host.topK t d gt x hs).2 i
      = BitVec.ofNat 32 (sortedFrom (fun k k' => gt (x (j.along ⟨d, hd⟩ k)) (x (j.along ⟨d, hd⟩ k')) == 1#1) (j ⟨d, hd⟩)).val := by
  have e : (extractStridedSlice t (fun _ => 0) (Host.sort2 s d (fun l r => gt l.1 r.1) x
      (fun i => if hd : d < s.rank then iotaInDim s 32 ⟨d, hd⟩ i else 0#32)).2 hs) i = _ :=
    extractStridedSlice_apply _ _ hs i j (fun a => (hj a).trans (Nat.zero_add _).symm)
  refine e.trans ?_
  unfold Host.sort2
  rw [dif_pos hd]
  show (if hd : d < s.rank then iotaInDim s 32 ⟨d, hd⟩ _ else 0#32) = _
  rw [dif_pos hd]
  show BitVec.ofNat 32 (Function.update j ⟨d, hd⟩ _ ⟨d, hd⟩).val = _
  rw [Function.update_self]

/-- The positions of the three greatest entries of a row are those the order by the entries puts first. -/
theorem topK_index (x : S2x16x16x256x16.Idx → EReal) (hs) :
    (Host.topK S2x16x16x256x3 4 (FloatOps.cmpfTotal (F := Ideal) (φ := .f32) .gt) x hs).2 (ix5 b h n r t)
      = BitVec.ofNat 32 (sortedFrom (gtB fun m => x (ix5 b h n r m)) (t.castLE (by decide))).val := by
  refine (topK_snd 4 (by decide) _ x hs (ix5 b h n r t) (ix5 b h n r (t.castLE (by decide))) (fun a => by
    match a with
    | ⟨0, _⟩ | ⟨1, _⟩ | ⟨2, _⟩ | ⟨3, _⟩ | ⟨4, _⟩ => rfl)).trans ?_
  have ha : ∀ k : Fin 16, (ix5 b h n r (t.castLE (by decide)) : S2x16x16x256x16.Idx).along 4 k = ix5 b h n r k := fun k => by
    funext a
    match a with
    | ⟨0, _⟩ | ⟨1, _⟩ | ⟨2, _⟩ | ⟨3, _⟩ | ⟨4, _⟩ => rfl
  have hb : (fun k k' : Fin 16 => FloatOps.cmpfTotal (F := Ideal) (φ := .f32) .gt (x ((ix5 b h n r (t.castLE (by decide)) : S2x16x16x256x16.Idx).along 4 k))
        (x ((ix5 b h n r (t.castLE (by decide)) : S2x16x16x256x16.Idx).along 4 k')) == 1#1) = gtB fun m => x (ix5 b h n r m) := by
    funext k k'
    rw [ha, ha]
    show (Ideal.cmp .ogt (x (ix5 b h n r k)) (x (ix5 b h n r k')) == 1#1) = _
    unfold gtB Ideal.cmp
    by_cases hlt : x (ix5 b h n r k') < x (ix5 b h n r k) <;> simp [hlt]
  exact congrArg (fun f : Fin 16 → Fin 16 → Bool => BitVec.ofNat 32 (sortedFrom f (t.castLE (by decide))).val) hb

/-- The gather of whole blocks: the block whose prompt, head and number the index vector holds. -/
theorem gather_at {α : Type} (x : S2x16x16x256x128.Idx → α) (idx : IVec S2x16x16x256x3x3 32)
    (h0 : idx (ix6 b h n r t 0) = BitVec.ofNat 32 b.val) (h1 : idx (ix6 b h n r t 1) = BitVec.ofNat 32 h.val)
    (h2 : idx (ix6 b h n r t 2) = BitVec.ofNat 32 m.val) :
    Host.gather gather_S2x16x16x256x128_S2x16x16x256x3x3_S2x16x16x256x3x256x128_56_012_n_n_012_5_111256128 x idx (ix7 b h n r t j d)
      = x (ix5 b h m j d) := by
  have key : ∀ (c : Fin 3) (w M : ℕ) (y : S2x16x16x256x3x3.Idx), y = ix6 b h n r t c → idx (ix6 b h n r t c) = BitVec.ofNat 32 w → w ≤ M → w < 2 ^ 31 →
      min (idx y).toInt.toNat M = w := fun c w M y hy hi hM hw => by
    rw [hy, hi, toInt_ofNat_of_lt hw, Int.toNat_natCast, min_eq_left hM]
  unfold Host.gather
  congr 1
  funext a
  refine Fin.ext ?_
  show GatherDims.start _ (ix7 b h n r t j d) idx a + GatherDims.batchCoord _ (ix7 b h n r t j d) a + GatherDims.offCoord _ (ix7 b h n r t j d) a = _
  rw [GatherDims.batchCoord_eq_zero _ _ _ List.not_mem_nil]
  have ha : a = 0 ∨ a = 1 ∨ a = 2 ∨ a = 3 ∨ a = 4 := by
    match a with
    | ⟨0, _⟩ => exact .inl rfl
    | ⟨1, _⟩ => exact .inr (.inl rfl)
    | ⟨2, _⟩ => exact .inr (.inr (.inl rfl))
    | ⟨3, _⟩ => exact .inr (.inr (.inr (.inl rfl)))
    | ⟨4, _⟩ => exact .inr (.inr (.inr (.inr rfl)))
  unfold GatherDims.start
  rcases ha with rfl | rfl | rfl | rfl | rfl
  · rw [GatherDims.offCoord_eq_zero _ _ _ (fun hh => ((GatherDims.mem_sKept _ _).mp hh).1 (by decide)), dif_pos (by decide)]
    refine key 0 b.val 1 _ ?_ h0 (by omega) (by omega)
    funext c; refine Fin.ext ?_
    match c with | ⟨0, _⟩ | ⟨1, _⟩ | ⟨2, _⟩ | ⟨3, _⟩ | ⟨4, _⟩ | ⟨5, _⟩ => rfl
  · rw [GatherDims.offCoord_eq_zero _ _ _ (fun hh => ((GatherDims.mem_sKept _ _).mp hh).1 (by decide)), dif_pos (by decide)]
    refine key 1 h.val 15 _ ?_ h1 (by omega) (by omega)
    funext c; refine Fin.ext ?_
    match c with | ⟨0, _⟩ | ⟨1, _⟩ | ⟨2, _⟩ | ⟨3, _⟩ | ⟨4, _⟩ | ⟨5, _⟩ => rfl
  · rw [GatherDims.offCoord_eq_zero _ _ _ (fun hh => ((GatherDims.mem_sKept _ _).mp hh).1 (by decide)), dif_pos (by decide)]
    refine key 2 m.val 15 _ ?_ h2 (by omega) (by omega)
    funext c; refine Fin.ext ?_
    match c with | ⟨0, _⟩ | ⟨1, _⟩ | ⟨2, _⟩ | ⟨3, _⟩ | ⟨4, _⟩ | ⟨5, _⟩ => rfl
  · rw [dif_neg (by decide)]; exact Nat.zero_add _
  · rw [dif_neg (by decide)]; exact Nat.zero_add _

/-- Three arrays of one word an entry, joined along the last axis. -/
theorem join_at (f : Fin 3 → S2x16x16x256x3x1.Idx → BitVec 32) (hc) (c : Fin 3) :
    concatenate S2x16x16x256x3x3 5 [⟨S2x16x16x256x3x1, f 0⟩, ⟨S2x16x16x256x3x1, f 1⟩, ⟨S2x16x16x256x3x1, f 2⟩] hc (ix6 b h n r t c)
      = f c (ix6 b h n r t 0) := by
  have e : ∀ (xs : List ((s : Shape) × (s.Idx → BitVec 32))) (hx : Shape.Concatenates (xs.map (·.1)) S2x16x16x256x3x3 5),
      xs = (List.ofFn fun n : Fin 3 => (⟨S2x16x16x256x3x1, f n⟩ : (s : Shape) × (s.Idx → BitVec 32))) →
      concatenate S2x16x16x256x3x3 5 xs hx (ix6 b h n r t c) = f c (ix6 b h n r t 0) := by
    rintro xs hx rfl
    exact concatenate_ofFn_unit_apply (t := S2x16x16x256x3x3) (s₁ := S2x16x16x256x3x1) 5 f hx rfl rfl (ix6 b h n r t c) c rfl (ix6 b h n r t 0) (fun a ha => by
      match a with
      | ⟨0, _⟩ | ⟨1, _⟩ | ⟨2, _⟩ | ⟨3, _⟩ | ⟨4, _⟩ => rfl
      | ⟨5, _⟩ => exact absurd rfl ha)
  exact e _ hc (by simp [List.ofFn_succ])

/-- The same, for three arrays by name. -/
theorem join3_at (f0 f1 f2 : S2x16x16x256x3x1.Idx → BitVec 32) (hc) :
    concatenate S2x16x16x256x3x3 5 [⟨S2x16x16x256x3x1, f0⟩, ⟨S2x16x16x256x3x1, f1⟩, ⟨S2x16x16x256x3x1, f2⟩] hc (ix6 b h n r t 0) = f0 (ix6 b h n r t 0)
    ∧ concatenate S2x16x16x256x3x3 5 [⟨S2x16x16x256x3x1, f0⟩, ⟨S2x16x16x256x3x1, f1⟩, ⟨S2x16x16x256x3x1, f2⟩] hc (ix6 b h n r t 1) = f1 (ix6 b h n r t 0)
    ∧ concatenate S2x16x16x256x3x3 5 [⟨S2x16x16x256x3x1, f0⟩, ⟨S2x16x16x256x3x1, f1⟩, ⟨S2x16x16x256x3x1, f2⟩] hc (ix6 b h n r t 2) = f2 (ix6 b h n r t 0) :=
  ⟨join_at b h n r t ![f0, f1, f2] hc 0, join_at b h n r t ![f0, f1, f2] hc 1, join_at b h n r t ![f0, f1, f2] hc 2⟩

end Cert.Proof.RI

end
-- ==== Proof.RI.Read2.lean ====
/-
  The reference's selected blocks and exponents read at one entry.
-/
module

public import proofs.«01_k».proof.Proof.RI.Gather
public import proofs.«01_k».proof.Proof.KI.StoresAt

@[expose] public section

set_option maxRecDepth 16384
set_option maxHeartbeats 400000

noncomputable section

namespace Cert.Proof.RI

open Cert.ReferenceIdeal Cert.ReferenceIdeal.Read
open Idealize.ShloMosaic Idealize.ShloMosaic.WordCmp
open Cert.Proof.Math

variable (x q k v : (⟨3, ![2, 4096, 2048]⟩ : Shape).Idx → ℝ)
variable (b : Fin 2) (h n m : Fin 16) (r j : Fin 256) (d : Fin 128) (t : Fin 3)

/-- The number of the `t`-th selected block, in the reference's arrays. -/
abbrev pick : Fin 16 := sel (cut q b h) (cut k b h) n r t

/-- The selected positions. -/
theorem indices_at : val_main_indices (F := Ideal) (up q) (up k) (ix5 b h n r t) = BitVec.ofNat 32 (pick q k b h n r t).val := by
  unfold val_main_indices
  refine (topK_index b h n r t _ _).trans ?_
  have e : (fun m => val_main_v24 (F := Ideal) (up q) (up k) (ix5 b h n r m)) = score (cut q b h) (cut k b h) n r := funext fun m => v24_at q k b h n m r
  exact congrArg (fun f : Fin 16 → EReal => BitVec.ofNat 32 (sortedFrom (gtB f) (t.castLE (by decide))).val) e

/-- Counting back from the end for a negative number leaves a small number as it is. -/
theorem wrap_at (w : ℕ) (hw : w < 2 ^ 31) (y : BitVec 32) :
    Scalar.select (IntOp.cmpi .slt (BitVec.ofNat 32 w) 0#32) y (BitVec.ofNat 32 w) = BitVec.ofNat 32 w := by
  have e : IntOp.cmpi .slt (BitVec.ofNat 32 w) 0#32 = BitVec.ofBool (decide (w < 0)) := cmpi_slt_ofNat (b := 0) hw (by decide)
  rw [e]
  refine (select_decide _ _ _).trans (if_neg (Nat.not_lt_zero w))

/-- The index vectors of the keys' gather. -/
theorem v57_at : (val_main_v57 (F := Ideal) (up q) (up k) (ix6 b h n r t 0) = BitVec.ofNat 32 b.val)
    ∧ (val_main_v57 (F := Ideal) (up q) (up k) (ix6 b h n r t 1) = BitVec.ofNat 32 h.val)
    ∧ (val_main_v57 (F := Ideal) (up q) (up k) (ix6 b h n r t 2) = BitVec.ofNat 32 (pick q k b h n r t).val) := by
  have hj : val_main_v57 (F := Ideal) (up q) (up k) (ix6 b h n r t 0) = val_main_v54 (F := Ideal) (ix6 b h n r t 0)
      ∧ val_main_v57 (F := Ideal) (up q) (up k) (ix6 b h n r t 1) = val_main_v55 (F := Ideal) (ix6 b h n r t 0)
      ∧ val_main_v57 (F := Ideal) (up q) (up k) (ix6 b h n r t 2) = val_main_v56 (F := Ideal) (up q) (up k) (ix6 b h n r t 0) := by
    unfold val_main_v57
    generalize val_main_v54 (F := Ideal) = f0
    generalize val_main_v55 (F := Ideal) = f1
    generalize val_main_v56 (F := Ideal) (up q) (up k) = f2
    exact join3_at b h n r t f0 f1 f2 _
  refine ⟨hj.1.trans ?_, hj.2.1.trans ?_, hj.2.2.trans ?_⟩
  · rw [val_main_v54_apply, val_main_v52_apply, val_main_v41_apply, val_main_v38_apply, val_main_v34_apply, val_main_v33_apply, val_main_v37_apply, val_main_c_3_apply]
    exact wrap_at b.val (by omega) _
  · rw [val_main_v55_apply, val_main_v53_apply, val_main_v46_apply, val_main_v43_apply, val_main_v36_apply, val_main_v35_apply, val_main_v42_apply, val_main_c_5_apply]
    exact wrap_at h.val (by omega) _
  · have e : idx_main_v56 (ix6 b h n r t 0) = ix5 b h n r t := funext fun a => by match a with | ⟨0, _⟩ | ⟨1, _⟩ | ⟨2, _⟩ | ⟨3, _⟩ | ⟨4, _⟩ => rfl
    rw [val_main_v56_apply, e, val_main_v51_apply, val_main_v48_apply, indices_at, val_main_v47_apply, val_main_c_7_apply]
    exact wrap_at _ (by omega) _

/-- The index vectors of the values' gather. -/
theorem v79_at : (val_main_v79 (F := Ideal) (up q) (up k) (ix6 b h n r t 0) = BitVec.ofNat 32 b.val)
    ∧ (val_main_v79 (F := Ideal) (up q) (up k) (ix6 b h n r t 1) = BitVec.ofNat 32 h.val)
    ∧ (val_main_v79 (F := Ideal) (up q) (up k) (ix6 b h n r t 2) = BitVec.ofNat 32 (pick q k b h n r t).val) := by
  have hj : val_main_v79 (F := Ideal) (up q) (up k) (ix6 b h n r t 0) = val_main_v76 (F := Ideal) (ix6 b h n r t 0)
      ∧ val_main_v79 (F := Ideal) (up q) (up k) (ix6 b h n r t 1) = val_main_v77 (F := Ideal) (ix6 b h n r t 0)
      ∧ val_main_v79 (F := Ideal) (up q) (up k) (ix6 b h n r t 2) = val_main_v78 (F := Ideal) (up q) (up k) (ix6 b h n r t 0) := by
    unfold val_main_v79
    generalize val_main_v76 (F := Ideal) = f0
    generalize val_main_v77 (F := Ideal) = f1
    generalize val_main_v78 (F := Ideal) (up q) (up k) = f2
    exact join3_at b h n r t f0 f1 f2 _
  refine ⟨hj.1.trans ?_, hj.2.1.trans ?_, hj.2.2.trans ?_⟩
  · rw [val_main_v76_apply, val_main_v74_apply, val_main_v63_apply, val_main_v60_apply, val_main_v34_apply, val_main_v33_apply, val_main_v59_apply, val_main_c_9_apply]
    exact wrap_at b.val (by omega) _
  · rw [val_main_v77_apply, val_main_v75_apply, val_main_v68_apply, val_main_v65_apply, val_main_v36_apply, val_main_v35_apply, val_main_v64_apply, val_main_c_11_apply]
    exact wrap_at h.val (by omega) _
  · have e : idx_main_v78 (ix6 b h n r t 0) = ix5 b h n r t := funext fun a => by match a with | ⟨0, _⟩ | ⟨1, _⟩ | ⟨2, _⟩ | ⟨3, _⟩ | ⟨4, _⟩ => rfl
    rw [val_main_v78_apply, e, val_main_v73_apply, val_main_v70_apply, indices_at, val_main_v69_apply, val_main_c_13_apply]
    exact wrap_at _ (by omega) _

/-- The selected blocks' keys. -/
theorem v58_at : val_main_v58 (F := Ideal) (up q) (up k) (ix7 b h n r t j d) = (cut k b h (pick q k b h n r t) j d : EReal) := by
  unfold val_main_v58
  obtain ⟨h0, h1, h2⟩ := v57_at q k b h n r t
  rw [gather_at b h n (pick q k b h n r t) r j d t _ _ h0 h1 h2]
  exact v3_at k b h _ j d

/-- The selected blocks' values. -/
theorem v80_at : val_main_v80 (F := Ideal) (up q) (up k) (up v) (ix7 b h n r t j d) = (cut v b h (pick q k b h n r t) j d : EReal) := by
  unfold val_main_v80
  obtain ⟨h0, h1, h2⟩ := v79_at q k b h n r t
  rw [gather_at b h n (pick q k b h n r t) r j d t _ _ h0 h1 h2]
  exact v5_at v b h _ j d

/-- The scaled queries. -/
theorem v89_at : val_main_v89 (F := Ideal) (up q) (ix5 b h n r d) = ((cut q b h n r d * KI.Flow.scale : ℝ) : EReal) := by
  rw [val_main_v89_apply, v1_at, val_main_v88_apply, val_main_cst_16_apply, EReal.coe_mul, ← KI.Flow.ofBits_scale]
  rfl

/-- The products of the scaled queries with the selected keys. -/
theorem v90_at : val_main_v90 (F := Ideal) (up q) (up k) (ix6 b h n r t j)
    = ((∑ d, cut k b h (pick q k b h n r t) j d * (cut q b h n r d * KI.Flow.scale) : ℝ) : EReal) := by
  rw [val_main_v90_apply, ← coe_sum]
  refine Finset.sum_congr rfl fun d _ => ?_
  have e1 : lidx_main_v90 (ix6 b h n r t j) d = ix5 b h n r d := funext fun a => by match a with | ⟨0, _⟩ | ⟨1, _⟩ | ⟨2, _⟩ | ⟨3, _⟩ | ⟨4, _⟩ => rfl
  have e2 : ridx_main_v90 (ix6 b h n r t j) d = ix7 b h n r t j d := funext fun a => by match a with | ⟨0, _⟩ | ⟨1, _⟩ | ⟨2, _⟩ | ⟨3, _⟩ | ⟨4, _⟩ | ⟨5, _⟩ | ⟨6, _⟩ => rfl
  rw [e1, e2, v89_at, v58_at, ← EReal.coe_mul, mul_comm]

/-- The products of the scaled queries with the own block's keys. -/
theorem v108_at : val_main_v108 (F := Ideal) (up q) (up k) (ix5 b h n r j)
    = ((∑ d, cut k b h n j d * (cut q b h n r d * KI.Flow.scale) : ℝ) : EReal) := by
  rw [val_main_v108_apply, ← coe_sum]
  refine Finset.sum_congr rfl fun d _ => ?_
  have e1 : lidx_main_v108 (ix5 b h n r j) d = ix5 b h n r d := funext fun a => by match a with | ⟨0, _⟩ | ⟨1, _⟩ | ⟨2, _⟩ | ⟨3, _⟩ | ⟨4, _⟩ => rfl
  have e2 : ridx_main_v108 (ix5 b h n r j) d = ix5 b h n j d := funext fun a => by match a with | ⟨0, _⟩ | ⟨1, _⟩ | ⟨2, _⟩ | ⟨3, _⟩ | ⟨4, _⟩ => rfl
  rw [e1, e2, v89_at, v3_at, ← EReal.coe_mul, mul_comm]

/-- A position: the block's number times 256 plus the row. -/
theorem pos_word (a c : ℕ) : BitVec.ofNat 32 a * 256#32 + BitVec.ofNat 32 c = BitVec.ofNat 32 (256 * a + c) := by
  rw [BitVec.ofNat_add, BitVec.ofNat_mul, BitVec.mul_comm]

variable (s : (⟨1, ![16]⟩ : Shape).Idx → ℝ)

/-- The slopes as extended reals. -/
def upS : (⟨S16, .f32⟩ : BufTy).Contents (Elt Ideal) := fun i => ((s i : ℝ) : EReal)

/-- The slope times the distance to a selected key. -/
theorem v99_at : val_main_v99 (F := Ideal) (up q) (up k) (upS s) (ix6 b h n r t j)
    = ((s (ix1 h) * ((256 * n.val + r.val : ℝ) - (256 * (pick q k b h n r t).val + j.val : ℝ)) : ℝ) : EReal) := by
  rw [val_main_v99_apply, val_main_v98_apply, val_main_v97_apply, val_main_v91_apply, val_main_v96_apply, val_main_v95_apply,
    val_main_v94_apply, val_main_v93_apply, val_main_v92_apply, val_main_v14_apply, val_main_v12_apply, val_main_v10_apply, val_main_v8_apply,
    val_main_v7_apply, val_main_v9_apply, val_main_c_apply, val_main_v13_apply, val_main_v11_apply, val_main_v6_apply,
    val_main_v87_apply, val_main_v85_apply, val_main_v83_apply, val_main_v81_apply, val_main_v82_apply, val_main_c_15_apply,
    val_main_v86_apply, val_main_v84_apply, val_main_v6_apply]
  have e1 : idx_main_v91 (idx_main_v97 (idx_main_v98 (ix6 b h n r t j))) = ix1 h := funext fun a => by match a with | ⟨0, _⟩ => rfl
  have e2 : idx_main_v81 (idx_main_v85 (ix6 b h n r t j)) = ix5 b h n r t := funext fun a => by match a with | ⟨0, _⟩ | ⟨1, _⟩ | ⟨2, _⟩ | ⟨3, _⟩ | ⟨4, _⟩ => rfl
  rw [e1, e2, indices_at]
  show ((s (ix1 h) : ℝ) : EReal) * (((((BitVec.ofNat 32 n.val * 256#32 + BitVec.ofNat 32 r.val)
    - (BitVec.ofNat 32 (pick q k b h n r t).val * 256#32 + BitVec.ofNat 32 j.val)).toInt : ℝ)) : EReal) = _
  rw [pos_word, pos_word, KI.toInt_sub_ofNat _ _ (by omega) (by omega), ← EReal.coe_mul]
  push_cast; rfl

/-- Whether fewer blocks come before the query's than have been selected. -/
theorem valid_at : val_main_call1_v1 (F := Ideal) (ix6 b h n r t j) = BitVec.ofBool (decide (t.val < n.val)) := by
  rw [val_main_call1_v1_apply, val_main_v101_apply, val_main_v32_apply, val_main_v30_apply, val_main_v29_apply, val_main_v25_apply,
    val_main_v31_apply, val_main_v28_apply, val_main_v27_apply, val_main_v7_apply, val_main_v26_apply, val_main_c_2_apply]
  show IntOp.cmpi .slt (BitVec.ofNat 32 t.val) (IntOp.minsi (BitVec.ofNat 32 n.val) 3#32) = _
  revert n t; decide

/-- The exponents of the selected keys. -/
theorem v102_at : val_main_v102 (F := Ideal) (up q) (up k) (upS s) (ix6 b h n r t j)
    = far (cut q b h) (cut k b h) (s (ix1 h)) KI.Flow.scale n r t j := by
  rw [val_main_v102_apply, valid_at, val_main_v100_apply, v90_at, v99_at, val_main_call1_v2_apply, val_main_call1_v0_apply, val_main_cst_17_apply]
  refine (select_decide _ _ _).trans ?_
  unfold far
  refine if_congr Iff.rfl ?_ KI.Flow.ofBits_ninf
  exact (EReal.coe_sub _ _).symm

/-- The slope times the distance to a key of the own block. -/
theorem v116_at : val_main_v116 (F := Ideal) (upS s) (ix5 b h n r j) = ((s (ix1 h) * ((r.val : ℝ) - j.val) : ℝ) : EReal) := by
  rw [val_main_v116_apply, val_main_v115_apply, val_main_v114_apply, val_main_v112_apply, val_main_v109_apply, val_main_v113_apply,
    val_main_v111_apply, val_main_v110_apply, val_main_v107_apply, val_main_v105_apply, val_main_v103_apply, val_main_v6_apply,
    val_main_v106_apply, val_main_v104_apply, val_main_v6_apply]
  have e1 : idx_main_v109 (idx_main_v112 (idx_main_v115 (idx_main_v116 (ix5 b h n r j)))) = ix1 h := funext fun a => by match a with | ⟨0, _⟩ => rfl
  rw [e1]
  show ((s (ix1 h) : ℝ) : EReal) * ((((BitVec.ofNat 32 r.val - BitVec.ofNat 32 j.val).toInt : ℝ)) : EReal) = _
  rw [KI.toInt_sub_ofNat _ _ (by omega) (by omega), ← EReal.coe_mul]
  push_cast; rfl

/-- Which keys of the own block do not come after the query. -/
theorem past_at : val_main_call2_v1 (F := Ideal) (ix5 b h n r j) = BitVec.ofBool (decide (j.val ≤ r.val)) := by
  rw [val_main_call2_v1_apply, val_main_v119_apply, val_main_v107_apply, val_main_v105_apply, val_main_v103_apply, val_main_v6_apply,
    val_main_v106_apply, val_main_v104_apply, val_main_v6_apply, val_main_v118_apply, val_main_c_18_apply]
  show IntOp.cmpi .sge (BitVec.ofNat 32 r.val - BitVec.ofNat 32 j.val) 0#32 = _
  unfold IntOp.cmpi
  show BitVec.ofBool ((0#32).sle (BitVec.ofNat 32 r.val - BitVec.ofNat 32 j.val)) = _
  congr 1
  rw [BitVec.sle, KI.toInt_sub_ofNat _ _ (by omega) (by omega)]
  refine decide_eq_decide.2 ?_
  show (0 : ℤ) ≤ _ ↔ _
  omega

/-- The exponents of the own block's keys. -/
theorem v120_at : val_main_v120 (F := Ideal) (up q) (up k) (upS s) (ix5 b h n r j)
    = own (cut q b h) (cut k b h) (s (ix1 h)) KI.Flow.scale n r j := by
  rw [val_main_v120_apply, past_at, val_main_v117_apply, v108_at, v116_at, val_main_call2_v2_apply, val_main_call2_v0_apply, val_main_cst_19_apply]
  refine (select_decide _ _ _).trans ?_
  unfold own
  refine if_congr Iff.rfl ?_ KI.Flow.ofBits_ninf
  refine (EReal.coe_sub _ _).symm.trans (congrArg _ ?_)
  unfold expo
  ring

end Cert.Proof.RI

end
-- ==== Proof.RI.Attend.lean ====
/-
  The reference's softmax over the selected and own keys, its products with the values, and its result at one entry.
-/
module

public import proofs.«01_k».proof.Proof.RI.Read2
public import Idealize.ShloMosaic.Lib.ValueIdxRank6

@[expose] public section

set_option maxRecDepth 16384
set_option maxHeartbeats 400000

noncomputable section

namespace Cert.Proof.RI

open Cert.ReferenceIdeal Cert.ReferenceIdeal.Read
open Idealize.ShloMosaic Idealize.ShloMosaic.WordCmp
open Cert.Proof.Math

variable (x q k v : (⟨3, ![2, 4096, 2048]⟩ : Shape).Idx → ℝ) (s : (⟨1, ![16]⟩ : Shape).Idx → ℝ)
variable (b : Fin 2) (h n m : Fin 16) (r j : Fin 256) (d : Fin 128) (t : Fin 3)

/-- The row-major position of an index of rank 7. -/
theorem rowMajor_val_seven {e : Fin 7 → Nat} (i : (⟨7, e⟩ : Shape).Idx) :
    ((⟨7, e⟩ : Shape).rowMajor i).val
      = ((((((i 0).val * e 1 + (i 1).val) * e 2 + (i 2).val) * e 3 + (i 3).val) * e 4 + (i 4).val) * e 5 + (i 5).val) * e 6 + (i 6).val := by
  show (Shape.rowMajorPi e i).val = _
  simp only [Shape.rowMajorPi_succ_val]
  simp [Shape.rowMajorPi_zero, Fin.prod_univ_succ, Nat.add_mul, Nat.mul_assoc, Nat.add_assoc]

/-- The exponents of the selected keys in one list. -/
theorem v121_at (y : Fin 768) : val_main_v121 (F := Ideal) (up q) (up k) (upS s) (ix5 b h n r y)
    = val_main_v102 (F := Ideal) (up q) (up k) (upS s) (ix6 b h n r ⟨y.val / 256, by omega⟩ ⟨y.val % 256, by omega⟩) := by
  unfold val_main_v121
  generalize val_main_v102 (F := Ideal) (up q) (up k) (upS s) = f
  refine shapeCast_apply f _ (ix5 b h n r y) (ix6 b h n r ⟨y.val / 256, by omega⟩ ⟨y.val % 256, by omega⟩) ?_
  rw [Shape.rowMajor_val_six, Shape.rowMajor_val_five]
  show ((((b.val * 16 + h.val) * 16 + n.val) * 256 + r.val) * 3 + y.val / 256) * 256 + y.val % 256 = (((b.val * 16 + h.val) * 16 + n.val) * 256 + r.val) * 768 + y.val
  omega

/-- The selected blocks' values in one list. -/
theorem v135_at (y : Fin 768) : val_main_v135 (F := Ideal) (up q) (up k) (up v) (ix6 b h n r y d)
    = (cut v b h (pick q k b h n r ⟨y.val / 256, by omega⟩) ⟨y.val % 256, by omega⟩ d : EReal) := by
  rw [← v80_at]
  unfold val_main_v135
  generalize val_main_v80 (F := Ideal) (up q) (up k) (up v) = f
  refine shapeCast_apply f _ (ix6 b h n r y d) (ix7 b h n r ⟨y.val / 256, by omega⟩ ⟨y.val % 256, by omega⟩ d) ?_
  rw [rowMajor_val_seven, Shape.rowMajor_val_six]
  show (((((b.val * 16 + h.val) * 16 + n.val) * 256 + r.val) * 3 + y.val / 256) * 256 + y.val % 256) * 128 + d.val
    = ((((b.val * 16 + h.val) * 16 + n.val) * 256 + r.val) * 768 + y.val) * 128 + d.val
  omega

/-- All the exponents of a query. -/
abbrev line (y : Fin 1024) : EReal := row (cut q b h) (cut k b h) (s (ix1 h)) KI.Flow.scale n r y

/-- The list of all exponents. -/
theorem v122_at (y : Fin 1024) : val_main_v122 (F := Ideal) (up q) (up k) (upS s) (ix5 b h n r y) = line q k s b h n r y := by
  unfold line row
  by_cases hy : y.val < 768
  · rw [dif_pos hy, ← v102_at]
    refine Eq.trans ?_ (v121_at q k s b h n r ⟨y.val, hy⟩)
    unfold val_main_v122
    generalize val_main_v121 (F := Ideal) (up q) (up k) (upS s) = f
    generalize val_main_v120 (F := Ideal) (up q) (up k) (upS s) = g
    exact concatenate_pair_apply_left (t := S2x16x16x256x1024) 4 f g _ (ix5 b h n r y) rfl (ix5 b h n r ⟨y.val, hy⟩) (fun a => by
      match a with | ⟨0, _⟩ | ⟨1, _⟩ | ⟨2, _⟩ | ⟨3, _⟩ | ⟨4, _⟩ => rfl)
  · rw [dif_neg hy, ← v120_at]
    unfold val_main_v122
    generalize val_main_v121 (F := Ideal) (up q) (up k) (upS s) = f
    generalize val_main_v120 (F := Ideal) (up q) (up k) (upS s) = g
    exact concatenate_pair_apply_right (t := S2x16x16x256x1024) 4 f g _ (ix5 b h n r y) rfl rfl (ix5 b h n r ⟨y.val - 768, by omega⟩) (fun a ha => by
      match a with
      | ⟨0, _⟩ | ⟨1, _⟩ | ⟨2, _⟩ | ⟨3, _⟩ => rfl
      | ⟨4, _⟩ => exact absurd rfl ha) (by show y.val - 768 + 768 = y.val; omega)

/-- The greatest exponent is a real number. -/
theorem v125_real : ∃ M : ℝ, val_main_v125 (F := Ideal) (up q) (up k) (upS s) (ix4 b h n r) = (M : EReal) := by
  obtain ⟨M, hM⟩ := fold_max_real (line q k s b h n r) (fun y => row_ne_top _ _ _ _ _ _ y) (here r) (row_here _ _ _ _ _ _)
  have e : val_main_v123 (F := Ideal) (up q) (up k) (upS s) (ix4 b h n r) = (M : EReal) := by
    have hl : (fun y => val_main_v122 (F := Ideal) (up q) (up k) (upS s) (ix5 b h n r y)) = line q k s b h n r := funext fun y => v122_at q k s b h n r y
    rw [← hM, ← hl]
    unfold val_main_v123
    generalize val_main_v122 (F := Ideal) (up q) (up k) (upS s) = f
    simp only [pointwise]
    rw [val_main_cst_20_apply]
    exact congrArg (fun c => Finset.univ.fold max c _) KI.Flow.ofBits_ninf
  refine ⟨M, ?_⟩
  rw [val_main_v125_apply, e, val_main_v124_apply, val_main_cst_21_apply]
  show max (Ideal.ofBits .f32 0xFF800000#32) _ = _
  rw [KI.Flow.ofBits_ninf]
  exact max_eq_right bot_le

/-- The softmax weights. -/
theorem v133_at (y : Fin 1024) : val_main_v133 (F := Ideal) (up q) (up k) (upS s) (ix5 b h n r y)
    = ((wt (line q k s b h n r y) / ∑ l, wt (line q k s b h n r l) : ℝ) : EReal) := by
  obtain ⟨M, hM⟩ := v125_real q k s b h n r
  have e129 : ∀ l, val_main_v129 (F := Ideal) (up q) (up k) (upS s) (ix5 b h n r l) = Ideal.exp (line q k s b h n r l - (M : EReal)) := fun l => by
    have e : idx_main_v126 (idx_main_v127 (ix5 b h n r l)) = ix4 b h n r := funext fun a => by match a with | ⟨0, _⟩ | ⟨1, _⟩ | ⟨2, _⟩ | ⟨3, _⟩ => rfl
    rw [val_main_v129_apply, val_main_v128_apply, v122_at, val_main_v127_apply, val_main_v126_apply, e, hM]
    rfl
  have e1 : idx_main_v131 (idx_main_v132 (ix5 b h n r y)) = ix4 b h n r := funext fun a => by match a with | ⟨0, _⟩ | ⟨1, _⟩ | ⟨2, _⟩ | ⟨3, _⟩ => rfl
  have e2 : ∀ l, idx_main_v130 (ix4 b h n r) l = ix5 b h n r l := fun l => funext fun a => by match a with | ⟨0, _⟩ | ⟨1, _⟩ | ⟨2, _⟩ | ⟨3, _⟩ | ⟨4, _⟩ => rfl
  rw [val_main_v133_apply, val_main_v132_apply, val_main_v131_apply, e1, val_main_v130_apply, e129, val_main_cst_22_apply,
    Finset.sum_congr rfl fun l _ => (congrArg _ (e2 l)).trans (e129 l)]
  refine Eq.trans ?_ (softmax_entry (line q k s b h n r) (fun y => row_ne_top _ _ _ _ _ _ y) M (here r) (row_here _ _ _ _ _ _) y)
  show Ideal.div _ (Ideal.ofBits .f32 0x00000000#32 + _) = _
  rw [Ideal.ofBits_zero_f32, zero_add]

/-- The products with the values, of all the keys. -/
theorem v139_at : val_main_v139 (F := Ideal) (up q) (up k) (up v) (upS s) (ix5 b h n r d)
    = (result (cut q b h) (cut k b h) (cut v b h) (s (ix1 h)) KI.Flow.scale n r d : EReal) := by
  rw [← row_result, EReal.coe_add, ← coe_sum, ← coe_sum, val_main_v139_apply, val_main_v136_apply, val_main_v138_apply]
  refine congrArg₂ (fun a c : EReal => a + c) (Finset.sum_congr rfl fun y _ => ?_) (Finset.sum_congr rfl fun j _ => ?_)
  · have e1 : idx_main_v134 (lidx_main_v136 (ix5 b h n r d) y) = ix5 b h n r ⟨y.val, by omega⟩ := funext fun a => by match a with | ⟨0, _⟩ | ⟨1, _⟩ | ⟨2, _⟩ | ⟨3, _⟩ | ⟨4, _⟩ => rfl
    have e2 : ridx_main_v136 (ix5 b h n r d) y = ix6 b h n r y d := funext fun a => by match a with | ⟨0, _⟩ | ⟨1, _⟩ | ⟨2, _⟩ | ⟨3, _⟩ | ⟨4, _⟩ | ⟨5, _⟩ => rfl
    rw [val_main_v134_apply, e1, e2, v133_at, v135_at, ← EReal.coe_mul]
  · have e1 : idx_main_v137 (lidx_main_v138 (ix5 b h n r d) j) = ix5 b h n r ⟨768 + j.val, by omega⟩ := funext fun a => by
      match a with
      | ⟨0, _⟩ | ⟨1, _⟩ | ⟨2, _⟩ | ⟨3, _⟩ | ⟨4, _⟩ => rfl
    have e2 : ridx_main_v138 (ix5 b h n r d) j = ix5 b h n j d := funext fun a => by match a with | ⟨0, _⟩ | ⟨1, _⟩ | ⟨2, _⟩ | ⟨3, _⟩ | ⟨4, _⟩ => rfl
    rw [val_main_v137_apply, e1, e2, v133_at, v5_at, ← EReal.coe_mul]

/-- The reference's result at one entry. -/
theorem v142_at : val_main_v142 (F := Ideal) (up q) (up k) (up v) (upS s) (at3 b h n r d)
    = (result (cut q b h) (cut k b h) (cut v b h) (s (ix1 h)) KI.Flow.scale n r d : EReal) := by
  have e : idx_main_v140 (idx_main_v141 (at3 b h n r d)) = ix5 b h n r d := by
    funext a; refine Fin.ext ?_
    match a with
    | ⟨0, _⟩ => show ((b.val * 4096 + (256 * n.val + r.val)) * 2048 + (128 * h.val + d.val)) / 8388608 = b.val; omega
    | ⟨1, _⟩ => show ((b.val * 4096 + (256 * n.val + r.val)) * 2048 + (128 * h.val + d.val)) / 128 % 16 = h.val; omega
    | ⟨2, _⟩ => show ((b.val * 4096 + (256 * n.val + r.val)) * 2048 + (128 * h.val + d.val)) / 524288 % 16 = n.val; omega
    | ⟨3, _⟩ => show ((b.val * 4096 + (256 * n.val + r.val)) * 2048 + (128 * h.val + d.val)) / 2048 % 256 = r.val; omega
    | ⟨4, _⟩ => show ((b.val * 4096 + (256 * n.val + r.val)) * 2048 + (128 * h.val + d.val)) % 128 = d.val; omega
  rw [val_main_v142_apply, val_main_v141_apply, val_main_v140_apply, e, v139_at]
  rfl

end Cert.Proof.RI

end
-- ==== Proof.KI.Array.lean ====
/-
  The kernel's output array: at each prompt, head and query, the attention of that query.
-/
module

public import proofs.«01_k».proof.Proof.KI.Out
public import proofs.«01_k».proof.Proof.RI.Attend
public import Idealize.ShloMosaic.Lib.Pipeline.ValueKit

@[expose] public section

set_option maxRecDepth 16384
set_option maxHeartbeats 400000

noncomputable section

namespace Cert.Proof.KI

open Cert.KernelIdeal Cert.KernelIdeal.Gen
open Idealize.ShloMosaic Idealize.ShloMosaic.TcCoe Idealize.SL.Sem
open Cert.Proof.Math Flow
open Cert.Proof.RI (at3 cut up upS)

theorem off1_eq : ∀ i : grid0.Coords, ∀ r : Fin 2, k0_off1 i (BitVec.ofNat 32 r.val) = ![2 * (i 1).val + r.val] := by decide +kernel

section Body
variable (c : Dev nD) (i : grid0.Coords) (arg2 : Memref sig .tc .smem S16 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x4096x256 .bf16) (harg6 : arg6.IsWhole) (arg7 : Memref sig .tc .vmem S2x4096x256 .bf16) (harg7 : arg7.IsWhole) (arg8 : Memref sig .tc .vmem S2x16x144x256 .bf16) (harg8 : arg8.IsWhole) (arg9 : Memref sig .tc .vmem S2x16x128 .f32) (harg9 : arg9.IsWhole) (arg10 : Memref sig .tc .vmem S2x768x256 .f32) (harg10 : arg10.IsWhole)
  {Q K V : Fin 2 → Fin 16 → Fin 256 → Fin 128 → ℝ} {σ : Fin 2 → ℝ}

/-- An entry of the slopes, loaded. -/
theorem slope_load (x2 : Vec Ideal S16 .f32) (o : Fin 1 → ℕ) (inb) (g : Fin 16) (ho : o = ![g.val]) (y) :
    View.readAt (Elt Ideal) arg2.view (Rect.unit (s := S16) o S1.size inb).toLoadRect (harg2.unread x2) y = x2 (ix1 g) := by
  subst ho
  refine (congrFun (harg2.read_unread x2) _).trans (congrArg x2 (funext fun a => Fin.ext ?_))
  obtain rfl : a = 0 := Subsingleton.elim (α := Fin 1) _ _
  refine (Rect.idx_unit_val _ _ _ _ _).trans ?_
  have : (y 0).val < 1 := (y 0).isLt
  show g.val + (y 0).val = g.val; omega

/-- What the body leaves, entry by entry, from what its inputs read. -/
theorem leaves_at (x2 : Vec Ideal S16 .f32) (x3 x4 x5 : Vec Ideal S1x4096x256 .f32)
    (hs : ∀ h : Fin 2, ∀ g : Fin 16, g.val = 2 * (i 1).val + h.val → x2 (ix1 g) = ((σ h : ℝ) : EReal))
    (hq : ∀ (h : Fin 2) (n : Fin 16) (j : Fin 256) (d : Fin 128), x3 (ix3 0 ⟨256 * n.val + j.val, by omega⟩ ⟨128 * h.val + d.val, by omega⟩) = ((Q h n j d : ℝ) : EReal))
    (hk : ∀ (h : Fin 2) (n : Fin 16) (j : Fin 256) (d : Fin 128), x4 (ix3 0 ⟨256 * n.val + j.val, by omega⟩ ⟨128 * h.val + d.val, by omega⟩) = ((K h n j d : ℝ) : EReal))
    (hv : ∀ (h : Fin 2) (n : Fin 16) (j : Fin 256) (d : Fin 128), x5 (ix3 0 ⟨256 * n.val + j.val, by omega⟩ ⟨128 * h.val + d.val, by omega⟩) = ((V h n j d : ℝ) : EReal))
    (h : Fin 2) (n : Fin 16) (r : Fin 256) (d : Fin 128) :
    View.canon (leaves (F := Ideal) c i arg2 harg2 arg3 harg3 arg4 harg4 arg5 harg5 arg6 harg6 arg7 harg7 arg8 harg8 arg9 harg9 arg10 harg10 x2 x3 x4 x5) (ix3 0 ⟨256 * n.val + r.val, by omega⟩ ⟨128 * h.val + d.val, by omega⟩) = attn Q K V σ h n r d := by
  unfold leaves
  have hi : (i 1).val < 8 := (i 1).isLt
  refine body_at c i arg2 harg2 arg3 harg3 arg4 harg4 arg5 harg5 arg6 harg6 arg7 harg7 arg8 harg8 arg9 harg9 arg10 harg10 (harg3.unread x3) (harg2.unread x2) (harg4.unread x4) (harg5.unread x5) ?_ ?_ ?_ (fun a => ?_) h n r d
  · intro h n j d; exact (congrFun (harg3.read_unread x3) _).trans (hq h n j d)
  · intro h n j d; exact (congrFun (harg4.read_unread x4) _).trans (hk h n j d)
  · intro h n j d; exact (congrFun (harg5.read_unread x5) _).trans (hv h n j d)
  · have e0 := slope_load arg2 harg2 x2 _ (k0_off1_inb i 0) ⟨2 * (i 1).val + 0, by omega⟩ (off1_eq i 0)
    have e1 := slope_load arg2 harg2 x2 _ (k0_off1_inb i 1) ⟨2 * (i 1).val + 1, by omega⟩ (off1_eq i 1)
    match a with
    | ⟨0, _⟩ => exact (e0 _).trans (hs 0 _ rfl)
    | ⟨1, _⟩ => exact (e1 _).trans (hs 1 _ rfl)

end Body

variable (q k v : (⟨3, ![2, 4096, 2048]⟩ : Shape).Idx → ℝ) (s : (⟨1, ![16]⟩ : Shape).Idx → ℝ)

/-- The attention as one array. -/
def attnArr : (⟨3, ![2, 4096, 2048]⟩ : Shape).Idx → EReal := fun x =>
  have h1 : (x 1).val < 4096 := (x 1).isLt
  have h2 : (x 2).val < 2048 := (x 2).isLt
  ((result (cut q (x 0) ⟨(x 2).val / 128, by omega⟩) (cut k (x 0) ⟨(x 2).val / 128, by omega⟩) (cut v (x 0) ⟨(x 2).val / 128, by omega⟩)
    (s (ix1 ⟨(x 2).val / 128, by omega⟩)) scale ⟨(x 1).val / 256, by omega⟩ ⟨(x 1).val % 256, by omega⟩ ⟨(x 2).val % 128, by omega⟩ : ℝ) : EReal)

theorem attnArr_at (b : Fin 2) (h n : Fin 16) (r : Fin 256) (d : Fin 128) :
    attnArr q k v s (at3 b h n r d) = ((result (cut q b h) (cut k b h) (cut v b h) (s (ix1 h)) scale n r d : ℝ) : EReal) := by
  have e1 : (⟨(128 * h.val + d.val) / 128, by omega⟩ : Fin 16) = h := Fin.ext (show (128 * h.val + d.val) / 128 = h.val by omega)
  have e2 : (⟨(256 * n.val + r.val) / 256, by omega⟩ : Fin 16) = n := Fin.ext (show (256 * n.val + r.val) / 256 = n.val by omega)
  have e3 : (⟨(256 * n.val + r.val) % 256, by omega⟩ : Fin 256) = r := Fin.ext (show (256 * n.val + r.val) % 256 = r.val by omega)
  have e4 : (⟨(128 * h.val + d.val) % 128, by omega⟩ : Fin 128) = d := Fin.ext (show (128 * h.val + d.val) % 128 = d.val by omega)
  show ((result (cut q b ⟨(128 * h.val + d.val) / 128, _⟩) (cut k b ⟨(128 * h.val + d.val) / 128, _⟩) (cut v b ⟨(128 * h.val + d.val) / 128, _⟩)
    (s (ix1 ⟨(128 * h.val + d.val) / 128, _⟩)) scale ⟨(256 * n.val + r.val) / 256, _⟩ ⟨(256 * n.val + r.val) % 256, _⟩ ⟨(128 * h.val + d.val) % 128, _⟩ : ℝ) : EReal) = _
  rw [e1, e2, e3, e4]

/-- Every entry of the array is some head's, block's, query's. -/
theorem exists_at3 (x : (⟨3, ![2, 4096, 2048]⟩ : Shape).Idx) : ∃ b h n r d, x = at3 b h n r d := by
  have h1 : (x 1).val < 4096 := (x 1).isLt
  have h2 : (x 2).val < 2048 := (x 2).isLt
  refine ⟨x 0, ⟨(x 2).val / 128, by omega⟩, ⟨(x 1).val / 256, by omega⟩, ⟨(x 1).val % 256, by omega⟩, ⟨(x 2).val % 128, by omega⟩, funext fun a => Fin.ext ?_⟩
  match a with
  | ⟨0, _⟩ => rfl
  | ⟨1, _⟩ => show (x 1).val = 256 * ((x 1).val / 256) + (x 1).val % 256; omega
  | ⟨2, _⟩ => show (x 2).val = 128 * ((x 2).val / 128) + (x 2).val % 128; omega

/-- The reference computes the attention. -/
theorem reference_eq : Cert.ReferenceIdeal.Read.val_main_v142 (F := Ideal) (up q) (up k) (up v) (upS s) = attnArr q k v s := by
  funext x
  obtain ⟨b, h, n, r, d, rfl⟩ := exists_at3 x
  rw [attnArr_at]
  exact Cert.Proof.RI.v142_at q k v s b h n r d

theorem t0_eq : ∀ t : Fin cfg0.N, win0_0.index t = ![0] := by decide +kernel
theorem t1_eq : ∀ t : Fin cfg0.N, win0_1.index t = ![(grid0.coords t 0).val, 0, (grid0.coords t 1).val] := by decide +kernel
theorem t2_eq : ∀ t : Fin cfg0.N, win0_2.index t = ![(grid0.coords t 0).val, 0, (grid0.coords t 1).val] := by decide +kernel
theorem t3_eq : ∀ t : Fin cfg0.N, win0_3.index t = ![(grid0.coords t 0).val, 0, (grid0.coords t 1).val] := by decide +kernel
theorem t4_eq : ∀ t : Fin cfg0.N, win0_4.index t = ![(grid0.coords t 0).val, 0, (grid0.coords t 1).val] := by decide +kernel

variable (m : (ℓ : Loc nD τ sig) → Buf (Elt Ideal) ℓ) (c : Dev nD)

/-- The head that head `h` of a point's pair is. -/
def headOf (t : Fin cfg0.N) (h : Fin 2) : Fin 16 := ⟨2 * (grid0.coords t 1).val + h.val, by have : (grid0.coords t 1).val < 8 := (grid0.coords t 1).isLt; omega⟩

/-- The prompt of a point. -/
def promptOf (t : Fin cfg0.N) : Fin 2 := ⟨(grid0.coords t 0).val, (grid0.coords t 0).isLt⟩

theorem slopes_at (t : Fin cfg0.N) (g : Fin 16) : (iblk m c 0 t : Vec Ideal S16 .f32) (ix1 g) = (V m c main_arg3 : S16.Idx → EReal) (ix1 g) := by
  refine congrArg (V m c main_arg3 : S16.Idx → EReal) (funext fun a => Fin.ext ?_)
  obtain rfl : a = 0 := Subsingleton.elim (α := Fin 1) _ _
  blk_simp [t0_eq]
/-- An entry of a point's block, by its place in the array. -/
theorem place (t : Fin cfg0.N) (h : Fin 2) (n : Fin 16) (j : Fin 256) (d : Fin 128) (y : (⟨3, ![2, 4096, 2048]⟩ : Shape).Idx) (h0 : (y 0).val = (grid0.coords t 0).val + (0 : Fin 1).val)
    (h1 : (y 1).val = 256 * n.val + j.val) (h2 : (y 2).val = (grid0.coords t 1).val * 256 + (128 * h.val + d.val)) : y = at3 (promptOf t) (headOf t h) n j d := by
  funext a; refine Fin.ext ?_
  match a with
  | ⟨0, _⟩ => exact h0
  | ⟨1, _⟩ => exact h1
  | ⟨2, _⟩ => exact h2.trans (show (grid0.coords t 1).val * 256 + (128 * h.val + d.val) = 128 * (2 * (grid0.coords t 1).val + h.val) + d.val by omega)

theorem queries_at (t : Fin cfg0.N) (h : Fin 2) (n : Fin 16) (j : Fin 256) (d : Fin 128) :
    (iblk m c 1 t : Vec Ideal S1x4096x256 .f32) (ix3 0 ⟨256 * n.val + j.val, by omega⟩ ⟨128 * h.val + d.val, by omega⟩) = (V m c main_arg0 : S2x4096x2048.Idx → EReal) (at3 (promptOf t) (headOf t h) n j d) :=
  congrArg (V m c main_arg0 : S2x4096x2048.Idx → EReal) (place t h n j d _ (by blk_simp [t1_eq]) (by blk_simp [t1_eq]) (by blk_simp [t1_eq]))
theorem keys_at (t : Fin cfg0.N) (h : Fin 2) (n : Fin 16) (j : Fin 256) (d : Fin 128) :
    (iblk m c 2 t : Vec Ideal S1x4096x256 .f32) (ix3 0 ⟨256 * n.val + j.val, by omega⟩ ⟨128 * h.val + d.val, by omega⟩) = (V m c main_arg1 : S2x4096x2048.Idx → EReal) (at3 (promptOf t) (headOf t h) n j d) :=
  congrArg (V m c main_arg1 : S2x4096x2048.Idx → EReal) (place t h n j d _ (by blk_simp [t2_eq]) (by blk_simp [t2_eq]) (by blk_simp [t2_eq]))
theorem values_at (t : Fin cfg0.N) (h : Fin 2) (n : Fin 16) (j : Fin 256) (d : Fin 128) :
    (iblk m c 3 t : Vec Ideal S1x4096x256 .f32) (ix3 0 ⟨256 * n.val + j.val, by omega⟩ ⟨128 * h.val + d.val, by omega⟩) = (V m c main_arg2 : S2x4096x2048.Idx → EReal) (at3 (promptOf t) (headOf t h) n j d) :=
  congrArg (V m c main_arg2 : S2x4096x2048.Idx → EReal) (place t h n j d _ (by blk_simp [t3_eq]) (by blk_simp [t3_eq]) (by blk_simp [t3_eq]))

/-- Every entry of a block is some head's, block's, query's. -/
theorem exists_blk (y : S1x4096x256.Idx) : ∃ (h : Fin 2) (n : Fin 16) (r : Fin 256) (d : Fin 128), y = ix3 (0 : Fin 1) (⟨256 * n.val + r.val, by omega⟩ : Fin 4096) (⟨128 * h.val + d.val, by omega⟩ : Fin 256) := by
  have h0 : (y 0).val < 1 := (y 0).isLt
  have h1 : (y 1).val < 4096 := (y 1).isLt
  have h2 : (y 2).val < 256 := (y 2).isLt
  refine ⟨⟨(y 2).val / 128, by omega⟩, ⟨(y 1).val / 256, by omega⟩, ⟨(y 1).val % 256, by omega⟩, ⟨(y 2).val % 128, by omega⟩, funext fun a => Fin.ext ?_⟩
  match a with
  | ⟨0, _⟩ => show (y 0).val = 0; omega
  | ⟨1, _⟩ => show (y 1).val = 256 * ((y 1).val / 256) + (y 1).val % 256; omega
  | ⟨2, _⟩ => show (y 2).val = 128 * ((y 2).val / 128) + (y 2).val % 128; omega

variable (h0 : V m c main_arg0 = up q) (h1 : V m c main_arg1 = up k) (h2 : V m c main_arg2 = up v) (h3 : V m c main_arg3 = upS s)

include h0 h1 h2 h3 in
/-- What a point's body leaves, entry by entry. -/
theorem point_at (t : Fin cfg0.N) (h : Fin 2) (n : Fin 16) (r : Fin 256) (d : Fin 128) :
    View.canon (leavesAt (F := Ideal) m c t) (ix3 0 ⟨256 * n.val + r.val, by omega⟩ ⟨128 * h.val + d.val, by omega⟩) = attnArr q k v s (at3 (promptOf t) (headOf t h) n r d) := by
  rw [attnArr_at]
  unfold leavesAt
  refine leaves_at (Q := fun h => cut q (promptOf t) (headOf t h)) (K := fun h => cut k (promptOf t) (headOf t h)) (V := fun h => cut v (promptOf t) (headOf t h)) (σ := fun h => s (ix1 (headOf t h)))
    c (grid0.coords t) _ _ _ _ _ _ _ _ _ _ _ _ _ _ _ _ _ _ _ _ _ _ ?_ ?_ ?_ ?_ h n r d
  · intro h g hg
    obtain rfl : g = headOf t h := Fin.ext hg
    exact (slopes_at m c t _).trans (congrFun h3 _)
  · intro h n j d; exact (queries_at m c t h n j d).trans (congrFun h0 _)
  · intro h n j d; exact (keys_at m c t h n j d).trans (congrFun h1 _)
  · intro h n j d; exact (values_at m c t h n j d).trans (congrFun h2 _)

include h0 h1 h2 h3 in
/-- The kernel's output array holds the attention. -/
theorem array_eq : (dats (F := Ideal) m 0 c).arrAt 4 cfg0.N = (attnArr q k v s : S2x4096x2048.Idx → EReal) := by
  refine (dats (F := Ideal) m 0 c).arrAt_eq_of_covers 4 _ (by decide +kernel) fun t hf y => ?_
  rw [after4]
  obtain ⟨h, n, r, d, hy⟩ := exists_blk y
  refine (congrArg (View.canon (leavesAt (F := Ideal) m c t)) hy).trans ((point_at q k v s m c h0 h1 h2 h3 t h n r d).trans (congrArg (attnArr q k v s) ?_))
  subst hy
  exact (place t h n r d _ (by blk_simp [t4_eq]) (by blk_simp [t4_eq]) (by blk_simp [t4_eq])).symm

end Cert.Proof.KI

end
-- ==== Proof.Finite.lean ====
/-
  What the precondition says: every entry of the four arrays is a real number.
-/
module

public import proofs.«01_k».proof.Pre_finite
public import Idealize.ShloMosaic.Lib.ReduceAll
public import Idealize.ShloMosaic.Lib.Pointwise

@[expose] public section

set_option maxRecDepth 16384
set_option maxHeartbeats 400000

noncomputable section

namespace Cert.Proof.Finite

open Idealize.ShloMosaic Cert.Pre_finite

/-- The shapes the precondition names fit together. -/
theorem facts : Cert.Pre_finite.Facts where
  bcast_S_S2x4096x2048 := by decide
  reducesTo_S2x4096x2048_S_d0_1_2 := by decide
  h_S_ := by decide
  bcast_S_S16 := by decide
  reducesTo_S16_S_d0 := by decide

theorem ofBits_inf : Ideal.ofBits .f32 0x7F800000#32 = (⊤ : EReal) := by simp [Ideal.ofBits, Ideal.ieee]

/-- An extended real below infinity in absolute value is a real. -/
theorem real_of_abs (x : EReal) (h : max x (-x) < ⊤) : ((x.toReal : ℝ) : EReal) = x := by
  refine EReal.coe_toReal ?_ ?_
  · rintro rfl; simp at h
  · rintro rfl; simp at h

/-- An array all of whose entries compare below infinity is one of reals. -/
theorem reals {s : Shape} (x : FVec Ideal s .f32) (i : s.Idx) (b : FVec Ideal s .f32) (hb : b i = (⊤ : EReal)) (h : cmpf (F := Ideal) .olt (Host.absf x) b i = 1#1) : (((x i : EReal).toReal : ℝ) : EReal) = x i := by
  refine real_of_abs _ ?_
  have h' : (BitVec.ofBool (decide (max (x i : EReal) (-(x i : EReal)) < b i)) : BitVec 1) = 1#1 := h
  rw [hb] at h'
  by_contra hc
  rw [decide_eq_false hc] at h'
  exact absurd h' (by decide)

theorem both {a b : BitVec 1} (h : a &&& b = 1#1) : a = 1#1 ∧ b = 1#1 := by
  revert a b; decide

instance : Subsingleton S_.Idx := ⟨fun a b => funext fun i => i.elim0⟩

/-- The precondition makes every entry of the four arrays a real number. -/
theorem of_pre [Cert.Pre_finite.Facts] (q k v : FVec Ideal S2x4096x2048 .f32) (s : FVec Ideal S16 .f32) (h : fn (F := Ideal) q k v s = fun _ => 1#1) :
    (∀ i, (((q i : EReal).toReal : ℝ) : EReal) = q i) ∧ (∀ i, (((k i : EReal).toReal : ℝ) : EReal) = k i) ∧ (∀ i, (((v i : EReal).toReal : ℝ) : EReal) = v i) ∧ (∀ i, (((s i : EReal).toReal : ℝ) : EReal) = s i) := by
  have e := congrFun h (Shape.Idx.first Facts.h_S_)
  obtain ⟨e3, hs⟩ := both e
  obtain ⟨e2, hv⟩ := both e3
  obtain ⟨hq, hk⟩ := both e2
  refine ⟨fun i => reals q i _ ofBits_inf (Host.reduce_andi_all _ _ _ _ _ hq i), fun i => reals k i _ ofBits_inf (Host.reduce_andi_all _ _ _ _ _ hk i),
    fun i => reals v i _ ofBits_inf (Host.reduce_andi_all _ _ _ _ _ hv i), fun i => reals s i _ ofBits_inf (Host.reduce_andi_all _ _ _ _ _ hs i)⟩

end Cert.Proof.Finite

end
-- ==== Proof.FF.Block.lean ====
/-
  The feed-forward call, one grid point: what its two stores hold, entry by entry, over the extended reals.
-/
module

public import proofs.«01_k».proof.Proof.Gen.Kernel2Ideal.Skeleton
public import Idealize.ShloMosaic.Lib.Pointwise
public import Idealize.ShloMosaic.Lib.ValueIdx

@[expose] public section

set_option maxRecDepth 16384

noncomputable section

namespace Cert.Proof.FF

open Cert.Kernel2Ideal Cert.Kernel2Ideal.Gen
open Idealize.ShloMosaic Idealize.ShloMosaic.TcCoe Idealize.SL.Sem

/-- A row scaled by the root of the mean of its squares, then by the gains: entry `k` of it. -/
def normed (x g : Fin 2048 → EReal) (k : Fin 2048) : EReal :=
  x k * Ideal.rsqrt (Ideal.div (∑ j, x j * x j) (Ideal.ofBits .f32 0x45000000#32) + Ideal.ofBits .f32 0x358637BD#32) * g k

/-- One hidden unit of a normed row, by the column `u` of its weights: the positive part of the product, squared. -/
def hidden (z u : Fin 2048 → EReal) : EReal := max (∑ k, z k * u k) 0 * max (∑ k, z k * u k) 0

/-- The first point of a row of points stores the rows normed. -/
theorem pay1_at (x : Vec Ideal S1024x2048 .f32) (g : Vec Ideal S1x2048 .f32) (r : Fin 1024) (k : Fin 2048) :
    k0_pay1 (F := Ideal) x g (ix2 r k) = normed (fun j => x (ix2 r j)) (fun j => g (ix2 0 j)) k := by
  unfold normed
  pointwise [k0_pay1]

/-- Every point adds the products of 512 hidden units with their rows of weights to what the block held. -/
theorem pay2_at (z : Vec Ideal S1024x2048 .bf16) (u : Vec Ideal S1x2048x512 .f32) (o : Vec Ideal S1024x2048 .f32) (d : Vec Ideal S1x512x2048 .f32) (r : Fin 1024) (c : Fin 2048) :
    k0_pay2 (F := Ideal) z u o d (ix2 r c)
      = o (ix2 r c) + ∑ f : Fin 512, hidden (fun k => z (ix2 r k)) (fun k => u (ix3 0 k f)) * d (ix3 0 f c) := by
  unfold hidden
  pointwise [k0_pay2]

end Cert.Proof.FF

end
-- ==== Proof.FF.Point.lean ====
/-
  The feed-forward call, point by point: what the output block and the normed rows hold after each grid point, in terms
  of what the point's blocks hold.
-/
module

public import proofs.«01_k».proof.Proof.FF.Block
public import proofs.«01_k».proof.Proof.Gen.Kernel2Ideal.Value
public import Idealize.ShloMosaic.Lib.Pipeline.Value
public import Idealize.ShloMosaic.Lib.Tactic

@[expose] public section

set_option maxRecDepth 16384

noncomputable section

namespace Cert.Proof.FF

open Cert.Kernel2Ideal Cert.Kernel2Ideal.Gen
open Idealize.ShloMosaic Idealize.ShloMosaic.TcCoe Idealize.SL.Sem

theorem zero2 : (![0, 0] : Fin 2 → Nat) = fun _ => 0 := by decide
theorem zero3 : (![0, 0, 0] : Fin 3 → Nat) = fun _ => 0 := by decide

section
variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S1x2048x512 .f32) (h4 : a4.IsWhole) (a5 : Memref sig .tc .vmem S1x512x2048 .f32) (h5 : a5.IsWhole)
  (a6 : Memref sig .tc .vmem S1024x2048 .f32) (h6 : a6.IsWhole) (a7 : Memref sig .tc .vmem S1024x2048 .bf16) (h7 : a7.IsWhole)
  (x : Vec Ideal S1024x2048 .f32) (g : Vec Ideal S1x2048 .f32) (u : Vec Ideal S1x2048x512 .f32) (d : Vec Ideal S1x512x2048 .f32)

/-- The first point of a row of blocks stores the rows normed. -/
theorem first_rows (hc : cond0_0 i) : sout0_A_0 (F := Ideal) c i a2 h2 a3 h3 a4 h4 a5 h5 a6 h6 a7 h7 hc x g u d = k0_pay1 x g := by
  unfold sout0_A_0
  rw [View.read_writes_eq_canon _ _ _ (scover0_A_0 c i a2 h2 a3 h3 a4 h4 a5 h5 a6 h6 a7 h7 hc x g u d)]
  unfold kernelRun0_A
  dsimp only
  sl_unfold_words
  rw [View.canon_unit_zero zero2]
  simp only [View.readAt_eq_ld, h2.read_unread, h3.read_unread, View.ld_unit_zero (S := S1024x2048) zero2, View.ld_unit_zero (S := S1x2048) zero2]

/-- The first point leaves the rows themselves and the first 512 hidden units' products. -/
theorem first_out (hc : cond0_0 i) : out0_A_4 (F := Ideal) c i a2 h2 a3 h3 a4 h4 a5 h5 a6 h6 a7 h7 hc x g u d = k0_pay2 (k0_pay1 x g) u x d := by
  unfold out0_A_4
  rw [View.read_writes_eq_canon _ _ _ (cover0_A_4 c i a2 h2 a3 h3 a4 h4 a5 h5 a6 h6 a7 h7 hc x g u d)]
  unfold kernelRun0_A
  dsimp only
  sl_unfold_words
  rw [View.canon_cons_unit_zero (S := S1024x2048) zero2]
  simp only [View.readCov_unit_zero (S := S1024x2048) _ zero2, View.readAt_eq_ld, h2.read_unread, h3.read_unread, h4.read_unread, h5.read_unread,
    View.ld_unit_zero (S := S1024x2048) zero2, View.ld_unit_zero (S := S1x2048) zero2, View.ld_unit_zero (S := S1x2048x512) zero3, View.ld_unit_zero (S := S1x512x2048) zero3]

/-- A later point adds its 512 hidden units' products to what the block held. -/
theorem next_out (hc : ¬cond0_0 i) (o : Vec Ideal S1024x2048 .f32) (z : Vec Ideal S1024x2048 .bf16) :
    out0_B_4 (F := Ideal) c i a2 h2 a3 h3 a4 h4 a5 h5 a6 h6 a7 h7 hc x g u d o z = k0_pay2 z u o d := by
  unfold out0_B_4
  rw [View.read_writes_eq_canon _ _ _ (cover0_B_4 c i a2 h2 a3 h3 a4 h4 a5 h5 a6 h6 a7 h7 hc x g u d o z)]
  unfold kernelRun0_B
  dsimp only
  sl_unfold_words
  rw [View.canon_unit_zero zero2]
  simp only [View.readAt_eq_ld, h4.read_unread, h5.read_unread, h6.read_unread, h7.read_unread,
    View.ld_unit_zero (S := S1024x2048) zero2, View.ld_unit_zero (S := S1x2048x512) zero3, View.ld_unit_zero (S := S1x512x2048) zero3]
end

end Cert.Proof.FF

end
-- ==== Proof.FF.Array.lean ====
/-
  The feed-forward call's result array: each row plus its hidden units' products, summed over all 8192 hidden units.
-/
module

public import proofs.«01_k».proof.Proof.FF.Point
public import Idealize.ShloMosaic.Lib.Pipeline.ValueKit

@[expose] public section

set_option maxRecDepth 16384

noncomputable section

namespace Cert.Proof.FF

open Cert.Kernel2Ideal Cert.Kernel2Ideal.Gen
open Idealize.ShloMosaic Idealize.ShloMosaic.TcCoe Idealize.SL.Sem

/-- Hidden unit `f` of row `r`. -/
def unit (x : S8192x2048.Idx → EReal) (g : S2048.Idx → EReal) (u : S4x2048x8192.Idx → EReal) (r f : Fin 8192) : EReal :=
  hidden (normed (fun j => x (ix2 r j)) fun j => g (ix1 j)) fun k => u (ix3 0 k f)

/-- The feed-forward part of the layer: a row plus the products of its hidden units with their rows of weights. -/
def ffn (x : S8192x2048.Idx → EReal) (g : S2048.Idx → EReal) (u : S4x2048x8192.Idx → EReal) (d : S4x8192x2048.Idx → EReal) : S8192x2048.Idx → EReal :=
  fun i => x i + ∑ f : Fin 8192, unit x g u (i 0) f * d (ix3 0 f (i 1))

variable (m : (ℓ : Loc nD τ sig) → Buf (Elt Ideal) ℓ) (c : Dev nD)

/-- The arguments of a launch. -/
abbrev argX : S8192x2048.Idx → EReal := m ((c : Thread nD τ).loc main_arg0)
abbrev argG : S2048.Idx → EReal := m ((c : Thread nD τ).loc main_arg1)
abbrev argU : S4x2048x8192.Idx → EReal := m ((c : Thread nD τ).loc main_arg2)
abbrev argD : S4x8192x2048.Idx → EReal := m ((c : Thread nD τ).loc main_arg3)

/-! ## The blocks -/

theorem at0 : ∀ t : Fin cfg0.N, win0_0.index t = ![t.val / 16, 0] := (by decide +kernel : ∀ t : Fin grid0.N, win0_0.index t = ![t.val / 16, 0])
theorem at1 : ∀ t : Fin cfg0.N, win0_1.index t = ![0, 0] := (by decide +kernel : ∀ t : Fin grid0.N, win0_1.index t = ![0, 0])
theorem at2 : ∀ t : Fin cfg0.N, win0_2.index t = ![0, 0, t.val % 16] := (by decide +kernel : ∀ t : Fin grid0.N, win0_2.index t = ![0, 0, t.val % 16])
theorem at3 : ∀ t : Fin cfg0.N, win0_3.index t = ![0, t.val % 16, 0] := (by decide +kernel : ∀ t : Fin grid0.N, win0_3.index t = ![0, t.val % 16, 0])

/-- The row of the array that a point's row is, and the hidden unit that a point's unit is. -/
def rowOf (t : Fin cfg0.N) (r : Fin 1024) : Fin 8192 := ⟨1024 * (t.val / 16) + r.val, by have := t.isLt; have hN : cfg0.N = 128 := N_0; omega⟩
def unitOf (t : Fin cfg0.N) (f : Fin 512) : Fin 8192 := ⟨512 * (t.val % 16) + f.val, by omega⟩

theorem rows_at (t : Fin cfg0.N) (r : Fin 1024) (k : Fin 2048) : (iblk m c 0 t : Vec Ideal S1024x2048 .f32) (ix2 r k) = argX m c (ix2 (rowOf t r) k) := by
  refine Eq.trans (b := (V m c main_arg0 : S8192x2048.Idx → EReal) (ix2 (rowOf t r) k)) ?_ (congrFun (V_main_arg0 m c) _)
  refine congrArg (V m c main_arg0 : S8192x2048.Idx → EReal) (funext fun a => Fin.ext ?_)
  match a with
  | ⟨0, _⟩ => refine Eq.trans ?_ (show t.val / 16 * 1024 + r.val = 1024 * (t.val / 16) + r.val by omega); blk_simp [at0]
  | ⟨1, _⟩ => blk_simp [at0]

theorem gains_at (t : Fin cfg0.N) (k : Fin 2048) : (iblk m c 1 t : Vec Ideal S1x2048 .f32) (ix2 0 k) = argG m c (ix1 k) := by
  refine Eq.trans (b := (V m c main_v0 : S1x2048.Idx → EReal) (ix2 0 k)) ?_ ?_
  · refine congrArg (V m c main_v0 : S1x2048.Idx → EReal) (funext fun a => Fin.ext ?_)
    match a with
    | ⟨0, _⟩ => blk_simp [at1]
    | ⟨1, _⟩ => blk_simp [at1]
  · show (shapeCast S1x2048 (argG m c : Vec Ideal S2048 .f32) shapeCasts_S2048_S1x2048 : S1x2048.Idx → EReal) (ix2 0 k) = _
    pointwise

theorem up_at (t : Fin cfg0.N) (k : Fin 2048) (f : Fin 512) : (iblk m c 2 t : Vec Ideal S1x2048x512 .f32) (ix3 0 k f) = argU m c (ix3 0 k (unitOf t f)) := by
  refine Eq.trans (b := (V m c main_arg2 : S4x2048x8192.Idx → EReal) (ix3 0 k (unitOf t f))) ?_ (congrFun (V_main_arg2 m c) _)
  refine congrArg (V m c main_arg2 : S4x2048x8192.Idx → EReal) (funext fun a => Fin.ext ?_)
  match a with
  | ⟨0, _⟩ => blk_simp [at2]; rfl
  | ⟨1, _⟩ => blk_simp [at2]
  | ⟨2, _⟩ => refine Eq.trans ?_ (show t.val % 16 * 512 + f.val = 512 * (t.val % 16) + f.val by omega); blk_simp [at2]

theorem down_at (t : Fin cfg0.N) (f : Fin 512) (k : Fin 2048) : (iblk m c 3 t : Vec Ideal S1x512x2048 .f32) (ix3 0 f k) = argD m c (ix3 0 (unitOf t f) k) := by
  refine Eq.trans (b := (V m c main_arg3 : S4x8192x2048.Idx → EReal) (ix3 0 (unitOf t f) k)) ?_ (congrFun (V_main_arg3 m c) _)
  refine congrArg (V m c main_arg3 : S4x8192x2048.Idx → EReal) (funext fun a => Fin.ext ?_)
  match a with
  | ⟨0, _⟩ => blk_simp [at3]; rfl
  | ⟨1, _⟩ => refine Eq.trans ?_ (show t.val % 16 * 512 + f.val = 512 * (t.val % 16) + f.val by omega); blk_simp [at3]
  | ⟨2, _⟩ => blk_simp [at3]

/-! ## Point by point -/

/-- What the 512 hidden units from `512 * s` on add to entry `k` of row `r`. -/
def part (r : Fin 8192) (k : Fin 2048) (s : Fin 16) : EReal :=
  ∑ f : Fin 512, unit (argX m c) (argG m c) (argU m c) r ⟨512 * s.val + f.val, by omega⟩ * argD m c (ix3 0 ⟨512 * s.val + f.val, by omega⟩ k)

/-- What a point adds, once the rows it reads are the rows normed. -/
theorem adds (t : Fin cfg0.N) (z : Vec Ideal S1024x2048 .bf16) (hz : ∀ r k, z (ix2 r k) = normed (fun j => argX m c (ix2 (rowOf t r) j)) (fun j => argG m c (ix1 j)) k)
    (o : Vec Ideal S1024x2048 .f32) (r : Fin 1024) (k : Fin 2048) :
    k0_pay2 (F := Ideal) z (iblk m c 2 t) o (iblk m c 3 t) (ix2 r k) = o (ix2 r k) + part m c (rowOf t r) k ⟨t.val % 16, Nat.mod_lt _ (by decide)⟩ := by
  rw [pay2_at]
  refine congrArg (o (ix2 r k) + ·) (Finset.sum_congr rfl fun f _ => ?_)
  rw [down_at]
  refine congrArg (· * _) (congrArg₂ hidden (funext fun j => hz r j) (funext fun j => up_at m c t j f))

/-- The rows normed, at a point where they are stored. -/
theorem norms (t : Fin cfg0.N) (r : Fin 1024) (k : Fin 2048) :
    k0_pay1 (F := Ideal) (iblk m c 0 t) (iblk m c 1 t) (ix2 r k) = normed (fun j => argX m c (ix2 (rowOf t r) j)) (fun j => argG m c (ix1 j)) k := by
  rw [pay1_at]
  exact congrFun (congrArg₂ normed (funext fun j => rows_at m c t r j) (funext fun j => gains_at m c t j)) k

/-- After a point the scratch holds the rows normed, and the output block the rows and what the points of the row of blocks so far have added. -/
theorem state (b : Fin 8) : ∀ (s : ℕ) (hs : s < 16) (h : 16 * b.val + s < cfg0.N),
    (∀ r k, ((outsAt0 (F := Ideal) m c (16 * b.val + s) h).2 : Vec Ideal S1024x2048 .bf16) (ix2 r k) = normed (fun j => argX m c (ix2 (rowOf ⟨_, h⟩ r) j)) (fun j => argG m c (ix1 j)) k)
    ∧ ∀ r k, ((outsAt0 (F := Ideal) m c (16 * b.val + s) h).1 : Vec Ideal S1024x2048 .f32) (ix2 r k)
        = argX m c (ix2 (rowOf ⟨_, h⟩ r) k) + ∑ q ∈ Finset.univ.filter (fun q : Fin 16 => q.val ≤ s), part m c (rowOf ⟨_, h⟩ r) k q
  | 0, hs, h => by
    have e := outsAt0_A (F := Ideal) m c ⟨16 * b.val + 0, h⟩ (by show (16 * b.val + 0) % 16 = 0; omega)
    rw [first_rows, first_out] at e
    refine ⟨fun r k => (congrFun (congrArg Prod.snd e) _).trans (norms m c ⟨_, h⟩ r k), fun r k => (congrFun (congrArg Prod.fst e) _).trans ?_⟩
    refine (adds m c ⟨_, h⟩ _ (norms m c ⟨_, h⟩) _ r k).trans ?_
    rw [rows_at]
    refine congrArg _ ?_
    rw [show (Finset.univ.filter fun q : Fin 16 => q.val ≤ 0) = {0} from by decide, Finset.sum_singleton]
    exact congrArg _ (Fin.ext (show (16 * b.val + 0) % 16 = 0 by omega))
  | s + 1, hs, h => by
    have e := outsAt0_B (F := Ideal) m c ⟨16 * b.val + (s + 1), h⟩ (by show ¬(16 * b.val + (s + 1)) % 16 = 0; omega)
    obtain ⟨i2, i1⟩ := state b s (by omega) (by omega)
    have hr : ∀ r, rowOf ⟨16 * b.val + (s + 1), h⟩ r = rowOf ⟨16 * b.val + s, by omega⟩ r := fun r => Fin.ext (by
      show 1024 * ((16 * b.val + (s + 1)) / 16) + r.val = 1024 * ((16 * b.val + s) / 16) + r.val; omega)
    rw [next_out] at e
    have hz : ∀ r k, ((outsAt0 (F := Ideal) m c (16 * b.val + s) (by omega)).2 : Vec Ideal S1024x2048 .bf16) (ix2 r k)
        = normed (fun j => argX m c (ix2 (rowOf ⟨16 * b.val + (s + 1), h⟩ r) j)) (fun j => argG m c (ix1 j)) k := fun r k => by rw [hr]; exact i2 r k
    refine ⟨fun r k => (congrFun (congrArg Prod.snd e) _).trans (hz r k), fun r k => (congrFun (congrArg Prod.fst e) _).trans ?_⟩
    refine (adds m c ⟨_, h⟩ _ hz _ r k).trans ?_
    refine (congrArg (· + _) (i1 r k)).trans ?_
    rw [hr, add_assoc]
    refine congrArg _ ?_
    rw [show (Finset.univ.filter fun q : Fin 16 => q.val ≤ s + 1) = insert ⟨s + 1, hs⟩ (Finset.univ.filter fun q : Fin 16 => q.val ≤ s) from by
      ext q; simp only [Finset.mem_filter, Finset.mem_univ, true_and, Finset.mem_insert, Fin.ext_iff]; omega,
      Finset.sum_insert (by simp), add_comm]
    exact congrArg (· + _) (congrArg _ (Fin.ext (show (16 * b.val + (s + 1)) % 16 = s + 1 by omega)))

/-- All sixteen parts make the sum over all hidden units. -/
theorem parts_sum (r : Fin 8192) (k : Fin 2048) : ∑ q, part m c r k q = ∑ f : Fin 8192, unit (argX m c) (argG m c) (argU m c) r f * argD m c (ix3 0 f k) := by
  unfold part
  rw [← Fintype.sum_prod_type', ← (finProdFinEquiv (m := 16) (n := 512)).sum_comp]
  refine Finset.sum_congr rfl fun p _ => ?_
  have hp : (⟨512 * p.1.val + p.2.val, by omega⟩ : Fin 8192) = finProdFinEquiv (m := 16) (n := 512) p := Fin.ext (by
    show 512 * p.1.val + p.2.val = p.2.val + 512 * p.1.val; omega)
  simp only [hp]

/-- The array that the call returns. -/
theorem array_eq : Value.G4 (F := Ideal) m c = (ffn (argX m c) (argG m c) (argU m c) (argD m c) : S8192x2048.Idx → EReal) := by
  funext i
  have h0 : (i 0).val < 8192 := (i 0).isLt
  have h1 : (i 1).val < 2048 := (i 1).isLt
  have hN : cfg0.N = 128 := N_0
  have hp : Value.pt4Of i = 16 * ((i 0).val / 1024) + 15 := by
    show 16 * (1 * ((i 0).val / 1024 - 0) + 1 * ((i 1).val / 2048 - 0)) + 15 = _; omega
  have hl : Value.loc4Of i = ix2 ⟨(i 0).val % 1024, by omega⟩ ⟨(i 1).val, h1⟩ := funext fun a => Fin.ext (by
    match a with
    | ⟨0, _⟩ => rfl
    | ⟨1, _⟩ => show (i 1).val % 2048 = (i 1).val; omega)
  have hb : 16 * ((i 0).val / 1024) + 15 < cfg0.N := by omega
  unfold Value.G4
  rw [dif_pos (hp ▸ hb), Value.fold0_congr m c _ _ _ (by omega) hp, hl, ← Value.outsAt0_sweep m c _ hb]
  refine ((state m c ⟨(i 0).val / 1024, by omega⟩ 15 (by omega) hb).2 _ _).trans ?_
  have hr : rowOf ⟨16 * ((i 0).val / 1024) + 15, hb⟩ ⟨(i 0).val % 1024, by omega⟩ = i 0 := Fin.ext (by
    show 1024 * ((16 * ((i 0).val / 1024) + 15) / 16) + (i 0).val % 1024 = (i 0).val; omega)
  have hi : ix2 (i 0) ⟨(i 1).val, h1⟩ = i := (eq_ix2 i).symm
  rw [show (Finset.univ.filter fun q : Fin 16 => q.val ≤ 15) = Finset.univ from by decide, parts_sum, hr]
  exact congrArg₂ (· + ·) (congrArg _ hi) rfl

end Cert.Proof.FF

end
-- ==== Proof.FF.Ref.lean ====
/-
  The feed-forward reference's result, entry by entry.
-/
module

public import proofs.«01_k».proof.Proof.FF.Array
public import proofs.«01_k».proof.Proof.Gen.Reference2Ideal.Read

@[expose] public section

set_option maxRecDepth 16384

noncomputable section

namespace Cert.Proof.FF

open Cert.Reference2Ideal Cert.Reference2Ideal.Gen Cert.Reference2Ideal.Read
open Idealize.ShloMosaic Idealize.ShloMosaic.TcCoe Idealize.SL.Sem

variable (x : (⟨2, ![8192, 2048]⟩ : Shape).Idx → EReal) (g : (⟨1, ![2048]⟩ : Shape).Idx → EReal) (u : (⟨3, ![4, 2048, 8192]⟩ : Shape).Idx → EReal) (d : (⟨3, ![4, 8192, 2048]⟩ : Shape).Idx → EReal)

/-- The reference's rows normed. -/
theorem ref_normed (r : Fin 8192) (k : Fin 2048) : val_main_v12 (F := Ideal) x g (ix2 r k) = normed (fun j => x (ix2 r j)) (fun j => g (ix1 j)) k := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  have hs : (val_main_cst (F := Ideal)) (Shape.Idx.first h_S_) = (0 : EReal) := Ideal.ofBits_zero_f32
  rw [hs, zero_add]
  refine congrArg₂ (· * ·) (congrArg₂ (· * ·) rfl (congrArg Ideal.rsqrt (congrArg₂ (· + ·) (congrArg₂ Ideal.div (Finset.sum_congr rfl fun j _ => ?_) rfl) rfl))) (congrArg g (funext fun a => Fin.ext ?_))
  · refine (val_main_v0_apply (F := Ideal) x _).trans ?_
    have e : idx_main_v1 (idx_main_v2 (idx_main_v8 (ix2 r k))) j = ix2 r j := funext fun a => Fin.ext (by match a with | ⟨0, _⟩ => rfl | ⟨1, _⟩ => rfl)
    exact congrArg₂ (· * ·) (congrArg x e) (congrArg x e)
  · match a with | ⟨0, _⟩ => rfl

/-- The reference's weights: the first layer's. -/
theorem ref_up (k : Fin 2048) (f : Fin 8192) : val_main_v14 (F := Ideal) u (ix2 k f) = u (ix3 0 k f) := by
  rw [val_main_v14_apply, val_main_v13_apply]
  refine congrArg u (funext fun a => Fin.ext ?_)
  match a with
  | ⟨0, _⟩ => rfl
  | ⟨1, _⟩ => show (k.val * 8192 + f.val) / 8192 % 2048 = k.val; omega
  | ⟨2, _⟩ => show (k.val * 8192 + f.val) % 8192 = f.val; omega

theorem ref_down (f : Fin 8192) (k : Fin 2048) : val_main_v16 (F := Ideal) d (ix2 f k) = d (ix3 0 f k) := by
  rw [val_main_v16_apply, val_main_v15_apply]
  refine congrArg d (funext fun a => Fin.ext ?_)
  match a with
  | ⟨0, _⟩ => rfl
  | ⟨1, _⟩ => show (f.val * 2048 + k.val) / 2048 % 8192 = f.val; omega
  | ⟨2, _⟩ => show (f.val * 2048 + k.val) % 2048 = k.val; omega

/-- The reference's hidden units. -/
theorem ref_unit (r f : Fin 8192) : val_main_v20 (F := Ideal) x g u (ix2 r f) = unit x g u r f := by
  have h : val_main_v19 (F := Ideal) x g u (ix2 r f) = max (∑ k, normed (fun j => x (ix2 r j)) (fun j => g (ix1 j)) k * u (ix3 0 k f)) 0 := by
    rw [val_main_v19_apply, val_main_v17_apply, val_main_v18_apply]
    refine congrArg₂ max (Finset.sum_congr rfl fun k _ => ?_) Ideal.ofBits_zero_f32
    have el : lidx_main_v17 (ix2 r f) k = ix2 r k := funext fun a => Fin.ext (by match a with | ⟨0, _⟩ => rfl | ⟨1, _⟩ => rfl)
    have er : ridx_main_v17 (ix2 r f) k = ix2 k f := funext fun a => Fin.ext (by match a with | ⟨0, _⟩ => rfl | ⟨1, _⟩ => rfl)
    rw [el, er, ref_normed, ref_up]
  rw [val_main_v20_apply, h]
  rfl

/-- The reference's result. -/
theorem ref_eq : val_main_v22 (F := Ideal) x g u d = ffn x g u d := by
  funext i
  rw [val_main_v22_apply, val_main_v21_apply]
  refine congrArg (x i + ·) (Finset.sum_congr rfl fun f _ => ?_)
  have el : lidx_main_v21 i f = ix2 (i 0) f := funext fun a => Fin.ext (by match a with | ⟨0, _⟩ => rfl | ⟨1, _⟩ => rfl)
  have er : ridx_main_v21 i f = ix2 f (i 1) := funext fun a => Fin.ext (by match a with | ⟨0, _⟩ => rfl | ⟨1, _⟩ => rfl)
  rw [el, er]
  exact congrArg₂ (· * ·) (ref_unit x g u (i 0) f) (ref_down d f (i 1))

end Cert.Proof.FF

end
-- ==== Proof.FN.Norm.lean ====
/-
  The last norm: the kernel's result array and the reference's, both each row scaled by the root of the mean of its squares, then by the gains.
-/
module

public import proofs.«01_k».proof.Proof.FF.Point
public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Proof.FN

open Cert.Proof.FF (normed zero2)
open Idealize.ShloMosaic Idealize.ShloMosaic.TcCoe Idealize.SL.Sem

/-- Every row normed. -/
def norms (x : (⟨2, ![8192, 2048]⟩ : Shape).Idx → EReal) (g : (⟨1, ![2048]⟩ : Shape).Idx → EReal) : (⟨2, ![8192, 2048]⟩ : Shape).Idx → EReal :=
  fun i => normed (fun j => x (ix2 (i 0) j)) (fun j => g (ix1 j)) (i 1)

section
open Cert.Kernel3Ideal Cert.Kernel3Ideal.Gen

variable (m : (ℓ : Loc nD τ sig) → Buf (Elt Ideal) ℓ) (c : Dev nD)

/-- The arguments of a launch. -/
abbrev argX : S8192x2048.Idx → EReal := m ((c : Thread nD τ).loc main_arg0)
abbrev argG : S2048.Idx → EReal := m ((c : Thread nD τ).loc main_arg1)

/-- One point's block. -/
theorem pay_at (x : Vec Ideal S512x2048 .f32) (g : Vec Ideal S1x2048 .f32) (r : Fin 512) (k : Fin 2048) :
    k0_pay1 (F := Ideal) x g (ix2 r k) = normed (fun j => x (ix2 r j)) (fun j => g (ix2 0 j)) k := by
  unfold normed
  pointwise [k0_pay1]

theorem out_eq (x : Vec Ideal S512x2048 .f32) (g : Vec Ideal S1x2048 .f32) : out0_2 (F := Ideal) x g = k0_pay1 x g := by
  unfold out0_2
  rw [View.canon_unit_zero zero2, View.ld_unit_zero (S := S512x2048) zero2, View.ld_unit_zero (S := S1x2048) zero2]

theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![t.val, 0] := (by decide +kernel : ∀ t : Fin grid0.N, win0_2.index t = ![t.val, 0])
theorem flushes : ∀ t : Fin cfg0.N, (cfg0.win 2).flush t = true := (by decide +kernel : ∀ t : Fin grid0.N, win0_2.flush t = true)

/-- The row of the array that a point's row is. -/
def rowOf (t : Fin cfg0.N) (r : Fin 512) : Fin 8192 := ⟨512 * t.val + r.val, by have := t.isLt; have hN : cfg0.N = 16 := N_0; omega⟩

theorem rows_at (t : Fin cfg0.N) (r : Fin 512) (k : Fin 2048) : (iblk m c 0 t : Vec Ideal S512x2048 .f32) (ix2 r k) = argX m c (ix2 (rowOf t r) k) := by
  refine Eq.trans (b := (V m c main_arg0 : S8192x2048.Idx → EReal) (ix2 (rowOf t r) k)) ?_ (congrFun (V_main_arg0 m c) _)
  refine congrArg (V m c main_arg0 : S8192x2048.Idx → EReal) (funext fun a => Fin.ext ?_)
  match a with
  | ⟨0, _⟩ => refine Eq.trans ?_ (show t.val * 512 + r.val = 512 * t.val + r.val by omega); blk_simp [at0]
  | ⟨1, _⟩ => blk_simp [at0]

theorem gains_at (t : Fin cfg0.N) (k : Fin 2048) : (iblk m c 1 t : Vec Ideal S1x2048 .f32) (ix2 0 k) = argG m c (ix1 k) := by
  refine Eq.trans (b := (V m c main_v0 : S1x2048.Idx → EReal) (ix2 0 k)) ?_ ?_
  · refine congrArg (V m c main_v0 : S1x2048.Idx → EReal) (funext fun a => Fin.ext ?_)
    match a with
    | ⟨0, _⟩ => blk_simp [at1]
    | ⟨1, _⟩ => blk_simp [at1]
  · show (shapeCast S1x2048 (argG m c : Vec Ideal S2048 .f32) shapeCasts_S2048_S1x2048 : S1x2048.Idx → EReal) (ix2 0 k) = _
    pointwise

/-- What a point writes back is its block of the rows normed. -/
theorem flushed_eq (t : Fin cfg0.N) : (dats m 0 c).flushed 2 t = ((cfg0.win 2).blk t).view.read (Elt Ideal) (norms (argX m c) (argG m c) : S8192x2048.Idx → EReal) := by
  rw [Value.flushed2, out_eq]
  funext y
  have hy0 : (y 0).val < 512 := (y 0).isLt
  have hy1 : (y 1).val < 2048 := (y 1).isLt
  have hx : (cfg0.win 2).xinj (grid0.coords t) y = ix2 (⟨(y 0).val, hy0⟩ : Fin 512) (⟨(y 1).val, hy1⟩ : Fin 2048) := funext fun a => Fin.ext (by
    match a with | ⟨0, _⟩ => rfl | ⟨1, _⟩ => rfl)
  have he : ((cfg0.win 2).blk t).view.emb y = ix2 (rowOf t ⟨(y 0).val, hy0⟩) (⟨(y 1).val, hy1⟩ : Fin 2048) := funext fun a => Fin.ext (by
    match a with
    | ⟨0, _⟩ => show win0_2.index t (0 : Fin 2) * 512 + 1 * (y 0).val = 512 * t.val + (y 0).val; rw [at2]; show t.val * 512 + 1 * (y 0).val = _; omega
    | ⟨1, _⟩ => show win0_2.index t (1 : Fin 2) * 2048 + 1 * (y 1).val = (y 1).val; rw [at2]; show 0 * 2048 + 1 * (y 1).val = _; omega)
  show k0_pay1 (F := Ideal) (iblk m c 0 t) (iblk m c 1 t) ((cfg0.win 2).xinj (grid0.coords t) y) = norms (argX m c) (argG m c) (((cfg0.win 2).blk t).view.emb y)
  rw [hx, he, pay_at]
  exact congrFun (congrArg₂ normed (funext fun j => rows_at m c t _ j) (funext fun j => gains_at m c t j)) _

/-- The array that the call returns. -/
theorem array_eq : (dats m 0 c).arrAt 2 cfg0.N = (norms (argX m c) (argG m c) : S8192x2048.Idx → EReal) :=
  (dats m 0 c).arrAt_eq_of_cover 2 _ (fun t _ => flushed_eq m c t) (fun i => by
    have h0 : (i 0).val < 8192 := (i 0).isLt
    have h1 : (i 1).val < 2048 := (i 1).isLt
    have hN : cfg0.N = 16 := N_0
    have ht : (i 0).val / 512 < cfg0.N := by omega
    refine ⟨⟨_, ht⟩, flushes _, ?_⟩
    show i ∈ ((View.whole main_v1).slice (win0_2.rect ⟨_, ht⟩)).set
    rw [View.set_slice_whole, Rect.mem_set_unit]
    intro a
    have e := at2 ⟨_, ht⟩
    match a with
    | ⟨0, _⟩ =>
      have e0 : win0_2.index ⟨_, ht⟩ (0 : Fin 2) = (i 0).val / 512 := congrFun e 0
      show win0_2.index _ (0 : Fin 2) * 512 ≤ (i 0).val ∧ (i 0).val < win0_2.index _ (0 : Fin 2) * 512 + 512; rw [e0]; omega
    | ⟨1, _⟩ =>
      have e1 : win0_2.index ⟨_, ht⟩ (1 : Fin 2) = 0 := congrFun e 1
      show win0_2.index _ (1 : Fin 2) * 2048 ≤ (i 1).val ∧ (i 1).val < win0_2.index _ (1 : Fin 2) * 2048 + 2048; rw [e1]; omega)
end

section
open Cert.Reference3Ideal Cert.Reference3Ideal.Gen Cert.Reference3Ideal.Read

/-- The reference's result. -/
theorem ref_eq (x : (⟨2, ![8192, 2048]⟩ : Shape).Idx → EReal) (g : (⟨1, ![2048]⟩ : Shape).Idx → EReal) : val_main_v12 (F := Ideal) x g = norms x g := by
  funext i
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  have hs : (val_main_cst (F := Ideal)) (Shape.Idx.first h_S_) = (0 : EReal) := Ideal.ofBits_zero_f32
  rw [hs, zero_add]
  refine congrArg₂ (· * ·) (congrArg₂ (· * ·) (congrArg x (eq_ix2 i)) (congrArg Ideal.rsqrt (congrArg₂ (· + ·) (congrArg₂ Ideal.div (Finset.sum_congr rfl fun j _ => ?_) rfl) rfl))) (congrArg g (funext fun a => Fin.ext ?_))
  · refine (val_main_v0_apply (F := Ideal) x _).trans ?_
    have e : idx_main_v1 (idx_main_v2 (idx_main_v8 i)) j = ix2 (i 0) j := funext fun a => Fin.ext (by match a with | ⟨0, _⟩ => rfl | ⟨1, _⟩ => rfl)
    exact congrArg₂ (· * ·) (congrArg x e) (congrArg x e)
  · match a with | ⟨0, _⟩ => rfl
end

end Cert.Proof.FN

end
-- ==== Proof.MR.Res.lean ====
/-
  The output projection with its residual: the kernel's result array and the reference's, both the residual plus the product with the weights.
-/
module

public import proofs.«01_k».proof.Proof.FF.Point
public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Proof.MR

open Cert.Proof.FF (zero2 zero3)
open Idealize.ShloMosaic Idealize.ShloMosaic.TcCoe Idealize.SL.Sem

/-- The residual plus the product with the weights. -/
def proj (a : (⟨2, ![8192, 2048]⟩ : Shape).Idx → EReal) (w : (⟨3, ![1, 2048, 2048]⟩ : Shape).Idx → EReal) (x : (⟨2, ![8192, 2048]⟩ : Shape).Idx → EReal) : (⟨2, ![8192, 2048]⟩ : Shape).Idx → EReal :=
  fun i => x i + ∑ k : Fin 2048, a (ix2 (i 0) k) * w (ix3 0 k (i 1))

section
open Cert.Kernel4Ideal Cert.Kernel4Ideal.Gen

variable (m : (ℓ : Loc nD τ sig) → Buf (Elt Ideal) ℓ) (c : Dev nD)

/-- The arguments of a launch. -/
abbrev argA : S8192x2048.Idx → EReal := m ((c : Thread nD τ).loc main_arg0)
abbrev argW : S1x2048x2048.Idx → EReal := m ((c : Thread nD τ).loc main_arg1)
abbrev argX : S8192x2048.Idx → EReal := m ((c : Thread nD τ).loc main_arg2)

/-- One point's block. -/
theorem pay_at (x : Vec Ideal S1024x1024 .f32) (a : Vec Ideal S1024x2048 .bf16) (w : Vec Ideal S1x2048x1024 .f32) (r l : Fin 1024) :
    k0_pay1 (F := Ideal) x a w (ix2 r l) = x (ix2 r l) + ∑ k : Fin 2048, a (ix2 r k) * w (ix3 0 k l) := by
  pointwise [k0_pay1]

theorem out_eq (a : Vec Ideal S1024x2048 .bf16) (w : Vec Ideal S1x2048x1024 .f32) (x : Vec Ideal S1024x1024 .f32) : out0_3 (F := Ideal) a w x = k0_pay1 x a w := by
  unfold out0_3
  rw [View.canon_unit_zero zero2, View.ld_unit_zero (S := S1024x1024) zero2, View.ld_unit_zero (S := S1024x2048) zero2, View.ld_unit_zero (S := S1x2048x1024) zero3]

theorem at0 : ∀ t : Fin cfg0.N, win0_0.index t = ![t.val / 2, 0] := (by decide +kernel : ∀ t : Fin grid0.N, win0_0.index t = ![t.val / 2, 0])
theorem at1 : ∀ t : Fin cfg0.N, win0_1.index t = ![0, 0, t.val % 2] := (by decide +kernel : ∀ t : Fin grid0.N, win0_1.index t = ![0, 0, t.val % 2])
theorem at2 : ∀ t : Fin cfg0.N, win0_2.index t = ![t.val / 2, t.val % 2] := (by decide +kernel : ∀ t : Fin grid0.N, win0_2.index t = ![t.val / 2, t.val % 2])
theorem at3 : ∀ t : Fin cfg0.N, win0_3.index t = ![t.val / 2, t.val % 2] := (by decide +kernel : ∀ t : Fin grid0.N, win0_3.index t = ![t.val / 2, t.val % 2])
theorem flushes : ∀ t : Fin cfg0.N, (cfg0.win 3).flush t = true := (by decide +kernel : ∀ t : Fin grid0.N, win0_3.flush t = true)

/-- The row and the column of the array that a point's row and column are. -/
def rowOf (t : Fin cfg0.N) (r : Fin 1024) : Fin 8192 := ⟨1024 * (t.val / 2) + r.val, by have := t.isLt; have hN : cfg0.N = 16 := N_0; omega⟩
def colOf (t : Fin cfg0.N) (l : Fin 1024) : Fin 2048 := ⟨1024 * (t.val % 2) + l.val, by omega⟩

theorem act_at (t : Fin cfg0.N) (r : Fin 1024) (k : Fin 2048) : (iblk m c 0 t : Vec Ideal S1024x2048 .bf16) (ix2 r k) = argA m c (ix2 (rowOf t r) k) := by
  refine Eq.trans (b := (V m c main_arg0 : S8192x2048.Idx → EReal) (ix2 (rowOf t r) k)) ?_ (congrFun (V_main_arg0 m c) _)
  refine congrArg (V m c main_arg0 : S8192x2048.Idx → EReal) (funext fun a => Fin.ext ?_)
  match a with
  | ⟨0, _⟩ => refine Eq.trans ?_ (show t.val / 2 * 1024 + r.val = 1024 * (t.val / 2) + r.val by omega); blk_simp [at0]
  | ⟨1, _⟩ => blk_simp [at0]

theorem weights_at (t : Fin cfg0.N) (k : Fin 2048) (l : Fin 1024) : (iblk m c 1 t : Vec Ideal S1x2048x1024 .f32) (ix3 0 k l) = argW m c (ix3 0 k (colOf t l)) := by
  refine Eq.trans (b := (V m c main_arg1 : S1x2048x2048.Idx → EReal) (ix3 0 k (colOf t l))) ?_ (congrFun (V_main_arg1 m c) _)
  refine congrArg (V m c main_arg1 : S1x2048x2048.Idx → EReal) (funext fun a => Fin.ext ?_)
  match a with
  | ⟨0, _⟩ => blk_simp [at1]
  | ⟨1, _⟩ => blk_simp [at1]
  | ⟨2, _⟩ => refine Eq.trans ?_ (show t.val % 2 * 1024 + l.val = 1024 * (t.val % 2) + l.val by omega); blk_simp [at1]

theorem res_at (t : Fin cfg0.N) (r l : Fin 1024) : (iblk m c 2 t : Vec Ideal S1024x1024 .f32) (ix2 r l) = argX m c (ix2 (rowOf t r) (colOf t l)) := by
  refine Eq.trans (b := (V m c main_arg2 : S8192x2048.Idx → EReal) (ix2 (rowOf t r) (colOf t l))) ?_ (congrFun (V_main_arg2 m c) _)
  refine congrArg (V m c main_arg2 : S8192x2048.Idx → EReal) (funext fun a => Fin.ext ?_)
  match a with
  | ⟨0, _⟩ => refine Eq.trans ?_ (show t.val / 2 * 1024 + r.val = 1024 * (t.val / 2) + r.val by omega); blk_simp [at2]
  | ⟨1, _⟩ => refine Eq.trans ?_ (show t.val % 2 * 1024 + l.val = 1024 * (t.val % 2) + l.val by omega); blk_simp [at2]

/-- What a point writes back is its block of the result. -/
theorem flushed_eq (t : Fin cfg0.N) : (dats m 0 c).flushed 3 t = ((cfg0.win 3).blk t).view.read (Elt Ideal) (proj (argA m c) (argW m c) (argX m c) : S8192x2048.Idx → EReal) := by
  rw [Value.flushed3, out_eq]
  funext y
  have hy0 : (y 0).val < 1024 := (y 0).isLt
  have hy1 : (y 1).val < 1024 := (y 1).isLt
  have hx : (cfg0.win 3).xinj (grid0.coords t) y = ix2 (⟨(y 0).val, hy0⟩ : Fin 1024) (⟨(y 1).val, hy1⟩ : Fin 1024) := funext fun a => Fin.ext (by
    match a with | ⟨0, _⟩ => rfl | ⟨1, _⟩ => rfl)
  have he : ((cfg0.win 3).blk t).view.emb y = ix2 (rowOf t ⟨(y 0).val, hy0⟩) (colOf t ⟨(y 1).val, hy1⟩) := funext fun a => Fin.ext (by
    match a with
    | ⟨0, _⟩ => show win0_3.index t (0 : Fin 2) * 1024 + 1 * (y 0).val = 1024 * (t.val / 2) + (y 0).val; rw [at3]; show t.val / 2 * 1024 + 1 * (y 0).val = _; omega
    | ⟨1, _⟩ => show win0_3.index t (1 : Fin 2) * 1024 + 1 * (y 1).val = 1024 * (t.val % 2) + (y 1).val; rw [at3]; show t.val % 2 * 1024 + 1 * (y 1).val = _; omega)
  show k0_pay1 (F := Ideal) (iblk m c 2 t) (iblk m c 0 t) (iblk m c 1 t) ((cfg0.win 3).xinj (grid0.coords t) y) = proj (argA m c) (argW m c) (argX m c) (((cfg0.win 3).blk t).view.emb y)
  rw [hx, he, pay_at]
  exact congrArg₂ (· + ·) (res_at m c t _ _) (Finset.sum_congr rfl fun k _ => congrArg₂ (· * ·) (act_at m c t _ k) (weights_at m c t k _))

/-- The array that the call returns. -/
theorem array_eq : (dats m 0 c).arrAt 3 cfg0.N = (proj (argA m c) (argW m c) (argX m c) : S8192x2048.Idx → EReal) :=
  (dats m 0 c).arrAt_eq_of_cover 3 _ (fun t _ => flushed_eq m c t) (fun i => by
    have h0 : (i 0).val < 8192 := (i 0).isLt
    have h1 : (i 1).val < 2048 := (i 1).isLt
    have hN : cfg0.N = 16 := N_0
    have ht : 2 * ((i 0).val / 1024) + (i 1).val / 1024 < cfg0.N := by omega
    refine ⟨⟨_, ht⟩, flushes _, ?_⟩
    show i ∈ ((View.whole main_v0).slice (win0_3.rect ⟨_, ht⟩)).set
    rw [View.set_slice_whole, Rect.mem_set_unit]
    intro a
    have e := at3 ⟨_, ht⟩
    match a with
    | ⟨0, _⟩ =>
      have e0 : win0_3.index ⟨_, ht⟩ (0 : Fin 2) = (2 * ((i 0).val / 1024) + (i 1).val / 1024) / 2 := congrFun e 0
      show win0_3.index _ (0 : Fin 2) * 1024 ≤ (i 0).val ∧ (i 0).val < win0_3.index _ (0 : Fin 2) * 1024 + 1024; rw [e0]; omega
    | ⟨1, _⟩ =>
      have e1 : win0_3.index ⟨_, ht⟩ (1 : Fin 2) = (2 * ((i 0).val / 1024) + (i 1).val / 1024) % 2 := congrFun e 1
      show win0_3.index _ (1 : Fin 2) * 1024 ≤ (i 1).val ∧ (i 1).val < win0_3.index _ (1 : Fin 2) * 1024 + 1024; rw [e1]; omega)
end

section
open Cert.Reference4Ideal Cert.Reference4Ideal.Gen Cert.Reference4Ideal.Read

/-- The reference's result. -/
theorem ref_eq (a : (⟨2, ![8192, 2048]⟩ : Shape).Idx → EReal) (w : (⟨3, ![1, 2048, 2048]⟩ : Shape).Idx → EReal) (x : (⟨2, ![8192, 2048]⟩ : Shape).Idx → EReal) :
    val_main_v3 (F := Ideal) a w x = proj a w x := by
  funext i
  rw [val_main_v3_apply, val_main_v2_apply]
  refine congrArg (x i + ·) (Finset.sum_congr rfl fun k _ => ?_)
  have h1 : (i 1).val < 2048 := (i 1).isLt
  have el : lidx_main_v2 i k = ix2 (i 0) k := funext fun b => Fin.ext (by match b with | ⟨0, _⟩ => rfl | ⟨1, _⟩ => rfl)
  rw [val_main_v1_apply]
  refine congrArg₂ (· * ·) (congrArg a el) (congrArg w (funext fun b => Fin.ext ?_))
  match b with
  | ⟨0, _⟩ => rfl
  | ⟨1, _⟩ => show (k.val * 2048 + (i 1).val) / 2048 % 2048 = k.val; omega
  | ⟨2, _⟩ => show (k.val * 2048 + (i 1).val) % 2048 = (i 1).val; omega
end

end Cert.Proof.MR

end
-- ==== Proof.GP.Point.lean ====
/-
  The gating mixer's input projection, one grid point: what its stores hold, entry by entry and point by point, over the
  extended reals.
-/
module

public import proofs.«01_k».proof.Proof.FF.Point
public import proofs.«01_k».proof.Proof.Gen.Kernel5Ideal.Value
public import Idealize.ShloMosaic.Lib.Pipeline.Value
public import Idealize.ShloMosaic.Lib.Tactic

@[expose] public section

set_option maxRecDepth 16384

noncomputable section

namespace Cert.Proof.GP

open Cert.Proof.FF (normed zero2 zero3)
open Cert.Kernel5Ideal Cert.Kernel5Ideal.Gen
open Idealize.ShloMosaic Idealize.ShloMosaic.TcCoe Idealize.SL.Sem

/-- The gaussian unit, by its hyperbolic tangent. -/
def gelu (y : EReal) : EReal :=
  y * (Ideal.ofBits .f32 0x3F000000#32 * (Ideal.ofBits .f32 0x3F800000#32 + Ideal.tanh (Ideal.ofBits .f32 0x3F4C422A#32 * (y + Ideal.ofBits .f32 0x3D372713#32 * (y * (y * y))))))

/-- The first point of a row of points stores the rows normed. -/
theorem pay1_at (x : Vec Ideal S1024x2048 .f32) (g : Vec Ideal S1x2048 .f32) (r : Fin 1024) (k : Fin 2048) :
    k0_pay1 (F := Ideal) x g (ix2 r k) = normed (fun j => x (ix2 r j)) (fun j => g (ix2 0 j)) k := by
  unfold normed
  pointwise [k0_pay1]

/-- Every point stores the gaussian unit of its rows' products with its columns of weights. -/
theorem pay2_at (z : Vec Ideal S1024x2048 .bf16) (u : Vec Ideal S1x2048x512 .f32) (r : Fin 1024) (f : Fin 512) :
    k0_pay2 (F := Ideal) z u (ix2 r f) = gelu (∑ k : Fin 2048, z (ix2 r k) * u (ix3 0 k f)) := by
  unfold gelu
  pointwise [k0_pay2]

section
variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S1x2048x512 .f32) (h4 : a4.IsWhole) (a5 : Memref sig .tc .vmem S1024x512 .f32) (h5 : a5.IsWhole)
  (a6 : Memref sig .tc .vmem S1024x2048 .bf16) (h6 : a6.IsWhole)
  (x : Vec Ideal S1024x2048 .f32) (g : Vec Ideal S1x2048 .f32) (u : Vec Ideal S1x2048x512 .f32)

/-- The first point of a row of blocks stores the rows normed. -/
theorem first_rows (hc : cond0_0 i) : sout0_A_0 (F := Ideal) c i a2 h2 a3 h3 a4 h4 a5 h5 a6 h6 hc x g u = k0_pay1 x g := by
  unfold sout0_A_0
  rw [View.read_writes_eq_canon _ _ _ (scover0_A_0 c i a2 h2 a3 h3 a4 h4 a5 h5 a6 h6 hc x g u)]
  unfold kernelRun0_A
  dsimp only
  sl_unfold_words
  rw [View.canon_unit_zero zero2]
  simp only [View.readAt_eq_ld, h2.read_unread, h3.read_unread, View.ld_unit_zero (S := S1024x2048) zero2, View.ld_unit_zero (S := S1x2048) zero2]

/-- The first point's block. -/
theorem first_out (hc : cond0_0 i) : out0_A_3 (F := Ideal) c i a2 h2 a3 h3 a4 h4 a5 h5 a6 h6 hc x g u = k0_pay2 (k0_pay1 x g) u := by
  unfold out0_A_3
  rw [View.read_writes_eq_canon _ _ _ (cover0_A_3 c i a2 h2 a3 h3 a4 h4 a5 h5 a6 h6 hc x g u)]
  unfold kernelRun0_A
  dsimp only
  sl_unfold_words
  rw [View.canon_unit_zero (S := S1024x512) zero2]
  simp only [View.readCov_unit_zero (S := S1024x2048) _ zero2, View.readAt_eq_ld, h2.read_unread, h3.read_unread, h4.read_unread,
    View.ld_unit_zero (S := S1024x2048) zero2, View.ld_unit_zero (S := S1x2048) zero2, View.ld_unit_zero (S := S1x2048x512) zero3]

/-- A later point's block, from the rows that the first has left. -/
theorem next_out (hc : ¬cond0_0 i) (z : Vec Ideal S1024x2048 .bf16) :
    out0_B_3 (F := Ideal) c i a2 h2 a3 h3 a4 h4 a5 h5 a6 h6 hc x g u z = k0_pay2 z u := by
  unfold out0_B_3
  rw [View.read_writes_eq_canon _ _ _ (cover0_B_3 c i a2 h2 a3 h3 a4 h4 a5 h5 a6 h6 hc x g u z)]
  unfold kernelRun0_B
  dsimp only
  sl_unfold_words
  rw [View.canon_unit_zero (S := S1024x512) zero2]
  simp only [View.readAt_eq_ld, h4.read_unread, h6.read_unread,
    View.ld_unit_zero (S := S1024x2048) zero2, View.ld_unit_zero (S := S1x2048x512) zero3]
end

end Cert.Proof.GP

end
-- ==== Proof.GP.Array.lean ====
/-
  The gating mixer's input projection: the kernel's result array and the reference's, both the gaussian unit of the normed
  rows' products with the weights.
-/
module

public import proofs.«01_k».proof.Proof.GP.Point
public import proofs.«01_k».proof.Proof.Gen.Reference5Ideal.Read
public import Idealize.ShloMosaic.Lib.Pipeline.ValueKit

@[expose] public section

set_option maxRecDepth 16384

noncomputable section

namespace Cert.Proof.GP

open Cert.Proof.FF (normed)
open Idealize.ShloMosaic Idealize.ShloMosaic.TcCoe Idealize.SL.Sem

/-- The gaussian unit of the normed rows' products with the weights. -/
def proj (x : (⟨2, ![8192, 2048]⟩ : Shape).Idx → EReal) (g : (⟨1, ![2048]⟩ : Shape).Idx → EReal) (u : (⟨3, ![1, 2048, 4096]⟩ : Shape).Idx → EReal) : (⟨2, ![8192, 4096]⟩ : Shape).Idx → EReal :=
  fun i => gelu (∑ k : Fin 2048, normed (fun j => x (ix2 (i 0) j)) (fun j => g (ix1 j)) k * u (ix3 0 k (i 1)))

section
open Cert.Kernel5Ideal Cert.Kernel5Ideal.Gen

variable (m : (ℓ : Loc nD τ sig) → Buf (Elt Ideal) ℓ) (c : Dev nD)

/-- The arguments of a launch. -/
abbrev argX : S8192x2048.Idx → EReal := m ((c : Thread nD τ).loc main_arg0)
abbrev argG : S2048.Idx → EReal := m ((c : Thread nD τ).loc main_arg1)
abbrev argU : S1x2048x4096.Idx → EReal := m ((c : Thread nD τ).loc main_arg2)

theorem at0 : ∀ t : Fin cfg0.N, win0_0.index t = ![t.val / 8, 0] := (by decide +kernel : ∀ t : Fin grid0.N, win0_0.index t = ![t.val / 8, 0])
theorem at1 : ∀ t : Fin cfg0.N, win0_1.index t = ![0, 0] := (by decide +kernel : ∀ t : Fin grid0.N, win0_1.index t = ![0, 0])
theorem at2 : ∀ t : Fin cfg0.N, win0_2.index t = ![0, 0, t.val % 8] := (by decide +kernel : ∀ t : Fin grid0.N, win0_2.index t = ![0, 0, t.val % 8])

/-- The row of the array that a point's row is, and the column that a point's column is. -/
def rowOf (t : Fin cfg0.N) (r : Fin 1024) : Fin 8192 := ⟨1024 * (t.val / 8) + r.val, by have := t.isLt; have hN : cfg0.N = 64 := N_0; omega⟩
def colOf (t : Fin cfg0.N) (f : Fin 512) : Fin 4096 := ⟨512 * (t.val % 8) + f.val, by omega⟩

theorem rows_at (t : Fin cfg0.N) (r : Fin 1024) (k : Fin 2048) : (iblk m c 0 t : Vec Ideal S1024x2048 .f32) (ix2 r k) = argX m c (ix2 (rowOf t r) k) := by
  refine Eq.trans (b := (V m c main_arg0 : S8192x2048.Idx → EReal) (ix2 (rowOf t r) k)) ?_ (congrFun (V_main_arg0 m c) _)
  refine congrArg (V m c main_arg0 : S8192x2048.Idx → EReal) (funext fun a => Fin.ext ?_)
  match a with
  | ⟨0, _⟩ => refine Eq.trans ?_ (show t.val / 8 * 1024 + r.val = 1024 * (t.val / 8) + r.val by omega); blk_simp [at0]
  | ⟨1, _⟩ => blk_simp [at0]

theorem gains_at (t : Fin cfg0.N) (k : Fin 2048) : (iblk m c 1 t : Vec Ideal S1x2048 .f32) (ix2 0 k) = argG m c (ix1 k) := by
  refine Eq.trans (b := (V m c main_v0 : S1x2048.Idx → EReal) (ix2 0 k)) ?_ ?_
  · refine congrArg (V m c main_v0 : S1x2048.Idx → EReal) (funext fun a => Fin.ext ?_)
    match a with
    | ⟨0, _⟩ => blk_simp [at1]
    | ⟨1, _⟩ => blk_simp [at1]
  · show (shapeCast S1x2048 (argG m c : Vec Ideal S2048 .f32) shapeCasts_S2048_S1x2048 : S1x2048.Idx → EReal) (ix2 0 k) = _
    pointwise

theorem weights_at (t : Fin cfg0.N) (k : Fin 2048) (f : Fin 512) : (iblk m c 2 t : Vec Ideal S1x2048x512 .f32) (ix3 0 k f) = argU m c (ix3 0 k (colOf t f)) := by
  refine Eq.trans (b := (V m c main_arg2 : S1x2048x4096.Idx → EReal) (ix3 0 k (colOf t f))) ?_ (congrFun (V_main_arg2 m c) _)
  refine congrArg (V m c main_arg2 : S1x2048x4096.Idx → EReal) (funext fun a => Fin.ext ?_)
  match a with
  | ⟨0, _⟩ => blk_simp [at2]
  | ⟨1, _⟩ => blk_simp [at2]
  | ⟨2, _⟩ => refine Eq.trans ?_ (show t.val % 8 * 512 + f.val = 512 * (t.val % 8) + f.val by omega); blk_simp [at2]

/-! ## Point by point -/

/-- What a point stores, once the rows it reads are the rows normed. -/
theorem stores (t : Fin cfg0.N) (z : Vec Ideal S1024x2048 .bf16) (hz : ∀ r k, z (ix2 r k) = normed (fun j => argX m c (ix2 (rowOf t r) j)) (fun j => argG m c (ix1 j)) k)
    (r : Fin 1024) (f : Fin 512) :
    k0_pay2 (F := Ideal) z (iblk m c 2 t) (ix2 r f) = proj (argX m c) (argG m c) (argU m c) (ix2 (rowOf t r) (colOf t f)) := by
  rw [pay2_at]
  exact congrArg gelu (Finset.sum_congr rfl fun k _ => congrArg₂ (· * ·) (hz r k) (weights_at m c t k f))

/-- The rows normed, at a point where they are stored. -/
theorem norms (t : Fin cfg0.N) (r : Fin 1024) (k : Fin 2048) :
    k0_pay1 (F := Ideal) (iblk m c 0 t) (iblk m c 1 t) (ix2 r k) = normed (fun j => argX m c (ix2 (rowOf t r) j)) (fun j => argG m c (ix1 j)) k := by
  rw [pay1_at]
  exact congrFun (congrArg₂ normed (funext fun j => rows_at m c t r j) (funext fun j => gains_at m c t j)) k

/-- After a point the scratch holds the rows normed, and the output block its part of the result. -/
theorem state (b : Fin 8) : ∀ (s : ℕ) (hs : s < 8) (h : 8 * b.val + s < cfg0.N),
    (∀ r k, ((outsAt0 (F := Ideal) m c (8 * b.val + s) h).2 : Vec Ideal S1024x2048 .bf16) (ix2 r k) = normed (fun j => argX m c (ix2 (rowOf ⟨_, h⟩ r) j)) (fun j => argG m c (ix1 j)) k)
    ∧ ∀ r f, ((outsAt0 (F := Ideal) m c (8 * b.val + s) h).1 : Vec Ideal S1024x512 .f32) (ix2 r f)
        = proj (argX m c) (argG m c) (argU m c) (ix2 (rowOf ⟨_, h⟩ r) (colOf ⟨_, h⟩ f))
  | 0, hs, h => by
    have e := outsAt0_A (F := Ideal) m c ⟨8 * b.val + 0, h⟩ (by show (8 * b.val + 0) % 8 = 0; omega)
    rw [first_rows, first_out] at e
    exact ⟨fun r k => (congrFun (congrArg Prod.snd e) _).trans (norms m c ⟨_, h⟩ r k),
      fun r f => (congrFun (congrArg Prod.fst e) _).trans (stores m c ⟨_, h⟩ _ (norms m c ⟨_, h⟩) r f)⟩
  | s + 1, hs, h => by
    have e := outsAt0_B (F := Ideal) m c ⟨8 * b.val + (s + 1), h⟩ (by show ¬(8 * b.val + (s + 1)) % 8 = 0; omega)
    obtain ⟨i2, -⟩ := state b s (by omega) (by omega)
    have hr : ∀ r, rowOf ⟨8 * b.val + (s + 1), h⟩ r = rowOf ⟨8 * b.val + s, by omega⟩ r := fun r => Fin.ext (by
      show 1024 * ((8 * b.val + (s + 1)) / 8) + r.val = 1024 * ((8 * b.val + s) / 8) + r.val; omega)
    rw [next_out] at e
    have hz : ∀ r k, ((outsAt0 (F := Ideal) m c (8 * b.val + s) (by omega)).2 : Vec Ideal S1024x2048 .bf16) (ix2 r k)
        = normed (fun j => argX m c (ix2 (rowOf ⟨8 * b.val + (s + 1), h⟩ r) j)) (fun j => argG m c (ix1 j)) k := fun r k => by rw [hr]; exact i2 r k
    exact ⟨fun r k => (congrFun (congrArg Prod.snd e) _).trans (hz r k),
      fun r f => (congrFun (congrArg Prod.fst e) _).trans (stores m c ⟨_, h⟩ _ hz r f)⟩

/-- The array that the call returns. -/
theorem array_eq : Value.G3 (F := Ideal) m c = (proj (argX m c) (argG m c) (argU m c) : S8192x4096.Idx → EReal) := by
  funext i
  have h0 : (i 0).val < 8192 := (i 0).isLt
  have h1 : (i 1).val < 4096 := (i 1).isLt
  have hN : cfg0.N = 64 := N_0
  have hp : Value.pt3Of i = 8 * ((i 0).val / 1024) + (i 1).val / 512 := by
    show 8 * ((i 0).val / 1024 - 0) + 1 * ((i 1).val / 512 - 0) = _; omega
  have hl : Value.loc3Of i = ix2 (⟨(i 0).val % 1024, by omega⟩ : Fin 1024) (⟨(i 1).val % 512, by omega⟩ : Fin 512) := funext fun a => Fin.ext (by
    match a with
    | ⟨0, _⟩ => rfl
    | ⟨1, _⟩ => rfl)
  have hb : 8 * ((i 0).val / 1024) + (i 1).val / 512 < cfg0.N := by omega
  unfold Value.G3
  rw [dif_pos (hp ▸ hb), Value.fold0_congr m c _ _ _ (by omega) hp, hl, ← Value.outsAt0_sweep m c _ hb]
  refine ((state m c ⟨(i 0).val / 1024, by omega⟩ ((i 1).val / 512) (by omega) hb).2 _ _).trans ?_
  refine congrArg (proj (argX m c) (argG m c) (argU m c)) (funext fun a => Fin.ext ?_)
  match a with
  | ⟨0, _⟩ => show 1024 * ((8 * ((i 0).val / 1024) + (i 1).val / 512) / 8) + (i 0).val % 1024 = (i 0).val; omega
  | ⟨1, _⟩ => show 512 * ((8 * ((i 0).val / 1024) + (i 1).val / 512) % 8) + (i 1).val % 512 = (i 1).val; omega
end

section
open Cert.Reference5Ideal Cert.Reference5Ideal.Gen Cert.Reference5Ideal.Read

variable (x : (⟨2, ![8192, 2048]⟩ : Shape).Idx → EReal) (g : (⟨1, ![2048]⟩ : Shape).Idx → EReal) (u : (⟨3, ![1, 2048, 4096]⟩ : Shape).Idx → EReal)

/-- The reference's rows normed. -/
theorem ref_normed (r : Fin 8192) (k : Fin 2048) : val_main_v12 (F := Ideal) x g (ix2 r k) = normed (fun j => x (ix2 r j)) (fun j => g (ix1 j)) k := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  have hs : (val_main_cst (F := Ideal)) (Shape.Idx.first h_S_) = (0 : EReal) := Ideal.ofBits_zero_f32
  rw [hs, zero_add]
  refine congrArg₂ (· * ·) (congrArg₂ (· * ·) rfl (congrArg Ideal.rsqrt (congrArg₂ (· + ·) (congrArg₂ Ideal.div (Finset.sum_congr rfl fun j _ => ?_) rfl) rfl))) (congrArg g (funext fun a => Fin.ext ?_))
  · refine (val_main_v0_apply (F := Ideal) x _).trans ?_
    have e : idx_main_v1 (idx_main_v2 (idx_main_v8 (ix2 r k))) j = ix2 r j := funext fun a => Fin.ext (by match a with | ⟨0, _⟩ => rfl | ⟨1, _⟩ => rfl)
    exact congrArg₂ (· * ·) (congrArg x e) (congrArg x e)
  · match a with | ⟨0, _⟩ => rfl

/-- The reference's weights. -/
theorem ref_weights (k : Fin 2048) (f : Fin 4096) : val_main_v13 (F := Ideal) u (ix2 k f) = u (ix3 0 k f) := by
  rw [val_main_v13_apply]
  refine congrArg u (funext fun a => Fin.ext ?_)
  match a with
  | ⟨0, _⟩ => rfl
  | ⟨1, _⟩ => show (k.val * 4096 + f.val) / 4096 % 2048 = k.val; omega
  | ⟨2, _⟩ => show (k.val * 4096 + f.val) % 4096 = f.val; omega

/-- The reference's products. -/
theorem ref_dot (r : Fin 8192) (f : Fin 4096) : val_main_v14 (F := Ideal) x g u (ix2 r f) = ∑ k : Fin 2048, normed (fun j => x (ix2 r j)) (fun j => g (ix1 j)) k * u (ix3 0 k f) := by
  rw [val_main_v14_apply]
  refine Finset.sum_congr rfl fun k _ => ?_
  have el : lidx_main_v14 (ix2 r f) k = ix2 r k := funext fun a => Fin.ext (by match a with | ⟨0, _⟩ => rfl | ⟨1, _⟩ => rfl)
  have er : ridx_main_v14 (ix2 r f) k = ix2 k f := funext fun a => Fin.ext (by match a with | ⟨0, _⟩ => rfl | ⟨1, _⟩ => rfl)
  rw [el, er, ref_normed, ref_weights]

/-- The reference's result, entry by entry. -/
theorem ref_at (r : Fin 8192) (f : Fin 4096) : val_main_v27 (F := Ideal) x g u (ix2 r f) = gelu (∑ k : Fin 2048, normed (fun j => x (ix2 r j)) (fun j => g (ix1 j)) k * u (ix3 0 k f)) := by
  rw [val_main_v27_apply, val_main_v26_apply, val_main_v25_apply, val_main_v24_apply, val_main_v23_apply, val_main_v22_apply, val_main_v21_apply, val_main_v20_apply,
    val_main_v19_apply, val_main_v18_apply, val_main_v17_apply, val_main_v16_apply, val_main_v15_apply, ref_dot]
  unfold gelu
  generalize (∑ k : Fin 2048, normed (fun j => x (ix2 r j)) (fun j => g (ix1 j)) k * u (ix3 0 k f)) = y
  exact congrArg (fun w => y * (Ideal.ofBits .f32 0x3F000000#32 * (Ideal.ofBits .f32 0x3F800000#32 + Ideal.tanh (Ideal.ofBits .f32 0x3F4C422A#32 * (y + Ideal.ofBits .f32 0x3D372713#32 * w))))) (mul_comm (y * y) y)

/-- The reference's result. -/
theorem ref_eq : val_main_v27 (F := Ideal) x g u = proj x g u :=
  funext fun i => (congrArg (val_main_v27 (F := Ideal) x g u) (eq_ix2 i)).trans (ref_at x g u (i 0) (i 1))
end

end Cert.Proof.GP

end
-- ==== Proof.FS.Norm.lean ====
/-
  The last norm of a decode step: the kernel's result array and the reference's, both each row scaled by the root of the mean of its squares, then by the gains.
-/
module

public import proofs.«01_k».proof.Proof.FF.Point
public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Proof.FS

open Cert.Proof.FF (normed zero2)
open Idealize.ShloMosaic Idealize.ShloMosaic.TcCoe Idealize.SL.Sem

/-- Every row normed. -/
def norms (x : (⟨2, ![32, 2048]⟩ : Shape).Idx → EReal) (g : (⟨1, ![2048]⟩ : Shape).Idx → EReal) : (⟨2, ![32, 2048]⟩ : Shape).Idx → EReal :=
  fun i => normed (fun j => x (ix2 (i 0) j)) (fun j => g (ix1 j)) (i 1)

section
open Cert.Kernel6Ideal Cert.Kernel6Ideal.Gen

variable (m : (ℓ : Loc nD τ sig) → Buf (Elt Ideal) ℓ) (c : Dev nD)

/-- The arguments of a launch. -/
abbrev argX : S32x2048.Idx → EReal := m ((c : Thread nD τ).loc main_arg0)
abbrev argG : S2048.Idx → EReal := m ((c : Thread nD τ).loc main_arg1)

/-- One point's block. -/
theorem pay_at (x : Vec Ideal S32x2048 .f32) (g : Vec Ideal S1x2048 .f32) (r : Fin 32) (k : Fin 2048) :
    k0_pay1 (F := Ideal) x g (ix2 r k) = normed (fun j => x (ix2 r j)) (fun j => g (ix2 0 j)) k := by
  unfold normed
  pointwise [k0_pay1]

theorem out_eq (x : Vec Ideal S32x2048 .f32) (g : Vec Ideal S1x2048 .f32) : out0_2 (F := Ideal) x g = k0_pay1 x g := by
  unfold out0_2
  rw [View.canon_unit_zero zero2, View.ld_unit_zero (S := S32x2048) zero2, View.ld_unit_zero (S := S1x2048) zero2]

theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![t.val, 0] := (by decide +kernel : ∀ t : Fin grid0.N, win0_2.index t = ![t.val, 0])
theorem flushes : ∀ t : Fin cfg0.N, (cfg0.win 2).flush t = true := (by decide +kernel : ∀ t : Fin grid0.N, win0_2.flush t = true)

/-- The row of the array that a point's row is. -/
def rowOf (t : Fin cfg0.N) (r : Fin 32) : Fin 32 := ⟨32 * t.val + r.val, by have := t.isLt; have hN : cfg0.N = 1 := N_0; omega⟩

theorem rows_at (t : Fin cfg0.N) (r : Fin 32) (k : Fin 2048) : (iblk m c 0 t : Vec Ideal S32x2048 .f32) (ix2 r k) = argX m c (ix2 (rowOf t r) k) := by
  refine Eq.trans (b := (V m c main_arg0 : S32x2048.Idx → EReal) (ix2 (rowOf t r) k)) ?_ (congrFun (V_main_arg0 m c) _)
  refine congrArg (V m c main_arg0 : S32x2048.Idx → EReal) (funext fun a => Fin.ext ?_)
  match a with
  | ⟨0, _⟩ => refine Eq.trans ?_ (show t.val * 32 + r.val = 32 * t.val + r.val by omega); blk_simp [at0]
  | ⟨1, _⟩ => blk_simp [at0]

theorem gains_at (t : Fin cfg0.N) (k : Fin 2048) : (iblk m c 1 t : Vec Ideal S1x2048 .f32) (ix2 0 k) = argG m c (ix1 k) := by
  refine Eq.trans (b := (V m c main_v0 : S1x2048.Idx → EReal) (ix2 0 k)) ?_ ?_
  · refine congrArg (V m c main_v0 : S1x2048.Idx → EReal) (funext fun a => Fin.ext ?_)
    match a with
    | ⟨0, _⟩ => blk_simp [at1]
    | ⟨1, _⟩ => blk_simp [at1]
  · show (shapeCast S1x2048 (argG m c : Vec Ideal S2048 .f32) shapeCasts_S2048_S1x2048 : S1x2048.Idx → EReal) (ix2 0 k) = _
    pointwise

/-- What a point writes back is its block of the rows normed. -/
theorem flushed_eq (t : Fin cfg0.N) : (dats m 0 c).flushed 2 t = ((cfg0.win 2).blk t).view.read (Elt Ideal) (norms (argX m c) (argG m c) : S32x2048.Idx → EReal) := by
  rw [Value.flushed2, out_eq]
  funext y
  have hy0 : (y 0).val < 32 := (y 0).isLt
  have hy1 : (y 1).val < 2048 := (y 1).isLt
  have hx : (cfg0.win 2).xinj (grid0.coords t) y = ix2 (⟨(y 0).val, hy0⟩ : Fin 32) (⟨(y 1).val, hy1⟩ : Fin 2048) := funext fun a => Fin.ext (by
    match a with | ⟨0, _⟩ => rfl | ⟨1, _⟩ => rfl)
  have he : ((cfg0.win 2).blk t).view.emb y = ix2 (rowOf t ⟨(y 0).val, hy0⟩) (⟨(y 1).val, hy1⟩ : Fin 2048) := funext fun a => Fin.ext (by
    match a with
    | ⟨0, _⟩ => show win0_2.index t (0 : Fin 2) * 32 + 1 * (y 0).val = 32 * t.val + (y 0).val; rw [at2]; show t.val * 32 + 1 * (y 0).val = _; omega
    | ⟨1, _⟩ => show win0_2.index t (1 : Fin 2) * 2048 + 1 * (y 1).val = (y 1).val; rw [at2]; show 0 * 2048 + 1 * (y 1).val = _; omega)
  show k0_pay1 (F := Ideal) (iblk m c 0 t) (iblk m c 1 t) ((cfg0.win 2).xinj (grid0.coords t) y) = norms (argX m c) (argG m c) (((cfg0.win 2).blk t).view.emb y)
  rw [hx, he, pay_at]
  exact congrFun (congrArg₂ normed (funext fun j => rows_at m c t _ j) (funext fun j => gains_at m c t j)) _

/-- The array that the call returns. -/
theorem array_eq : (dats m 0 c).arrAt 2 cfg0.N = (norms (argX m c) (argG m c) : S32x2048.Idx → EReal) :=
  (dats m 0 c).arrAt_eq_of_cover 2 _ (fun t _ => flushed_eq m c t) (fun i => by
    have h0 : (i 0).val < 32 := (i 0).isLt
    have h1 : (i 1).val < 2048 := (i 1).isLt
    have hN : cfg0.N = 1 := N_0
    have ht : (i 0).val / 32 < cfg0.N := by omega
    refine ⟨⟨_, ht⟩, flushes _, ?_⟩
    show i ∈ ((View.whole main_v1).slice (win0_2.rect ⟨_, ht⟩)).set
    rw [View.set_slice_whole, Rect.mem_set_unit]
    intro a
    have e := at2 ⟨_, ht⟩
    match a with
    | ⟨0, _⟩ =>
      have e0 : win0_2.index ⟨_, ht⟩ (0 : Fin 2) = (i 0).val / 32 := congrFun e 0
      show win0_2.index _ (0 : Fin 2) * 32 ≤ (i 0).val ∧ (i 0).val < win0_2.index _ (0 : Fin 2) * 32 + 32; rw [e0]; omega
    | ⟨1, _⟩ =>
      have e1 : win0_2.index ⟨_, ht⟩ (1 : Fin 2) = 0 := congrFun e 1
      show win0_2.index _ (1 : Fin 2) * 2048 ≤ (i 1).val ∧ (i 1).val < win0_2.index _ (1 : Fin 2) * 2048 + 2048; rw [e1]; omega)
end

section
open Cert.Reference6Ideal Cert.Reference6Ideal.Gen Cert.Reference6Ideal.Read

/-- The reference's result. -/
theorem ref_eq (x : (⟨2, ![32, 2048]⟩ : Shape).Idx → EReal) (g : (⟨1, ![2048]⟩ : Shape).Idx → EReal) : val_main_v12 (F := Ideal) x g = norms x g := by
  funext i
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  have hs : (val_main_cst (F := Ideal)) (Shape.Idx.first h_S_) = (0 : EReal) := Ideal.ofBits_zero_f32
  rw [hs, zero_add]
  refine congrArg₂ (· * ·) (congrArg₂ (· * ·) (congrArg x (eq_ix2 i)) (congrArg Ideal.rsqrt (congrArg₂ (· + ·) (congrArg₂ Ideal.div (Finset.sum_congr rfl fun j _ => ?_) rfl) rfl))) (congrArg g (funext fun a => Fin.ext ?_))
  · refine (val_main_v0_apply (F := Ideal) x _).trans ?_
    have e : idx_main_v1 (idx_main_v2 (idx_main_v8 i)) j = ix2 (i 0) j := funext fun a => Fin.ext (by match a with | ⟨0, _⟩ => rfl | ⟨1, _⟩ => rfl)
    exact congrArg₂ (· * ·) (congrArg x e) (congrArg x e)
  · match a with | ⟨0, _⟩ => rfl
end

end Cert.Proof.FS

end
-- ==== Proof.GS.Block.lean ====
/-
  The spatial gating of a decode step, one grid point: what its stores hold, entry by entry, over the extended reals.
-/
module

public import proofs.«01_k».proof.Proof.FF.Point
public import proofs.«01_k».proof.Proof.Gen.Kernel8Ideal.Skeleton
public import Idealize.ShloMosaic.Lib.Pointwise
public import Idealize.ShloMosaic.Lib.ValueIdx

@[expose] public section

set_option maxRecDepth 16384

noncomputable section

namespace Cert.Proof.GS

open Cert.Kernel8Ideal Cert.Kernel8Ideal.Gen
open Idealize.ShloMosaic Idealize.ShloMosaic.TcCoe Idealize.SL.Sem

/-- A row less its mean, scaled by the root of the mean of the squares, then by the gains, with the shifts added: entry `k` of it. -/
def lnorm (v g b : Fin 2048 → EReal) (k : Fin 2048) : EReal :=
  (v k - Ideal.div (∑ j, v j) (Ideal.ofBits .f32 0x45000000#32))
    * Ideal.rsqrt (Ideal.div (∑ i, (v i - Ideal.div (∑ j, v j) (Ideal.ofBits .f32 0x45000000#32)) * (v i - Ideal.div (∑ j, v j) (Ideal.ofBits .f32 0x45000000#32))) (Ideal.ofBits .f32 0x45000000#32)
      + Ideal.ofBits .f32 0x358637BD#32) * g k + b k

/-- A weight of the gating: nothing from a later position. -/
def keep (r s : Fin 4) (w : EReal) : EReal := if s.val ≤ r.val then w else 0

/-- One entry of the gated rows. -/
def cell (r : Fin 4) (w v : Fin 4 → EReal) (b u : EReal) : EReal := u * (∑ s, keep r s (w s) * v s + b)

/-- The second half of the row, normed. -/
theorem pay4_at (z : Vec Ideal S1x4x4096 .f32) (g b : Vec Ideal S1x2048 .f32) (r : Fin 4) (k : Fin 2048) :
    k0_pay4 (F := Ideal) z g b (ix2 r k) = lnorm (fun j => z (ix3 0 r ⟨2048 + j.val, by omega⟩)) (fun j => g (ix2 0 j)) (fun j => b (ix2 0 j)) k := by
  unfold lnorm
  pointwise [k0_pay4, k0_pay2]

theorem pay5_at (z : Vec Ideal S1x4x4096 .f32) (g b : Vec Ideal S1x2048 .f32) (r : Fin 4) (k : Fin 2048) :
    k0_pay5 (F := Ideal) z g b (ix3 0 r k) = lnorm (fun j => z (ix3 0 r ⟨2048 + j.val, by omega⟩)) (fun j => g (ix2 0 j)) (fun j => b (ix2 0 j)) k := by
  rw [← pay4_at]
  pointwise [k0_pay5]

/-- The first half of the row. -/
theorem pay3_at (z : Vec Ideal S1x4x4096 .f32) (r : Fin 4) (k : Fin 2048) : k0_pay3 (F := Ideal) z (ix2 r k) = z (ix3 0 r ⟨k.val, by omega⟩) := by
  pointwise [k0_pay3, k0_pay2]

theorem pay6_at (b : Vec Ideal S4x8 .f32) (r : Fin 4) (k : Fin 8) : k0_pay6 (F := Ideal) b (ix2 r k) = b (ix2 r k) := by
  pointwise [k0_pay6]

section
variable (U V : Vec Ideal S4x2048 .f32) (B : Vec Ideal S4x8 .f32) (W : Vec Ideal S1x4x4 .f32) (r : Fin 4) (l : Fin 256)

/-- The positions of rows and of columns. -/
abbrev rowI : IVec S4x4 32 := iota .tc S4x4 32 [0] iota_S4x4_d0_w32
abbrev colI : IVec S4x4 32 := iota .tc S4x4 32 [1] iota_S4x4_d1_w32

theorem group0 : k0_pay9 (F := Ideal) U V B k0_pay7 (k0_pay8 W) (ix3 0 r l)
    = cell r (fun s => W (ix3 0 r s)) (fun s => V (ix2 s ⟨l.val, by omega⟩)) (B (ix2 r 0)) (U (ix2 r ⟨l.val, by omega⟩)) := by
  unfold cell keep
  rw [Fin.sum_univ_four]
  fin_cases r <;> pointwise [k0_pay9, k0_pay7, k0_pay8] <;> simp [Scalar.select, IntOp.cmpi]

theorem group1 : k0_pay13 (F := Ideal) U B (k0_pay10 rowI colI W) (k0_pay11 V) (k0_pay12 V rowI colI W) (ix3 0 r l)
    = cell r (fun s => W (ix3 0 r s)) (fun s => V (ix2 s ⟨256 + l.val, by omega⟩)) (B (ix2 r 1)) (U (ix2 r ⟨256 + l.val, by omega⟩)) := by
  unfold cell keep
  rw [Fin.sum_univ_four]
  fin_cases r <;> pointwise [k0_pay13, k0_pay10, k0_pay11, k0_pay12, rowI, colI] <;> simp [Scalar.select, IntOp.cmpi]

theorem group2 : k0_pay17 (F := Ideal) U B (k0_pay14 rowI colI W) (k0_pay15 V) (k0_pay16 V rowI colI W) (ix3 0 r l)
    = cell r (fun s => W (ix3 0 r s)) (fun s => V (ix2 s ⟨512 + l.val, by omega⟩)) (B (ix2 r 2)) (U (ix2 r ⟨512 + l.val, by omega⟩)) := by
  unfold cell keep
  rw [Fin.sum_univ_four]
  fin_cases r <;> pointwise [k0_pay17, k0_pay14, k0_pay15, k0_pay16, rowI, colI] <;> simp [Scalar.select, IntOp.cmpi]

theorem group3 : k0_pay19 (F := Ideal) (k0_pay18 U V rowI colI B W) (ix3 0 r l)
    = cell r (fun s => W (ix3 0 r s)) (fun s => V (ix2 s ⟨768 + l.val, by omega⟩)) (B (ix2 r 3)) (U (ix2 r ⟨768 + l.val, by omega⟩)) := by
  unfold cell keep
  rw [Fin.sum_univ_four]
  fin_cases r <;> pointwise [k0_pay19, k0_pay18, rowI, colI] <;> simp [Scalar.select, IntOp.cmpi]

theorem group4 : k0_pay20 (F := Ideal) U V rowI colI B W (ix3 0 r l)
    = cell r (fun s => W (ix3 0 r s)) (fun s => V (ix2 s ⟨1024 + l.val, by omega⟩)) (B (ix2 r 4)) (U (ix2 r ⟨1024 + l.val, by omega⟩)) := by
  unfold cell keep
  rw [Fin.sum_univ_four]
  fin_cases r <;> pointwise [k0_pay20, rowI, colI] <;> simp [Scalar.select, IntOp.cmpi]

theorem group5 : k0_pay23 (F := Ideal) U V B (k0_pay21 rowI colI) (k0_pay22 W) (ix3 0 r l)
    = cell r (fun s => W (ix3 0 r s)) (fun s => V (ix2 s ⟨1280 + l.val, by omega⟩)) (B (ix2 r 5)) (U (ix2 r ⟨1280 + l.val, by omega⟩)) := by
  unfold cell keep
  rw [Fin.sum_univ_four]
  fin_cases r <;> pointwise [k0_pay23, k0_pay21, k0_pay22, rowI, colI] <;> simp [Scalar.select, IntOp.cmpi]

theorem group6 : k0_pay27 (F := Ideal) U B (k0_pay24 rowI colI W) (k0_pay25 V) (k0_pay26 V rowI colI W) (ix3 0 r l)
    = cell r (fun s => W (ix3 0 r s)) (fun s => V (ix2 s ⟨1536 + l.val, by omega⟩)) (B (ix2 r 6)) (U (ix2 r ⟨1536 + l.val, by omega⟩)) := by
  unfold cell keep
  rw [Fin.sum_univ_four]
  fin_cases r <;> pointwise [k0_pay27, k0_pay24, k0_pay25, k0_pay26, rowI, colI] <;> simp [Scalar.select, IntOp.cmpi]

theorem group7 : k0_pay1 (F := Ideal) U B (k0_pay28 rowI colI W) (k0_pay29 V) (k0_pay30 V rowI colI W) (ix3 0 r l)
    = cell r (fun s => W (ix3 0 r s)) (fun s => V (ix2 s ⟨1792 + l.val, by omega⟩)) (B (ix2 r 7)) (U (ix2 r ⟨1792 + l.val, by omega⟩)) := by
  unfold cell keep
  rw [Fin.sum_univ_four]
  fin_cases r <;> pointwise [k0_pay1, k0_pay28, k0_pay29, k0_pay30, rowI, colI] <;> simp [Scalar.select, IntOp.cmpi]

end

end Cert.Proof.GS

end
-- ==== Proof.GS.Ref.lean ====
/-
  The spatial gating of a decode step: the reference's two results, entry by entry.
-/
module

public import proofs.«01_k».proof.Proof.GS.Block
public import proofs.«01_k».proof.Proof.Gen.Reference8Ideal.Read
public import Idealize.ShloMosaic.Lib.Pipeline.ValueKit

@[expose] public section

set_option maxRecDepth 16384

noncomputable section

namespace Cert.Proof.GS

open Cert.Reference8Ideal Cert.Reference8Ideal.Gen Cert.Reference8Ideal.Read
open Idealize.ShloMosaic Idealize.ShloMosaic.TcCoe Idealize.SL.Sem

variable (z : (⟨3, ![8, 4, 4096]⟩ : Shape).Idx → EReal) (g b : (⟨1, ![2048]⟩ : Shape).Idx → EReal)
  (w : (⟨3, ![8, 128, 128]⟩ : Shape).Idx → EReal) (d : (⟨2, ![8, 128]⟩ : Shape).Idx → EReal)

/-- The group of a column. -/
def grp (k : Fin 2048) : Fin 8 := ⟨k.val / 256, by omega⟩

/-- The normed second half of a row. -/
def halves (n : Fin 8) (r : Fin 4) (k : Fin 2048) : EReal :=
  lnorm (fun j => z (ix3 n r ⟨2048 + j.val, by omega⟩)) (fun j => g (ix1 j)) (fun j => b (ix1 j)) k

/-- The gated entry of a row. -/
def gates (n : Fin 8) (r : Fin 4) (k : Fin 2048) : EReal :=
  cell r (fun s => w (ix3 (grp k) (⟨r.val, by omega⟩ : Fin 128) (⟨s.val, by omega⟩ : Fin 128))) (fun s => halves z g b n s k) (d (ix2 (grp k) (⟨r.val, by omega⟩ : Fin 128))) (z (ix3 n r ⟨k.val, by omega⟩))

/-- The two results. -/
def resV : (⟨3, ![8, 4, 2048]⟩ : Shape).Idx → EReal := fun i => halves z g b (i 0) (i 1) (i 2)
def resA : (⟨3, ![8, 4, 2048]⟩ : Shape).Idx → EReal := fun i => gates z g b w d (i 0) (i 1) (i 2)

section
variable (n : Fin 8) (r : Fin 4) (k : Fin 2048)

theorem ref_half : val_main_v1 (F := Ideal) z (ix3 n r k) = z (ix3 n r ⟨2048 + k.val, by omega⟩) := by
  rw [val_main_v1_apply]
  refine congrArg z (funext fun a => Fin.ext ?_)
  match a with
  | ⟨0, _⟩ => rfl
  | ⟨1, _⟩ => rfl
  | ⟨2, _⟩ => first | rfl | (show k.val + 2048 = 2048 + k.val; omega)

theorem ref_centered : val_main_v7 (F := Ideal) z (ix3 n r k)
    = z (ix3 n r ⟨2048 + k.val, by omega⟩) - Ideal.div (∑ j : Fin 2048, z (ix3 n r ⟨2048 + j.val, by omega⟩)) (Ideal.ofBits .f32 0x45000000#32) := by
  rw [val_main_v7_apply, val_main_v6_apply, val_main_v5_apply, val_main_v4_apply, val_main_v3_apply, val_main_v2_apply, ref_half]
  have hs : (val_main_cst (F := Ideal)) (Shape.Idx.first h_S_) = (0 : EReal) := Ideal.ofBits_zero_f32
  rw [hs, zero_add]
  refine congrArg (fun y => z (ix3 n r ⟨2048 + k.val, by omega⟩) - Ideal.div y (Ideal.ofBits .f32 0x45000000#32)) (Finset.sum_congr rfl fun j _ => ?_)
  have e : idx_main_v2 (idx_main_v3 (idx_main_v6 (ix3 n r k))) j = ix3 n r j := funext fun a => Fin.ext (by match a with | ⟨0, _⟩ => rfl | ⟨1, _⟩ => rfl | ⟨2, _⟩ => rfl)
  rw [e, ref_half]

theorem ref_v : val_main_v23 (F := Ideal) z g b (ix3 n r k) = halves z g b n r k := by
  rw [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_v10_apply, val_main_v9_apply, ref_centered]
  have hs : (val_main_cst_1 (F := Ideal)) (Shape.Idx.first h_S_) = (0 : EReal) := Ideal.ofBits_zero_f32
  rw [hs, zero_add]
  unfold halves lnorm
  refine congrArg₂ (· + ·) (congrArg₂ (· * ·) (congrArg₂ (· * ·) rfl (congrArg Ideal.rsqrt (congrArg₂ (· + ·) (congrArg₂ Ideal.div (Finset.sum_congr rfl fun j _ => ?_) rfl) rfl))) (congrArg g (funext fun a => Fin.ext ?_))) (congrArg b (funext fun a => Fin.ext ?_))
  · have e : idx_main_v9 (idx_main_v10 (idx_main_v16 (ix3 n r k))) j = ix3 n r j := funext fun a => Fin.ext (by match a with | ⟨0, _⟩ => rfl | ⟨1, _⟩ => rfl | ⟨2, _⟩ => rfl)
    rw [e, val_main_v8_apply, ref_centered]
    rfl
  · match a with | ⟨0, _⟩ => rfl
  · match a with | ⟨0, _⟩ => rfl

/-- The reference's weights: nothing from a later position. -/
theorem ref_weights (q : Fin 8) (s : Fin 4) : val_main_v27 (F := Ideal) w (ix3 q r s) = keep r s (w (ix3 q (⟨r.val, by omega⟩ : Fin 128) (⟨s.val, by omega⟩ : Fin 128))) := by
  rw [val_main_v27_apply, val_main_call1_v1_apply, val_main_call1_v2_apply, val_main_call1_v0_apply, val_main_v26_apply, val_main_v25_apply, val_main_v24_apply,
    val_main_call0_v5_apply, val_main_call0_v4_apply, val_main_call0_v2_apply, val_main_call0_v0_apply, val_main_call0_v1_apply, val_main_call0_v3_apply]
  have e : idx_main_v26 (ix3 q r s) = ix3 q (⟨r.val, by omega⟩ : Fin 128) (⟨s.val, by omega⟩ : Fin 128) := funext fun a => Fin.ext (by match a with | ⟨0, _⟩ => rfl | ⟨1, _⟩ => rfl | ⟨2, _⟩ => rfl)
  have hz : FloatOps.sitofp (F := Ideal) .f32 (val_main_c_4 (F := Ideal) (idx_main_call1_v2 (ix3 q r s))) = (0 : EReal) := by
    show (((((0#32 : BitVec 32).toInt : ℤ) : ℝ)) : EReal) = 0
    simp
  rw [e, hz]
  generalize w (ix3 q (⟨r.val, by omega⟩ : Fin 128) (⟨s.val, by omega⟩ : Fin 128)) = y
  unfold keep
  fin_cases r <;> fin_cases s <;> rfl

theorem ref_a : val_main_v37 (F := Ideal) z g b w d (ix3 n r k) = gates z g b w d n r k := by
  have hk : k.val < 2048 := k.isLt
  have e36 : idx_main_v36 (ix3 n r k) = fun a => match a with
      | ⟨0, _⟩ => n
      | ⟨1, _⟩ => (0 : Fin 1)
      | ⟨2, _⟩ => r
      | ⟨3, _⟩ => grp k
      | ⟨4, _⟩ => (⟨k.val % 256, by omega⟩ : Fin 256) := funext fun a => Fin.ext (by
    match a with
    | ⟨0, _⟩ => show ((n.val * 4 + r.val) * 2048 + k.val) / 8192 = n.val; omega
    | ⟨1, _⟩ => rfl
    | ⟨2, _⟩ => show ((n.val * 4 + r.val) * 2048 + k.val) / 2048 % 4 = r.val; omega
    | ⟨3, _⟩ => show ((n.val * 4 + r.val) * 2048 + k.val) / 256 % 8 = k.val / 256; omega
    | ⟨4, _⟩ => show ((n.val * 4 + r.val) * 2048 + k.val) % 256 = k.val % 256; omega)
  rw [val_main_v37_apply, val_main_v36_apply, val_main_v35_apply, val_main_v34_apply, val_main_v33_apply, val_main_v32_apply, val_main_v31_apply, val_main_v30_apply,
    val_main_v29_apply, val_main_v0_apply, e36]
  unfold gates cell
  refine congrArg₂ (· * ·) (congrArg z (funext fun a => Fin.ext ?_)) (congrArg₂ (· + ·) (Finset.sum_congr rfl fun s _ => ?_) (congrArg d (funext fun a => Fin.ext ?_)))
  · match a with
    | ⟨0, _⟩ => rfl
    | ⟨1, _⟩ => rfl
    | ⟨2, _⟩ => rfl
  · rw [val_main_v28_apply, mul_comm]
    refine congrArg₂ (· * ·) (Eq.trans (congrArg (val_main_v27 (F := Ideal) w) (funext fun a => Fin.ext ?_)) (ref_weights w r (grp k) s))
      (Eq.trans (congrArg (val_main_v23 (F := Ideal) z g b) (funext fun a => Fin.ext ?_)) (ref_v z g b n s k))
    · match a with
      | ⟨0, _⟩ => rfl
      | ⟨1, _⟩ => rfl
      | ⟨2, _⟩ => rfl
    · match a with
      | ⟨0, _⟩ => show ((((n.val * 1 + 0) * 4 + s.val) * 8 + k.val / 256) * 256 + k.val % 256) / 8192 = n.val; omega
      | ⟨1, _⟩ => show ((((n.val * 1 + 0) * 4 + s.val) * 8 + k.val / 256) * 256 + k.val % 256) / 2048 % 4 = s.val; omega
      | ⟨2, _⟩ => show ((((n.val * 1 + 0) * 4 + s.val) * 8 + k.val / 256) * 256 + k.val % 256) % 2048 = k.val; omega
  · match a with
    | ⟨0, _⟩ => rfl
    | ⟨1, _⟩ => rfl
end

/-- The reference's two results. -/
theorem ref_v_eq : val_main_v23 (F := Ideal) z g b = resV z g b :=
  funext fun i => (congrArg (val_main_v23 (F := Ideal) z g b) (eq_ix3 i)).trans (ref_v z g b (i 0) (i 1) (i 2))
theorem ref_a_eq : val_main_v37 (F := Ideal) z g b w d = resA z g b w d :=
  funext fun i => (congrArg (val_main_v37 (F := Ideal) z g b w d) (eq_ix3 i)).trans (ref_a z g b w d (i 0) (i 1) (i 2))

end Cert.Proof.GS

end
-- ==== Proof.GS.Out.lean ====
/-
  The spatial gating of a decode step, one grid point: the two blocks it leaves, entry by entry.
-/
module

public import proofs.«01_k».proof.Proof.GS.Ref
public import proofs.«01_k».proof.Proof.Gen.Kernel8Ideal.Frame
public import Idealize.ShloMosaic.Lib.Pipeline.ValueKit

@[expose] public section

set_option maxRecDepth 16384

noncomputable section

namespace Cert.Proof.GS

open Cert.Proof.FF (zero2 zero3)
open Cert.Kernel8Ideal Cert.Kernel8Ideal.Gen
open Idealize.ShloMosaic Idealize.ShloMosaic.TcCoe Idealize.SL.Sem

variable (z : Vec Ideal S1x4x4096 .f32) (g b : Vec Ideal S1x2048 .f32) (w : Vec Ideal S8x4x4 .f32) (d : Vec Ideal S4x8 .f32)

/-- The normed second half of a row of the block. -/
def half (r : Fin 4) (k : Fin 2048) : EReal := lnorm (fun j => z (ix3 0 r ⟨2048 + j.val, by omega⟩)) (fun j => g (ix2 0 j)) (fun j => b (ix2 0 j)) k

/-- The gated entry of the block. -/
def gated (r : Fin 4) (k : Fin 2048) : EReal :=
  cell r (fun s => w (ix3 (grp k) r s)) (fun s => half z g b s k) (d (ix2 r (grp k))) (z (ix3 0 r ⟨k.val, by omega⟩))

theorem gated_eq (q : Fin 8) (r : Fin 4) (k : Fin 2048) (hk : k.val / 256 = q.val) :
    gated z g b w d r k = cell r (fun s => w (ix3 q r s)) (fun s => k0_pay4 (F := Ideal) z g b (ix2 s k)) (k0_pay6 (F := Ideal) d (ix2 r q)) (k0_pay3 (F := Ideal) z (ix2 r k)) := by
  have e : grp k = q := Fin.ext hk
  unfold gated
  rw [e, pay6_at, pay3_at]
  exact congrArg (fun v => cell r _ v _ _) (funext fun s => (pay4_at z g b s k).symm)

/-- A stored piece of a block, at the entry that it holds. -/
theorem tile (r : Fin 4) (k : Fin 2048) (o : ℕ) (P : Vec Ideal S1x4x256 .f32) (v : Fin 4 → Fin 2048 → EReal)
    (h : ∀ (r : Fin 4) (l : Fin 256) (k : Fin 2048), k.val = o + l.val → P (ix3 0 r l) = v r k) :
    View.TileAt (Val := Elt Ideal) (S := S1x4x2048) (e := .f32) (ix3 0 r k) ![0, 0, o] S1x4x256.size P (v r k) := by
  intro x hx
  have h1 : r.val = 0 + (x 1).val := hx 1
  have h2 : k.val = o + (x 2).val := hx 2
  have x0 : (x 0).val < 1 := (x 0).isLt
  have ex : x = ix3 (0 : Fin 1) r (⟨(x 2).val, (x 2).isLt⟩ : Fin 256) := funext fun a => Fin.ext (by
    match a with
    | ⟨0, _⟩ => show (x 0).val = 0; omega
    | ⟨1, _⟩ => show (x 1).val = r.val; omega
    | ⟨2, _⟩ => rfl)
  rw [ex]
  exact h r _ k h2

/-- The weights of one group. -/
theorem weights (q : Fin 8) (inb : ∀ a, (![q.val, 0, 0] : Fin 3 → ℕ) a + S1x4x4.size a ≤ S8x4x4.size a) (r s : Fin 4) :
    View.ld (Val := Elt Ideal) (S := S8x4x4) (e' := .f32) w (Rect.unit ![q.val, 0, 0] S1x4x4.size inb) (ix3 (0 : Fin 1) r s) = w (ix3 q r s) :=
  congrArg w (funext fun a => Fin.ext (by
    match a with
    | ⟨0, _⟩ => show q.val + 1 * 0 = q.val; omega
    | ⟨1, _⟩ => show 0 + 1 * r.val = r.val; omega
    | ⟨2, _⟩ => show 0 + 1 * s.val = s.val; omega))

theorem out6_at (r : Fin 4) (k : Fin 2048) : out0_6 (F := Ideal) z g b w d (ix3 0 r k) = half z g b r k := by
  unfold out0_6
  rw [View.canon_unit_zero zero3, View.ld_unit_zero (S := S1x4x4096) zero3, View.ld_unit_zero (S := S1x2048) zero2, View.ld_unit_zero (S := S1x2048) zero2, pay5_at]
  rfl

theorem out5_at (r : Fin 4) (k : Fin 2048) : out0_5 (F := Ideal) z g b w d (ix3 0 r k) = gated z g b w d r k := by
  unfold_out out0_5
  rw [View.ld_unit_zero (S := S1x4x4096) zero3, View.ld_unit_zero (S := S1x2048) zero2, View.ld_unit_zero (S := S1x2048) zero2, View.ld_unit_zero (S := S4x8) zero2]
  refine View.canon_eq_of_allAt _ _ _ (cover0_5 _ _ _ _ _ _ _ _ _) ?_
  refine View.allAt_cons_unit _ _ _ _ _ (tile r k 1792 _ (gated z g b w d) fun r l k hk => ?_) ?_
  · rw [gated_eq z g b w d 7 r k (by show k.val / 256 = 7; omega)]
    have ek : k = ⟨1792 + l.val, by omega⟩ := Fin.ext hk
    refine (group7 _ _ _ _ r l).trans ?_
    rw [← ek]
    exact congrArg (fun v => cell r v _ _ _) (funext fun s => weights w 7 _ r s)
  refine View.allAt_cons_unit _ _ _ _ _ (tile r k 1536 _ (gated z g b w d) fun r l k hk => ?_) ?_
  · rw [gated_eq z g b w d 6 r k (by show k.val / 256 = 6; omega)]
    have ek : k = ⟨1536 + l.val, by omega⟩ := Fin.ext hk
    refine (group6 _ _ _ _ r l).trans ?_
    rw [← ek]
    exact congrArg (fun v => cell r v _ _ _) (funext fun s => weights w 6 _ r s)
  refine View.allAt_cons_unit _ _ _ _ _ (tile r k 1280 _ (gated z g b w d) fun r l k hk => ?_) ?_
  · rw [gated_eq z g b w d 5 r k (by show k.val / 256 = 5; omega)]
    have ek : k = ⟨1280 + l.val, by omega⟩ := Fin.ext hk
    refine (group5 _ _ _ _ r l).trans ?_
    rw [← ek]
    exact congrArg (fun v => cell r v _ _ _) (funext fun s => weights w 5 _ r s)
  refine View.allAt_cons_unit _ _ _ _ _ (tile r k 1024 _ (gated z g b w d) fun r l k hk => ?_) ?_
  · rw [gated_eq z g b w d 4 r k (by show k.val / 256 = 4; omega)]
    have ek : k = ⟨1024 + l.val, by omega⟩ := Fin.ext hk
    refine (group4 _ _ _ _ r l).trans ?_
    rw [← ek]
    exact congrArg (fun v => cell r v _ _ _) (funext fun s => weights w 4 _ r s)
  refine View.allAt_cons_unit _ _ _ _ _ (tile r k 768 _ (gated z g b w d) fun r l k hk => ?_) ?_
  · rw [gated_eq z g b w d 3 r k (by show k.val / 256 = 3; omega)]
    have ek : k = ⟨768 + l.val, by omega⟩ := Fin.ext hk
    refine (group3 _ _ _ _ r l).trans ?_
    rw [← ek]
    exact congrArg (fun v => cell r v _ _ _) (funext fun s => weights w 3 _ r s)
  refine View.allAt_cons_unit _ _ _ _ _ (tile r k 512 _ (gated z g b w d) fun r l k hk => ?_) ?_
  · rw [gated_eq z g b w d 2 r k (by show k.val / 256 = 2; omega)]
    have ek : k = ⟨512 + l.val, by omega⟩ := Fin.ext hk
    refine (group2 _ _ _ _ r l).trans ?_
    rw [← ek]
    exact congrArg (fun v => cell r v _ _ _) (funext fun s => weights w 2 _ r s)
  refine View.allAt_cons_unit _ _ _ _ _ (tile r k 256 _ (gated z g b w d) fun r l k hk => ?_) ?_
  · rw [gated_eq z g b w d 1 r k (by show k.val / 256 = 1; omega)]
    have ek : k = ⟨256 + l.val, by omega⟩ := Fin.ext hk
    refine (group1 _ _ _ _ r l).trans ?_
    rw [← ek]
    exact congrArg (fun v => cell r v _ _ _) (funext fun s => weights w 1 _ r s)
  refine View.allAt_cons_unit _ _ _ _ _ (tile r k 0 _ (gated z g b w d) fun r l k hk => ?_) (View.allAt_nil _ _)
  · rw [gated_eq z g b w d 0 r k (by show k.val / 256 = 0; omega)]
    have ek : k = ⟨l.val, by omega⟩ := Fin.ext (by show k.val = l.val; omega)
    refine (group0 _ _ _ _ r l).trans ?_
    rw [← ek]
    exact congrArg (fun v => cell r v _ _ _) (funext fun s => weights w 0 _ r s)

end Cert.Proof.GS

end
-- ==== Proof.GS.Run.lean ====
/-
  The spatial gating of a decode step: a run of the kernel, its two result arrays named and its arguments as launched.
-/
module

public import proofs.«01_k».proof.Proof.Gen.Kernel8Ideal.Frame
public import Idealize.ShloMosaic.Lib.Pointwise
public import Idealize.ShloMosaic.Lib.Pipeline.ValueKit

@[expose] public section

noncomputable section

namespace Cert.Proof.GS

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What a point writes back to the two arrays. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The run. -/
theorem run_arrays : θ_run defs (onTc (τ := τ) (main (F := Ideal))) ⟨m, fun _ => 0, ρ⟩ fun r => ∀ c : Dev nD,
      r.2.mem ((c : Thread nD τ).loc main_v5_0) = (dats m 0 c).arrAt 5 cfg0.N
      ∧ r.2.mem ((c : Thread nD τ).loc main_v5_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Proof.GS

end
-- ==== Proof.GS.Array.lean ====
/-
  The spatial gating of a decode step: the kernel's two result arrays.
-/
module

public import proofs.«01_k».proof.Proof.GS.Out
public import proofs.«01_k».proof.Proof.GS.Run

@[expose] public section

set_option maxRecDepth 16384

noncomputable section

namespace Cert.Proof.GS

open Cert.Kernel8Ideal Cert.Kernel8Ideal.Gen
open Idealize.ShloMosaic Idealize.ShloMosaic.TcCoe Idealize.SL.Sem

variable (m : (ℓ : Loc nD τ sig) → Buf (Elt Ideal) ℓ) (c : Dev nD)

/-- The arguments of a launch. -/
abbrev argZ : S8x4x4096.Idx → EReal := m ((c : Thread nD τ).loc main_arg0)
abbrev argG : S2048.Idx → EReal := m ((c : Thread nD τ).loc main_arg1)
abbrev argB : S2048.Idx → EReal := m ((c : Thread nD τ).loc main_arg2)
abbrev argW : S8x128x128.Idx → EReal := m ((c : Thread nD τ).loc main_arg3)
abbrev argD : S8x128.Idx → EReal := m ((c : Thread nD τ).loc main_arg4)

theorem at0 : ∀ t : Fin cfg0.N, win0_0.index t = ![t.val, 0, 0] := (by decide +kernel : ∀ t : Fin grid0.N, win0_0.index t = ![t.val, 0, 0])
theorem at1 : ∀ t : Fin cfg0.N, win0_1.index t = ![0, 0] := (by decide +kernel : ∀ t : Fin grid0.N, win0_1.index t = ![0, 0])
theorem at2 : ∀ t : Fin cfg0.N, win0_2.index t = ![0, 0] := (by decide +kernel : ∀ t : Fin grid0.N, win0_2.index t = ![0, 0])
theorem at3 : ∀ t : Fin cfg0.N, win0_3.index t = ![0, 0, 0] := (by decide +kernel : ∀ t : Fin grid0.N, win0_3.index t = ![0, 0, 0])
theorem at4 : ∀ t : Fin cfg0.N, win0_4.index t = ![0, 0] := (by decide +kernel : ∀ t : Fin grid0.N, win0_4.index t = ![0, 0])
theorem at5 : ∀ t : Fin cfg0.N, win0_5.index t = ![t.val, 0, 0] := (by decide +kernel : ∀ t : Fin grid0.N, win0_5.index t = ![t.val, 0, 0])
theorem at6 : ∀ t : Fin cfg0.N, win0_6.index t = ![t.val, 0, 0] := (by decide +kernel : ∀ t : Fin grid0.N, win0_6.index t = ![t.val, 0, 0])
theorem flushes5 : ∀ t : Fin cfg0.N, (cfg0.win 5).flush t = true := (by decide +kernel : ∀ t : Fin grid0.N, win0_5.flush t = true)
theorem flushes6 : ∀ t : Fin cfg0.N, (cfg0.win 6).flush t = true := (by decide +kernel : ∀ t : Fin grid0.N, win0_6.flush t = true)

/-- The row of the array that a point is. -/
def pt (t : Fin cfg0.N) : Fin 8 := ⟨t.val, by have := t.isLt; have hN : cfg0.N = 8 := N_0; omega⟩

theorem rows_at (t : Fin cfg0.N) (r : Fin 4) (k : Fin 4096) : (iblk m c 0 t : Vec Ideal S1x4x4096 .f32) (ix3 0 r k) = argZ m c (ix3 (pt t) r k) := by
  refine Eq.trans (b := (V m c main_arg0 : S8x4x4096.Idx → EReal) (ix3 (pt t) r k)) ?_ (congrFun (V_main_arg0 m c) _)
  refine congrArg (V m c main_arg0 : S8x4x4096.Idx → EReal) (funext fun a => Fin.ext ?_)
  match a with
  | ⟨0, _⟩ => blk_simp [at0]; rfl
  | ⟨1, _⟩ => blk_simp [at0]
  | ⟨2, _⟩ => blk_simp [at0]

theorem gains_at (t : Fin cfg0.N) (k : Fin 2048) : (iblk m c 1 t : Vec Ideal S1x2048 .f32) (ix2 0 k) = argG m c (ix1 k) := by
  refine Eq.trans (b := (V m c main_v3 : S1x2048.Idx → EReal) (ix2 0 k)) ?_ ?_
  · refine congrArg (V m c main_v3 : S1x2048.Idx → EReal) (funext fun a => Fin.ext ?_)
    match a with
    | ⟨0, _⟩ => blk_simp [at1]
    | ⟨1, _⟩ => blk_simp [at1]
  · show (shapeCast S1x2048 (argG m c : Vec Ideal S2048 .f32) shapeCasts_S2048_S1x2048 : S1x2048.Idx → EReal) (ix2 0 k) = _
    pointwise

theorem shifts_at (t : Fin cfg0.N) (k : Fin 2048) : (iblk m c 2 t : Vec Ideal S1x2048 .f32) (ix2 0 k) = argB m c (ix1 k) := by
  refine Eq.trans (b := (V m c main_v4 : S1x2048.Idx → EReal) (ix2 0 k)) ?_ ?_
  · refine congrArg (V m c main_v4 : S1x2048.Idx → EReal) (funext fun a => Fin.ext ?_)
    match a with
    | ⟨0, _⟩ => blk_simp [at2]
    | ⟨1, _⟩ => blk_simp [at2]
  · show (shapeCast S1x2048 (argB m c : Vec Ideal S2048 .f32) shapeCasts_S2048_S1x2048 : S1x2048.Idx → EReal) (ix2 0 k) = _
    pointwise

theorem mix_at (t : Fin cfg0.N) (q : Fin 8) (r s : Fin 4) : (iblk m c 3 t : Vec Ideal S8x4x4 .f32) (ix3 q r s) = argW m c (ix3 q (⟨r.val, by omega⟩ : Fin 128) (⟨s.val, by omega⟩ : Fin 128)) := by
  refine Eq.trans (b := (V m c main_v0 : S8x4x4.Idx → EReal) (ix3 q r s)) ?_ ?_
  · refine congrArg (V m c main_v0 : S8x4x4.Idx → EReal) (funext fun a => Fin.ext ?_)
    match a with
    | ⟨0, _⟩ => blk_simp [at3]
    | ⟨1, _⟩ => blk_simp [at3]
    | ⟨2, _⟩ => blk_simp [at3]
  · show (extractStridedSlice S8x4x4 ![0, 0, 0] (argW m c : Vec Ideal S8x128x128 .f32) slices_S8x128x128_S8x4x4_0_0_0 : S8x4x4.Idx → EReal) (ix3 q r s) = _
    pointwise

theorem bias_at (t : Fin cfg0.N) (r : Fin 4) (q : Fin 8) : (iblk m c 4 t : Vec Ideal S4x8 .f32) (ix2 r q) = argD m c (ix2 q (⟨r.val, by omega⟩ : Fin 128)) := by
  refine Eq.trans (b := (V m c main_v2 : S4x8.Idx → EReal) (ix2 r q)) ?_ ?_
  · refine congrArg (V m c main_v2 : S4x8.Idx → EReal) (funext fun a => Fin.ext ?_)
    match a with
    | ⟨0, _⟩ => blk_simp [at4]
    | ⟨1, _⟩ => blk_simp [at4]
  · show (transpose S4x8 [1, 0] (extractStridedSlice S8x4 ![0, 0] (argD m c : Vec Ideal S8x128 .f32) slices_S8x128_S8x4_0_0) transposes_S8x4_S4x8_1_0 : S4x8.Idx → EReal) (ix2 r q) = _
    pointwise

/-! ## Point by point -/

theorem half_at (t : Fin cfg0.N) (r : Fin 4) (k : Fin 2048) : half (iblk m c 0 t) (iblk m c 1 t) (iblk m c 2 t) r k = halves (argZ m c) (argG m c) (argB m c) (pt t) r k := by
  unfold half halves
  rw [show (fun j : Fin 2048 => (iblk m c 0 t : Vec Ideal S1x4x4096 .f32) (ix3 0 r ⟨2048 + j.val, by omega⟩)) = fun j => argZ m c (ix3 (pt t) r ⟨2048 + j.val, by omega⟩) from funext fun j => rows_at m c t r _,
    show (fun j : Fin 2048 => (iblk m c 1 t : Vec Ideal S1x2048 .f32) (ix2 0 j)) = fun j => argG m c (ix1 j) from funext fun j => gains_at m c t j,
    show (fun j : Fin 2048 => (iblk m c 2 t : Vec Ideal S1x2048 .f32) (ix2 0 j)) = fun j => argB m c (ix1 j) from funext fun j => shifts_at m c t j]

theorem gated_at (t : Fin cfg0.N) (r : Fin 4) (k : Fin 2048) : gated (iblk m c 0 t) (iblk m c 1 t) (iblk m c 2 t) (iblk m c 3 t) (iblk m c 4 t) r k
    = gates (argZ m c) (argG m c) (argB m c) (argW m c) (argD m c) (pt t) r k := by
  unfold gated gates cell
  refine congrArg₂ (· * ·) (rows_at m c t r _) (congrArg₂ (· + ·) (Finset.sum_congr rfl fun s _ => congrArg₂ (· * ·) ?_ (half_at m c t s k)) (bias_at m c t r _))
  exact congrArg (keep r s) (mix_at m c t _ r s)

theorem flushed6_eq (t : Fin cfg0.N) : (dats m 0 c).flushed 6 t = ((cfg0.win 6).blk t).view.read (Elt Ideal) (resV (argZ m c) (argG m c) (argB m c) : S8x4x2048.Idx → EReal) := by
  rw [flushed6]
  funext y
  have hy0 : (y 0).val < 1 := (y 0).isLt
  have hy1 : (y 1).val < 4 := (y 1).isLt
  have hy2 : (y 2).val < 2048 := (y 2).isLt
  have hx : (cfg0.win 6).xinj (grid0.coords t) y = ix3 (0 : Fin 1) (⟨(y 1).val, hy1⟩ : Fin 4) (⟨(y 2).val, hy2⟩ : Fin 2048) := funext fun a => Fin.ext (by
    match a with | ⟨0, _⟩ => show (y 0).val = 0; omega | ⟨1, _⟩ => rfl | ⟨2, _⟩ => rfl)
  have he : ((cfg0.win 6).blk t).view.emb y = ix3 (pt t) (⟨(y 1).val, hy1⟩ : Fin 4) (⟨(y 2).val, hy2⟩ : Fin 2048) := funext fun a => Fin.ext (by
    match a with
    | ⟨0, _⟩ => show win0_6.index t (0 : Fin 3) * 1 + 1 * (y 0).val = t.val; rw [at6]; show t.val * 1 + 1 * (y 0).val = _; omega
    | ⟨1, _⟩ => show win0_6.index t (1 : Fin 3) * 4 + 1 * (y 1).val = (y 1).val; rw [at6]; show 0 * 4 + 1 * (y 1).val = _; omega
    | ⟨2, _⟩ => show win0_6.index t (2 : Fin 3) * 2048 + 1 * (y 2).val = (y 2).val; rw [at6]; show 0 * 2048 + 1 * (y 2).val = _; omega)
  show out0_6 (F := Ideal) (iblk m c 0 t) (iblk m c 1 t) (iblk m c 2 t) (iblk m c 3 t) (iblk m c 4 t) ((cfg0.win 6).xinj (grid0.coords t) y)
    = resV (argZ m c) (argG m c) (argB m c) (((cfg0.win 6).blk t).view.emb y)
  rw [hx, he, out6_at]
  exact half_at m c t _ _

theorem flushed5_eq (t : Fin cfg0.N) : (dats m 0 c).flushed 5 t = ((cfg0.win 5).blk t).view.read (Elt Ideal) (resA (argZ m c) (argG m c) (argB m c) (argW m c) (argD m c) : S8x4x2048.Idx → EReal) := by
  rw [flushed5]
  funext y
  have hy0 : (y 0).val < 1 := (y 0).isLt
  have hy1 : (y 1).val < 4 := (y 1).isLt
  have hy2 : (y 2).val < 2048 := (y 2).isLt
  have hx : (cfg0.win 5).xinj (grid0.coords t) y = ix3 (0 : Fin 1) (⟨(y 1).val, hy1⟩ : Fin 4) (⟨(y 2).val, hy2⟩ : Fin 2048) := funext fun a => Fin.ext (by
    match a with | ⟨0, _⟩ => show (y 0).val = 0; omega | ⟨1, _⟩ => rfl | ⟨2, _⟩ => rfl)
  have he : ((cfg0.win 5).blk t).view.emb y = ix3 (pt t) (⟨(y 1).val, hy1⟩ : Fin 4) (⟨(y 2).val, hy2⟩ : Fin 2048) := funext fun a => Fin.ext (by
    match a with
    | ⟨0, _⟩ => show win0_5.index t (0 : Fin 3) * 1 + 1 * (y 0).val = t.val; rw [at5]; show t.val * 1 + 1 * (y 0).val = _; omega
    | ⟨1, _⟩ => show win0_5.index t (1 : Fin 3) * 4 + 1 * (y 1).val = (y 1).val; rw [at5]; show 0 * 4 + 1 * (y 1).val = _; omega
    | ⟨2, _⟩ => show win0_5.index t (2 : Fin 3) * 2048 + 1 * (y 2).val = (y 2).val; rw [at5]; show 0 * 2048 + 1 * (y 2).val = _; omega)
  show out0_5 (F := Ideal) (iblk m c 0 t) (iblk m c 1 t) (iblk m c 2 t) (iblk m c 3 t) (iblk m c 4 t) ((cfg0.win 5).xinj (grid0.coords t) y)
    = resA (argZ m c) (argG m c) (argB m c) (argW m c) (argD m c) (((cfg0.win 5).blk t).view.emb y)
  rw [hx, he, out5_at]
  exact gated_at m c t _ _

/-- The two arrays that the call returns. -/
theorem array6_eq : (dats m 0 c).arrAt 6 cfg0.N = (resV (argZ m c) (argG m c) (argB m c) : S8x4x2048.Idx → EReal) :=
  (dats m 0 c).arrAt_eq_of_cover 6 _ (fun t _ => flushed6_eq m c t) (fun i => by
    have h0 : (i 0).val < 8 := (i 0).isLt
    have h1 : (i 1).val < 4 := (i 1).isLt
    have h2 : (i 2).val < 2048 := (i 2).isLt
    have hN : cfg0.N = 8 := N_0
    have ht : (i 0).val < cfg0.N := by omega
    refine ⟨⟨_, ht⟩, flushes6 _, ?_⟩
    show i ∈ ((View.whole main_v5_1).slice (win0_6.rect ⟨_, ht⟩)).set
    rw [View.set_slice_whole, Rect.mem_set_unit]
    intro a
    have e := at6 ⟨_, ht⟩
    match a with
    | ⟨0, _⟩ =>
      have e0 : win0_6.index ⟨_, ht⟩ (0 : Fin 3) = (i 0).val := congrFun e 0
      show win0_6.index _ (0 : Fin 3) * 1 ≤ (i 0).val ∧ (i 0).val < win0_6.index _ (0 : Fin 3) * 1 + 1; rw [e0]; omega
    | ⟨1, _⟩ =>
      have e1 : win0_6.index ⟨_, ht⟩ (1 : Fin 3) = 0 := congrFun e 1
      show win0_6.index _ (1 : Fin 3) * 4 ≤ (i 1).val ∧ (i 1).val < win0_6.index _ (1 : Fin 3) * 4 + 4; rw [e1]; omega
    | ⟨2, _⟩ =>
      have e2 : win0_6.index ⟨_, ht⟩ (2 : Fin 3) = 0 := congrFun e 2
      show win0_6.index _ (2 : Fin 3) * 2048 ≤ (i 2).val ∧ (i 2).val < win0_6.index _ (2 : Fin 3) * 2048 + 2048; rw [e2]; omega)

theorem array5_eq : (dats m 0 c).arrAt 5 cfg0.N = (resA (argZ m c) (argG m c) (argB m c) (argW m c) (argD m c) : S8x4x2048.Idx → EReal) :=
  (dats m 0 c).arrAt_eq_of_cover 5 _ (fun t _ => flushed5_eq m c t) (fun i => by
    have h0 : (i 0).val < 8 := (i 0).isLt
    have h1 : (i 1).val < 4 := (i 1).isLt
    have h2 : (i 2).val < 2048 := (i 2).isLt
    have hN : cfg0.N = 8 := N_0
    have ht : (i 0).val < cfg0.N := by omega
    refine ⟨⟨_, ht⟩, flushes5 _, ?_⟩
    show i ∈ ((View.whole main_v5_0).slice (win0_5.rect ⟨_, ht⟩)).set
    rw [View.set_slice_whole, Rect.mem_set_unit]
    intro a
    have e := at5 ⟨_, ht⟩
    match a with
    | ⟨0, _⟩ =>
      have e0 : win0_5.index ⟨_, ht⟩ (0 : Fin 3) = (i 0).val := congrFun e 0
      show win0_5.index _ (0 : Fin 3) * 1 ≤ (i 0).val ∧ (i 0).val < win0_5.index _ (0 : Fin 3) * 1 + 1; rw [e0]; omega
    | ⟨1, _⟩ =>
      have e1 : win0_5.index ⟨_, ht⟩ (1 : Fin 3) = 0 := congrFun e 1
      show win0_5.index _ (1 : Fin 3) * 4 ≤ (i 1).val ∧ (i 1).val < win0_5.index _ (1 : Fin 3) * 4 + 4; rw [e1]; omega
    | ⟨2, _⟩ =>
      have e2 : win0_5.index ⟨_, ht⟩ (2 : Fin 3) = 0 := congrFun e 2
      show win0_5.index _ (2 : Fin 3) * 2048 ≤ (i 2).val ∧ (i 2).val < win0_5.index _ (2 : Fin 3) * 2048 + 2048; rw [e2]; omega)

end Cert.Proof.GS

end
-- ==== Proof.lean ====
/-
  The claims, assembled: the frames of the kernel as printed, of the kernel idealized and of the reference; that the
  idealized kernel is the printed one but for its named constant; and that kernel and reference compute the same.
-/
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.K.Run
public import proofs.«01_k».proof.Proof.KI.Run
public import proofs.«01_k».proof.Proof.KI.Array
public import proofs.«01_k».proof.Proof.Finite
public import proofs.«01_k».proof.Proof.FF.Ref
public import proofs.«01_k».proof.Proof.FN.Norm
public import proofs.«01_k».proof.Proof.MR.Res
public import proofs.«01_k».proof.Proof.GP.Array
public import proofs.«01_k».proof.Proof.FS.Norm
public import proofs.«01_k».proof.Proof.GS.Array
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs to its end, leaves its four argument arrays as they were, and no semaphore is left raised. -/
theorem refFrame : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

/-- The attention of four arrays, each entry taken as a real number. -/
def attnOf (q k v : (⟨3, ![2, 4096, 2048]⟩ : Shape).Idx → EReal) (s : (⟨1, ![16]⟩ : Shape).Idx → EReal) : (⟨3, ![2, 4096, 2048]⟩ : Shape).Idx → EReal :=
  KI.attnArr (fun i => (q i).toReal) (fun i => (k i).toReal) (fun i => (v i).toReal) (fun i => (s i).toReal)

/-- The reference's result is the attention of its arguments, where they are reals. -/
theorem ref_eq (q k v : (⟨3, ![2, 4096, 2048]⟩ : Shape).Idx → EReal) (s : (⟨1, ![16]⟩ : Shape).Idx → EReal)
    (hq : ∀ i, (((q i).toReal : ℝ) : EReal) = q i) (hk : ∀ i, (((k i).toReal : ℝ) : EReal) = k i) (hv : ∀ i, (((v i).toReal : ℝ) : EReal) = v i) (hs : ∀ i, (((s i).toReal : ℝ) : EReal) = s i) :
    Cert.ReferenceIdeal.Read.val_main_v142 (F := Ideal) q k v s = attnOf q k v s := by
  have e := KI.reference_eq (fun i => (q i).toReal) (fun i => (k i).toReal) (fun i => (v i).toReal) (fun i => (s i).toReal)
  rw [show RI.up (fun i => (q i).toReal) = q from funext hq, show RI.up (fun i => (k i).toReal) = k from funext hk,
    show RI.up (fun i => (v i).toReal) = v from funext hv, show RI.upS (fun i => (s i).toReal) = s from funext hs] at e
  exact e

/-- A function of four equal arguments. -/
theorem same4 {A B C D E : Type} (f : A → B → C → D → E) {a a' : A} {b b' : B} {c c' : C} {d d' : D} (ha : a = a') (hb : b = b') (hc : c = c') (hd : d = d') : f a b c d = f a' b' c' d' := by
  subst ha hb hc hd; rfl

/-- Kernel and reference compute the same, where the arguments' entries are reals. -/
theorem agree : Cert.algebraic_KernelIdeal_ReferenceIdeal_pre_finite (hKernelIdeal := Cert.KernelIdeal.Gen.facts) (hReferenceIdeal := Cert.ReferenceIdeal.Gen.facts) (hPre_finite := Finite.facts) := by
  intro m g m' g' hpre hag
  have hp := fun c => @Finite.of_pre Finite.facts _ _ _ _ (hpre c)
  refine ⟨fun c => attnOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run (Cert.KernelIdeal.defs (F := Ideal)) _ _).mono (fun r h c => ⟨?_, (h.2.1 c)⟩) (θ_run_and (KI.run_main m g) (KI.frame_quiescent m g))
    obtain ⟨hq, hk, hv, hs⟩ := hp c
    exact ((h.1.out_eq c 4).trans (KI.array_eq _ _ _ _ m c (funext fun i => (hq i).symm) (funext fun i => (hk i).symm) (funext fun i => (hv i).symm) (funext fun i => (hs i).symm)))
  · refine (θ_run (Cert.ReferenceIdeal.defs (F := Ideal)) _ _).mono (fun r h c => ⟨(h c).1.trans ?_, (h c).2⟩) (Cert.ReferenceIdeal.Value.run m' g')
    obtain ⟨hq, hk, hv, hs⟩ := hp c
    obtain ⟨a0, a1, a2, a3⟩ := hag c
    exact (Cert.ReferenceIdeal.Read.val_main_v142_eq (StableHlo.launchContents m' c)).trans ((same4 _ a0 a1 a2 a3).trans (ref_eq _ _ _ _ hq hk hv hs))

/-- The feed-forward reference runs to its end, leaves its four argument arrays as they were, and no semaphore is left raised. -/
theorem refFrame2 : Cert.quiescent_Reference2Ideal (hReference2Ideal := Cert.Reference2Ideal.Gen.facts) := fun m g _ =>
  (θ_run (Cert.Reference2Ideal.defs (F := Ideal)) _ _).mono
    (fun r h => ⟨fun c => (h c).2, sem_eq_zero_of_no_sems (by decide) r.2⟩) (Cert.Reference2Ideal.Value.run m g)

/-- The feed-forward kernel and its reference compute the same. -/
theorem agree2 : Cert.algebraic_Kernel2Ideal_Reference2Ideal (hKernel2Ideal := Cert.Kernel2Ideal.Gen.facts) (hReference2Ideal := Cert.Reference2Ideal.Gen.facts) := by
  intro m g m' g' _ hag
  refine ⟨fun c => FF.ffn (FF.argX m c) (FF.argG m c) (FF.argU m c) (FF.argD m c), ?_, ?_⟩
  · exact (θ_run (Cert.Kernel2Ideal.defs (F := Ideal)) _ _).mono (fun r h c => ⟨(h c).1.trans (FF.array_eq m c), (h c).2⟩) (Cert.Kernel2Ideal.Value.run m g)
  · refine (θ_run (Cert.Reference2Ideal.defs (F := Ideal)) _ _).mono (fun r h c => ⟨(h c).1.trans ?_, (h c).2⟩) (Cert.Reference2Ideal.Value.run m' g')
    obtain ⟨a0, a1, a2, a3⟩ := hag c
    exact (Cert.Reference2Ideal.Read.val_main_v22_eq _ _ _ _).trans ((same4 _ a0 a1 a2 a3).trans (FF.ref_eq _ _ _ _))

/-- The last norm's reference runs to its end, leaves its two argument arrays as they were, and no semaphore is left raised. -/
theorem refFrame3 : Cert.quiescent_Reference3Ideal (hReference3Ideal := Cert.Reference3Ideal.Gen.facts) := fun m g _ =>
  (θ_run (Cert.Reference3Ideal.defs (F := Ideal)) _ _).mono
    (fun r h => ⟨fun c => (h c).2, sem_eq_zero_of_no_sems (by decide) r.2⟩) (Cert.Reference3Ideal.Value.run m g)

/-- The last norm's kernel and its reference compute the same. -/
theorem agree3 : Cert.algebraic_Kernel3Ideal_Reference3Ideal (hKernel3Ideal := Cert.Kernel3Ideal.Gen.facts) (hReference3Ideal := Cert.Reference3Ideal.Gen.facts) := by
  intro m g m' g' _ hag
  refine ⟨fun c => FN.norms (FN.argX m c) (FN.argG m c), ?_, ?_⟩
  · exact (θ_run (Cert.Kernel3Ideal.defs (F := Ideal)) _ _).mono (fun r h c => ⟨(h c).1.trans (FN.array_eq m c), (h c).2⟩) (Cert.Kernel3Ideal.Value.run_blocks m g)
  · refine (θ_run (Cert.Reference3Ideal.defs (F := Ideal)) _ _).mono (fun r h c => ⟨(h c).1.trans ?_, (h c).2⟩) (Cert.Reference3Ideal.Value.run m' g')
    obtain ⟨a0, a1⟩ := hag c
    exact (Cert.Reference3Ideal.Read.val_main_v12_eq _ _).trans ((same4 (fun x g (_ _ : Unit) => Cert.Reference3Ideal.Read.val_main_v12 (F := Ideal) x g) a0 a1 (rfl : () = ()) (rfl : () = ())).trans (FN.ref_eq _ _))

/-- The output projection's reference runs to its end, leaves its three argument arrays as they were, and no semaphore is left raised. -/
theorem refFrame4 : Cert.quiescent_Reference4Ideal (hReference4Ideal := Cert.Reference4Ideal.Gen.facts) := fun m g _ =>
  (θ_run (Cert.Reference4Ideal.defs (F := Ideal)) _ _).mono
    (fun r h => ⟨fun c => (h c).2, sem_eq_zero_of_no_sems (by decide) r.2⟩) (Cert.Reference4Ideal.Value.run m g)

/-- The output projection's kernel and its reference compute the same. -/
theorem agree4 : Cert.algebraic_Kernel4Ideal_Reference4Ideal (hKernel4Ideal := Cert.Kernel4Ideal.Gen.facts) (hReference4Ideal := Cert.Reference4Ideal.Gen.facts) := by
  intro m g m' g' _ hag
  refine ⟨fun c => MR.proj (MR.argA m c) (MR.argW m c) (MR.argX m c), ?_, ?_⟩
  · exact (θ_run (Cert.Kernel4Ideal.defs (F := Ideal)) _ _).mono (fun r h c => ⟨(h c).1.trans (MR.array_eq m c), (h c).2⟩) (Cert.Kernel4Ideal.Value.run_blocks m g)
  · refine (θ_run (Cert.Reference4Ideal.defs (F := Ideal)) _ _).mono (fun r h c => ⟨(h c).1.trans ?_, (h c).2⟩) (Cert.Reference4Ideal.Value.run m' g')
    obtain ⟨a0, a1, a2⟩ := hag c
    exact (Cert.Reference4Ideal.Read.val_main_v3_eq _ _ _).trans ((same4 (fun a w x (_ : Unit) => Cert.Reference4Ideal.Read.val_main_v3 (F := Ideal) a w x) a0 a1 a2 (rfl : () = ())).trans (MR.ref_eq _ _ _))

/-- The gating mixer's input projection's reference runs to its end, leaves its three argument arrays as they were, and no semaphore is left raised. -/
theorem refFrame5 : Cert.quiescent_Reference5Ideal (hReference5Ideal := Cert.Reference5Ideal.Gen.facts) := fun m g _ =>
  (θ_run (Cert.Reference5Ideal.defs (F := Ideal)) _ _).mono
    (fun r h => ⟨fun c => (h c).2, sem_eq_zero_of_no_sems (by decide) r.2⟩) (Cert.Reference5Ideal.Value.run m g)

/-- The gating mixer's input projection and its reference compute the same. -/
theorem agree5 : Cert.algebraic_Kernel5Ideal_Reference5Ideal (hKernel5Ideal := Cert.Kernel5Ideal.Gen.facts) (hReference5Ideal := Cert.Reference5Ideal.Gen.facts) := by
  intro m g m' g' _ hag
  refine ⟨fun c => GP.proj (GP.argX m c) (GP.argG m c) (GP.argU m c), ?_, ?_⟩
  · exact (θ_run (Cert.Kernel5Ideal.defs (F := Ideal)) _ _).mono (fun r h c => ⟨(h c).1.trans (GP.array_eq m c), (h c).2⟩) (Cert.Kernel5Ideal.Value.run m g)
  · refine (θ_run (Cert.Reference5Ideal.defs (F := Ideal)) _ _).mono (fun r h c => ⟨(h c).1.trans ?_, (h c).2⟩) (Cert.Reference5Ideal.Value.run m' g')
    obtain ⟨a0, a1, a2⟩ := hag c
    exact (Cert.Reference5Ideal.Read.val_main_v27_eq _ _).trans ((same4 (fun x g u (_ : Unit) => Cert.Reference5Ideal.Read.val_main_v27 (F := Ideal) x g u) a0 a1 a2 (rfl : () = ())).trans (GP.ref_eq _ _ _))

/-- The decode step's last norm's reference runs to its end, leaves its two argument arrays as they were, and no semaphore is left raised. -/
theorem refFrame6 : Cert.quiescent_Reference6Ideal (hReference6Ideal := Cert.Reference6Ideal.Gen.facts) := fun m g _ =>
  (θ_run (Cert.Reference6Ideal.defs (F := Ideal)) _ _).mono
    (fun r h => ⟨fun c => (h c).2, sem_eq_zero_of_no_sems (by decide) r.2⟩) (Cert.Reference6Ideal.Value.run m g)

/-- The decode step's last norm and its reference compute the same. -/
theorem agree6 : Cert.algebraic_Kernel6Ideal_Reference6Ideal (hKernel6Ideal := Cert.Kernel6Ideal.Gen.facts) (hReference6Ideal := Cert.Reference6Ideal.Gen.facts) := by
  intro m g m' g' _ hag
  refine ⟨fun c => FS.norms (FS.argX m c) (FS.argG m c), ?_, ?_⟩
  · exact (θ_run (Cert.Kernel6Ideal.defs (F := Ideal)) _ _).mono (fun r h c => ⟨(h c).1.trans (FS.array_eq m c), (h c).2⟩) (Cert.Kernel6Ideal.Value.run_blocks m g)
  · refine (θ_run (Cert.Reference6Ideal.defs (F := Ideal)) _ _).mono (fun r h c => ⟨(h c).1.trans ?_, (h c).2⟩) (Cert.Reference6Ideal.Value.run m' g')
    obtain ⟨a0, a1⟩ := hag c
    exact (Cert.Reference6Ideal.Read.val_main_v12_eq _ _).trans ((same4 (fun x g (_ _ : Unit) => Cert.Reference6Ideal.Read.val_main_v12 (F := Ideal) x g) a0 a1 (rfl : () = ()) (rfl : () = ())).trans (FS.ref_eq _ _))

/-- The decode step's spatial gating's reference runs to its end, leaves its five argument arrays as they were, and no semaphore is left raised. -/
theorem refFrame8 : Cert.quiescent_Reference8Ideal (hReference8Ideal := Cert.Reference8Ideal.Gen.facts) := fun m g _ =>
  (θ_run (Cert.Reference8Ideal.defs (F := Ideal)) _ _).mono
    (fun r h => ⟨fun c => (h c).2.2, sem_eq_zero_of_no_sems (by decide) r.2⟩) (Cert.Reference8Ideal.Value.run m g)

/-- The same function at the same five arguments. -/
theorem same5 {A B C D H E : Type} (f : A → B → C → D → H → E) {a a' : A} {b b' : B} {c c' : C} {d d' : D} {h h' : H} (ha : a = a') (hb : b = b') (hc : c = c') (hd : d = d') (hh : h = h') :
    f a b c d h = f a' b' c' d' h' := by
  subst ha hb hc hd hh; rfl

/-- The decode step's spatial gating and its reference compute the same two arrays. -/
theorem agree8 : Cert.algebraic_Kernel8Ideal_Reference8Ideal (hKernel8Ideal := Cert.Kernel8Ideal.Gen.facts) (hReference8Ideal := Cert.Reference8Ideal.Gen.facts) := by
  intro m g m' g' _ hag
  refine ⟨fun c => GS.resA (GS.argZ m c) (GS.argG m c) (GS.argB m c) (GS.argW m c) (GS.argD m c), fun c => GS.resV (GS.argZ m c) (GS.argG m c) (GS.argB m c), ?_, ?_⟩
  · exact (θ_run (Cert.Kernel8Ideal.defs (F := Ideal)) _ _).mono (fun r h c => ⟨(h c).1.trans (GS.array5_eq m c), (h c).2.1.trans (GS.array6_eq m c), (h c).2.2⟩) (GS.run_arrays m g)
  · refine (θ_run (Cert.Reference8Ideal.defs (F := Ideal)) _ _).mono (fun r h c => ⟨(h c).1.trans ?_, (h c).2.1.trans ?_, (h c).2.2⟩) (Cert.Reference8Ideal.Value.run m' g')
    · obtain ⟨a0, a1, a2, a3, a4⟩ := hag c
      exact (Cert.Reference8Ideal.Read.val_main_v37_eq _ _ _ _ _).trans ((same5 (fun z g b w d => Cert.Reference8Ideal.Read.val_main_v37 (F := Ideal) z g b w d) a0 a1 a2 a3 a4).trans (GS.ref_a_eq _ _ _ _ _))
    · obtain ⟨a0, a1, a2, a3, a4⟩ := hag c
      exact (Cert.Reference8Ideal.Read.val_main_v23_eq _ _ _).trans ((same4 (fun z g b (_ : Unit) => Cert.Reference8Ideal.Read.val_main_v23 (F := Ideal) z g b) a0 a1 a2 (rfl : () = ())).trans (GS.ref_v_eq _ _ _))

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel8.Gen.facts, Cert.Kernel8Ideal.Gen.facts, Cert.Reference8Ideal.Gen.facts, Finite.facts,
  fun m g _ => K.frame_quiescent m g,
  fun m g _ => KI.frame_quiescent m g,
  fun m g _ => KI.frame_quiescent m g,
  refFrame,
  fun m g _ => refFrame m g trivial,
  fun m g _ => Cert.Kernel2.Gen.frame m g,
  fun m g _ => Cert.Kernel2Ideal.Gen.frame m g,
  refFrame2,
  fun m g _ => Cert.Kernel3.Gen.frame m g,
  fun m g _ => Cert.Kernel3Ideal.Gen.frame m g,
  refFrame3,
  fun m g _ => Cert.Kernel4.Gen.frame m g,
  fun m g _ => Cert.Kernel4Ideal.Gen.frame m g,
  refFrame4,
  fun m g _ => Cert.Kernel5.Gen.frame m g,
  fun m g _ => Cert.Kernel5Ideal.Gen.frame m g,
  refFrame5,
  fun m g _ => Cert.Kernel6.Gen.frame m g,
  fun m g _ => Cert.Kernel6Ideal.Gen.frame m g,
  refFrame6,
  fun m g _ => Cert.Kernel8.Gen.frame m g,
  fun m g _ => Cert.Kernel8Ideal.Gen.frame m g,
  refFrame8,
  IdealRules.named_const.statement Cert.KernelIdeal.κ "mask" .f32 0xF149F2CA#32 ⊥ rfl,
  agree,
  trivial,
  agree2,
  trivial,
  agree3,
  trivial,
  agree4,
  trivial,
  agree5,
  trivial,
  agree6,
  trivial,
  agree8⟩

end Cert.Proof

end
